-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![1, 8192, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![1, 8192, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1x2048x8x128 : S_.BroadcastsInDim S1x2048x8x128 (![] : Fin 0 → Fin S1x2048x8x128.rank)

variable [Facts]

def fn {F : FTy → Type} [FloatOps F] (main_arg0 : FVec F S1x2048x1024 .f32) (main_arg1 : FVec F S1024x1024 .f32) (main_arg2 : FVec F S1x2048x8x128 .f32) (main_arg3 : FVec F S1x2048x8x128 .f32) (main_arg4 : FVec F S1024x1024 .f32) : IVec S1x2048x1024 1 × IVec S1024x1024 1 × IVec S1x2048x8x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x2048x8x128 .f32 := Host.absf main_arg2
  let main_cst_1 : FVec F S_ .f32 := constant S_ .f32 0x7F800000#32
  let main_v7 : FVec F S1x2048x8x128 .f32 := broadcastInDim S1x2048x8x128 ![] bcast_S_S1x2048x8x128 main_cst_1
  let main_v8 : IVec S1x2048x8x128 1 := cmpf .olt main_v6 main_v7
  (main_v2, main_v5, main_v8)
-- ==== Pre_finite_ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x8192x1024 : S_.BroadcastsInDim S1x8192x1024 (![] : Fin 0 → Fin S1x8192x1024.rank)
  bcast_S_S1024x1024 : S_.BroadcastsInDim S1024x1024 (![] : Fin 0 → Fin S1024x1024.rank)
  bcast_S_S1x8192x8x128 : S_.BroadcastsInDim S1x8192x8x128 (![] : Fin 0 → Fin S1x8192x8x128.rank)

variable [Facts]

def fn {F : FTy → Type} [FloatOps F] (main_arg0 : FVec F S1x8192x1024 .f32) (main_arg1 : FVec F S1024x1024 .f32) (main_arg2 : FVec F S1x8192x8x128 .f32) (main_arg3 : FVec F S1x8192x8x128 .f32) (main_arg4 : FVec F S1024x1024 .f32) : IVec S1x8192x1024 1 × IVec S1024x1024 1 × IVec S1x8192x8x128 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x8192x8x128 .f32 := Host.absf main_arg2
  let main_cst_1 : FVec F S_ .f32 := constant S_ .f32 0x7F800000#32
  let main_v7 : FVec F S1x8192x8x128 .f32 := broadcastInDim S1x8192x8x128 ![] bcast_S_S1x8192x8x128 main_cst_1
  let main_v8 : IVec S1x8192x8x128 1 := cmpf .olt main_v6 main_v7
  (main_v2, main_v5, main_v8)
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2336x8x128 : Shape := ⟨3, ![2336, 8, 128]⟩
abbrev S2048x1024 : Shape := ⟨2, ![2048, 1024]⟩
abbrev S32x1024 : Shape := ⟨2, ![32, 1024]⟩
abbrev S32x1040 : Shape := ⟨2, ![32, 1040]⟩
abbrev S3x32x1040 : Shape := ⟨3, ![3, 32, 1040]⟩
abbrev S16 : Shape := ⟨1, ![16]⟩
abbrev S10 : Shape := ⟨1, ![10]⟩
abbrev S4 : Shape := ⟨1, ![4]⟩
abbrev S_ : Shape := ⟨0, ![]⟩
abbrev S1 : Shape := ⟨1, ![1]⟩
abbrev S128x8x128 : Shape := ⟨3, ![128, 8, 128]⟩
abbrev S1x128x8x128 : Shape := ⟨4, ![1, 128, 8, 128]⟩
abbrev S32x8x128 : Shape := ⟨3, ![32, 8, 128]⟩
abbrev S1x32x8x128 : Shape := ⟨4, ![1, 32, 8, 128]⟩
abbrev S2048x8x128 : Shape := ⟨3, ![2048, 8, 128]⟩
abbrev S32x128 : Shape := ⟨2, ![32, 128]⟩
abbrev S2048x1x128 : Shape := ⟨3, ![2048, 1, 128]⟩
abbrev S2048x128 : Shape := ⟨2, ![2048, 128]⟩
abbrev S32x2048 : Shape := ⟨2, ![32, 2048]⟩
abbrev S32 : Shape := ⟨1, ![32]⟩
abbrev S32x1 : Shape := ⟨2, ![32, 1]⟩
abbrev S1x32x1040 : Shape := ⟨3, ![1, 32, 1040]⟩
abbrev S256x512 : Shape := ⟨2, ![256, 512]⟩
abbrev S256x128 : Shape := ⟨2, ![256, 128]⟩
abbrev S512x1x128 : Shape := ⟨3, ![512, 1, 128]⟩
abbrev S512x128 : Shape := ⟨2, ![512, 128]⟩
abbrev S32x1x128 : Shape := ⟨3, ![32, 1, 128]⟩
abbrev S256x32 : Shape := ⟨2, ![256, 32]⟩
abbrev S256 : Shape := ⟨1, ![256]⟩
abbrev S256x1 : Shape := ⟨2, ![256, 1]⟩
abbrev S1x256x128 : Shape := ⟨3, ![1, 256, 128]⟩
abbrev S1x32x1 : Shape := ⟨3, ![1, 32, 1]⟩
abbrev S1x32x128 : Shape := ⟨3, ![1, 32, 128]⟩

abbrev nBuf : Space → Nat
  | .hbm => 6
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x1024, .f32⟩
  | .local _ .vmem, ⟨4, _⟩ => ⟨S2336x8x128, .f32⟩
  | .local _ .vmem, ⟨5, _⟩ => ⟨S2336x8x128, .f32⟩
  | .local _ .vmem, ⟨6, _⟩ => ⟨S2048x1024, .f32⟩
  | .local _ .vmem, ⟨7, _⟩ => ⟨S32x1024, .f32⟩
  | .local _ .vmem, ⟨8, _⟩ => ⟨S32x1040, .f32⟩
  | .local _ .vmem, ⟨9, _⟩ => ⟨S3x32x1040, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => true
  | ⟨1, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_28 : BitVec 32 := 0#32
  let v43 : BitVec 1 := Scalar.cmpi .sgt v2 c0_i32_28
  let v44 : BitVec 32 := Scalar.extui v43
  let c0_i32_29 : BitVec 32 := 0#32
  let v45 : BitVec 1 := Scalar.cmpi .ne v44 c0_i32_29
  v45

def k0_dev4 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_275 : BitVec 32 := 1#32
  let v378 : BitVec 32 := Scalar.subi v2 c1_i32_275
  let c1_i32_279 : BitVec 32 := 1#32
  let v379 : BitVec 32 := Scalar.muli v378 c1_i32_279
  let v380 : BitVec 32 := Scalar.addi c0_i32_280 v379
  v380.toNat
def k0_dev5 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_286 : BitVec 32 := 1#32
  let v388 : BitVec 32 := Scalar.subi v2 c1_i32_286
  let c1_i32_290 : BitVec 32 := 1#32
  let v389 : BitVec 32 := Scalar.muli v388 c1_i32_290
  let v390 : BitVec 32 := Scalar.addi c0_i32_291 v389
  v390.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_30 : BitVec 32 := 3#32
  let v46 : BitVec 1 := Scalar.cmpi .slt v2 c3_i32_30
  let v47 : BitVec 32 := Scalar.extui v46
  let c0_i32_31 : BitVec 32 := 0#32
  let v48 : BitVec 1 := Scalar.cmpi .ne v47 c0_i32_31
  v48

def k0_dev6 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_275 : BitVec 32 := 1#32
  let v378 : BitVec 32 := Scalar.addi v2 c1_i32_275
  let c1_i32_279 : BitVec 32 := 1#32
  let v379 : BitVec 32 := Scalar.muli v378 c1_i32_279
  let v380 : BitVec 32 := Scalar.addi c0_i32_280 v379
  v380.toNat
def k0_dev7 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_285 : BitVec 32 := 1#32
  let v388 : BitVec 32 := Scalar.addi v2 c1_i32_285
  let c1_i32_289 : BitVec 32 := 1#32
  let v389 : BitVec 32 := Scalar.muli v388 c1_i32_289
  let v390 : BitVec 32 := Scalar.addi c0_i32_290 v389
  v390.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_32 : BitVec 32 := 0#32
  let v49 : BitVec 1 := Scalar.cmpi .eq v2 c0_i32_32
  let v50 : BitVec 32 := Scalar.extui v49
  let c0_i32_33 : BitVec 32 := 0#32
  let v51 : BitVec 1 := Scalar.cmpi .ne v50 c0_i32_33
  v51

def k0_dev8 : Nat :=
  let c0_i32_280 : BitVec 32 := 0#32
  let c1_i32_278 : BitVec 32 := 1#32
  let c1_i32_279 : BitVec 32 := 1#32
  let v378 : BitVec 32 := Scalar.muli c1_i32_278 c1_i32_279
  let v379 : BitVec 32 := Scalar.addi c0_i32_280 v378
  v379.toNat
def k0_dev9 : Nat :=
  let c0_i32_290 : BitVec 32 := 0#32
  let c1_i32_288 : BitVec 32 := 1#32
  let c1_i32_289 : BitVec 32 := 1#32
  let v387 : BitVec 32 := Scalar.muli c1_i32_288 c1_i32_289
  let v388 : BitVec 32 := Scalar.addi c0_i32_290 v387
  v388.toNat
def k0_dev10 : Nat :=
  let c0_i32_302 : BitVec 32 := 0#32
  let c2_i32_300 : BitVec 32 := 2#32
  let c1_i32_301 : BitVec 32 := 1#32
  let v396 : BitVec 32 := Scalar.muli c2_i32_300 c1_i32_301
  let v397 : BitVec 32 := Scalar.addi c0_i32_302 v396
  v397.toNat
def k0_dev11 : Nat :=
  let c0_i32_314 : BitVec 32 := 0#32
  let c2_i32_312 : BitVec 32 := 2#32
  let c1_i32_313 : BitVec 32 := 1#32
  let v405 : BitVec 32 := Scalar.muli c2_i32_312 c1_i32_313
  let v406 : BitVec 32 := Scalar.addi c0_i32_314 v405
  v406.toNat
def k0_dev12 : Nat :=
  let c0_i32_325 : BitVec 32 := 0#32
  let c3_i32_323 : BitVec 32 := 3#32
  let c1_i32_324 : BitVec 32 := 1#32
  let v414 : BitVec 32 := Scalar.muli c3_i32_323 c1_i32_324
  let v415 : BitVec 32 := Scalar.addi c0_i32_325 v414
  v415.toNat
def k0_dev13 : Nat :=
  let c0_i32_336 : BitVec 32 := 0#32
  let c3_i32_334 : BitVec 32 := 3#32
  let c1_i32_335 : BitVec 32 := 1#32
  let v423 : BitVec 32 := Scalar.muli c3_i32_334 c1_i32_335
  let v424 : BitVec 32 := Scalar.addi c0_i32_336 v423
  v424.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_57 : BitVec 32 := 0#32
  let v73 : BitVec 1 := Scalar.cmpi .eq v2 c0_i32_57
  let v74 : BitVec 32 := Scalar.extui v73
  let c0_i32_58 : BitVec 32 := 0#32
  let v75 : BitVec 1 := Scalar.cmpi .ne v74 c0_i32_58
  v75

def k0_dev14 : Nat :=
  let c0_i32_277 : BitVec 32 := 0#32
  let c1_i32_275 : BitVec 32 := 1#32
  let c1_i32_276 : BitVec 32 := 1#32
  let v378 : BitVec 32 := Scalar.muli c1_i32_275 c1_i32_276
  let v379 : BitVec 32 := Scalar.addi c0_i32_277 v378
  v379.toNat
def k0_dev15 : Nat :=
  let c0_i32_283 : BitVec 32 := 0#32
  let c2_i32_281 : BitVec 32 := 2#32
  let c1_i32_282 : BitVec 32 := 1#32
  let v385 : BitVec 32 := Scalar.muli c2_i32_281 c1_i32_282
  let v386 : BitVec 32 := Scalar.addi c0_i32_283 v385
  v386.toNat
def k0_dev16 : Nat :=
  let c0_i32_289 : BitVec 32 := 0#32
  let c3_i32_287 : BitVec 32 := 3#32
  let c1_i32_288 : BitVec 32 := 1#32
  let v392 : BitVec 32 := Scalar.muli c3_i32_287 c1_i32_288
  let v393 : BitVec 32 := Scalar.addi c0_i32_289 v392
  v393.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_217 : BitVec 32 := 1#32
  let v309 : BitVec 1 := Scalar.cmpi .eq v2 c1_i32_217
  let v310 : BitVec 32 := Scalar.extui v309
  let c0_i32_218 : BitVec 32 := 0#32
  let v311 : BitVec 1 := Scalar.cmpi .ne v310 c0_i32_218
  v311

def k0_dev17 : Nat :=
  let c0_i32_278 : BitVec 32 := 0#32
  let c0_i32_276 : BitVec 32 := 0#32
  let c1_i32_277 : BitVec 32 := 1#32
  let v378 : BitVec 32 := Scalar.muli c0_i32_276 c1_i32_277
  let v379 : BitVec 32 := Scalar.addi c0_i32_278 v378
  v379.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_219 : BitVec 32 := 2#32
  let v312 : BitVec 1 := Scalar.cmpi .eq v2 c2_i32_219
  let v313 : BitVec 32 := Scalar.extui v312
  let c0_i32_220 : BitVec 32 := 0#32
  let v314 : BitVec 1 := Scalar.cmpi .ne v313 c0_i32_220
  v314

def k0_dev18 : Nat :=
  let c0_i32_279 : BitVec 32 := 0#32
  let c0_i32_277 : BitVec 32 := 0#32
  let c1_i32_278 : BitVec 32 := 1#32
  let v378 : BitVec 32 := Scalar.muli c0_i32_277 c1_i32_278
  let v379 : BitVec 32 := Scalar.addi c0_i32_279 v378
  v379.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_221 : BitVec 32 := 3#32
  let v315 : BitVec 1 := Scalar.cmpi .eq v2 c3_i32_221
  let v316 : BitVec 32 := Scalar.extui v315
  let c0_i32_222 : BitVec 32 := 0#32
  let v317 : BitVec 1 := Scalar.cmpi .ne v316 c0_i32_222
  v317

def k0_dev19 : Nat :=
  let c0_i32_278 : BitVec 32 := 0#32
  let c0_i32_276 : BitVec 32 := 0#32
  let c1_i32_277 : BitVec 32 := 1#32
  let v378 : BitVec 32 := Scalar.muli c0_i32_276 c1_i32_277
  let v379 : BitVec 32 := Scalar.addi c0_i32_278 v378
  v379.toNat
@[reducible] def k0_t1_loop : Scf.Loop 32 :=
  let c0_i32_223 : BitVec 32 := 0#32
  let c8_i32 : BitVec 32 := 8#32
  let v318 : BitVec 32 := Scalar.addi c0_i32_223 c8_i32
  let c1_i32_224 : BitVec 32 := 1#32
  ⟨c0_i32_223, v318, c1_i32_224⟩
def k0_off1 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v407 : Index := Scalar.indexCast v378
  let c0_283 : Index := 0#32
  ![v407.toNat, 0]
def k0_off2 (k0_t1 : Fin k0_t1_loop.trips) : Fin 3 → Nat :=
  let c32_i32_284 : BitVec 32 := 32#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v409 : BitVec 32 := Scalar.addi c32_i32_284 v378
  let v410 : Index := Scalar.indexCast v409
  let c0_285 : Index := 0#32
  let c0_286 : Index := 0#32
  ![v410.toNat, 0, 0]
def k0_off3 (k0_t1 : Fin k0_t1_loop.trips) : Fin 3 → Nat :=
  let c0_304 : Index := 0#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v442 : Index := Scalar.indexCast v378
  let c0_305 : Index := 0#32
  ![0, v442.toNat, 0]
def k0_off4 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v446 : Index := Scalar.indexCast v378
  let c128_306 : Index := 128#32
  ![v446.toNat, 128]
def k0_off5 (k0_t1 : Fin k0_t1_loop.trips) : Fin 3 → Nat :=
  let c32_i32_307 : BitVec 32 := 32#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v448 : BitVec 32 := Scalar.addi c32_i32_307 v378
  let v449 : Index := Scalar.indexCast v448
  let c1_308 : Index := 1#32
  let c0_309 : Index := 0#32
  ![v449.toNat, 1, 0]
def k0_off6 (k0_t1 : Fin k0_t1_loop.trips) : Fin 3 → Nat :=
  let c0_327 : Index := 0#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v481 : Index := Scalar.indexCast v378
  let c128_328 : Index := 128#32
  ![0, v481.toNat, 128]
def k0_off7 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v485 : Index := Scalar.indexCast v378
  let c256_329 : Index := 256#32
  ![v485.toNat, 256]
def k0_off8 (k0_t1 : Fin k0_t1_loop.trips) : Fin 3 → Nat :=
  let c32_i32_330 : BitVec 32 := 32#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v487 : BitVec 32 := Scalar.addi c32_i32_330 v378
  let v488 : Index := Scalar.indexCast v487
  let c2_331 : Index := 2#32
  let c0_332 : Index := 0#32
  ![v488.toNat, 2, 0]
def k0_off9 (k0_t1 : Fin k0_t1_loop.trips) : Fin 3 → Nat :=
  let c0_350 : Index := 0#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v520 : Index := Scalar.indexCast v378
  let c256_351 : Index := 256#32
  ![0, v520.toNat, 256]
def k0_off10 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v524 : Index := Scalar.indexCast v378
  let c384_352 : Index := 384#32
  ![v524.toNat, 384]
def k0_off11 (k0_t1 : Fin k0_t1_loop.trips) : Fin 3 → Nat :=
  let c32_i32_353 : BitVec 32 := 32#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v526 : BitVec 32 := Scalar.addi c32_i32_353 v378
  let v527 : Index := Scalar.indexCast v526
  let c3_354 : Index := 3#32
  let c0_355 : Index := 0#32
  ![v527.toNat, 3, 0]
def k0_off12 (k0_t1 : Fin k0_t1_loop.trips) : Fin 3 → Nat :=
  let c0_373 : Index := 0#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v559 : Index := Scalar.indexCast v378
  let c384_374 : Index := 384#32
  ![0, v559.toNat, 384]
def k0_off13 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v563 : Index := Scalar.indexCast v378
  let c512_375 : Index := 512#32
  ![v563.toNat, 512]
def k0_off14 (k0_t1 : Fin k0_t1_loop.trips) : Fin 3 → Nat :=
  let c32_i32_376 : BitVec 32 := 32#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v565 : BitVec 32 := Scalar.addi c32_i32_376 v378
  let v566 : Index := Scalar.indexCast v565
  let c4_377 : Index := 4#32
  let c0_378 : Index := 0#32
  ![v566.toNat, 4, 0]
def k0_off15 (k0_t1 : Fin k0_t1_loop.trips) : Fin 3 → Nat :=
  let c0_396 : Index := 0#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v598 : Index := Scalar.indexCast v378
  let c512_397 : Index := 512#32
  ![0, v598.toNat, 512]
def k0_off16 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v602 : Index := Scalar.indexCast v378
  let c640_398 : Index := 640#32
  ![v602.toNat, 640]
def k0_off17 (k0_t1 : Fin k0_t1_loop.trips) : Fin 3 → Nat :=
  let c32_i32_399 : BitVec 32 := 32#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v604 : BitVec 32 := Scalar.addi c32_i32_399 v378
  let v605 : Index := Scalar.indexCast v604
  let c5_400 : Index := 5#32
  let c0_401 : Index := 0#32
  ![v605.toNat, 5, 0]
def k0_off18 (k0_t1 : Fin k0_t1_loop.trips) : Fin 3 → Nat :=
  let c0_419 : Index := 0#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v637 : Index := Scalar.indexCast v378
  let c640_420 : Index := 640#32
  ![0, v637.toNat, 640]
def k0_off19 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v641 : Index := Scalar.indexCast v378
  let c768_421 : Index := 768#32
  ![v641.toNat, 768]
def k0_off20 (k0_t1 : Fin k0_t1_loop.trips) : Fin 3 → Nat :=
  let c32_i32_422 : BitVec 32 := 32#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v643 : BitVec 32 := Scalar.addi c32_i32_422 v378
  let v644 : Index := Scalar.indexCast v643
  let c6_423 : Index := 6#32
  let c0_424 : Index := 0#32
  ![v644.toNat, 6, 0]
def k0_off21 (k0_t1 : Fin k0_t1_loop.trips) : Fin 3 → Nat :=
  let c0_442 : Index := 0#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v676 : Index := Scalar.indexCast v378
  let c768_443 : Index := 768#32
  ![0, v676.toNat, 768]
def k0_off22 (k0_t1 : Fin k0_t1_loop.trips) : Fin 2 → Nat :=
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v680 : Index := Scalar.indexCast v378
  let c896_444 : Index := 896#32
  ![v680.toNat, 896]
def k0_off23 (k0_t1 : Fin k0_t1_loop.trips) : Fin 3 → Nat :=
  let c32_i32_445 : BitVec 32 := 32#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v682 : BitVec 32 := Scalar.addi c32_i32_445 v378
  let v683 : Index := Scalar.indexCast v682
  let c7_446 : Index := 7#32
  let c0_447 : Index := 0#32
  ![v683.toNat, 7, 0]
def k0_off24 (k0_t1 : Fin k0_t1_loop.trips) : Fin 3 → Nat :=
  let c0_465 : Index := 0#32
  let c0_i32_223 : BitVec 32 := 0#32
  let c1_i32_224 : BitVec 32 := 1#32
  let arg16 : BitVec 32 := Scf.iv c0_i32_223 c1_i32_224 k0_t1
  let c256_i32 : BitVec 32 := 256#32
  let v378 : BitVec 32 := Scalar.muli arg16 c256_i32
  let v715 : Index := Scalar.indexCast v378
  let c896_466 : Index := 896#32
  ![0, v715.toNat, 896]
def k0_dev20 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_243 : BitVec 32 := 1#32
  let v339 : BitVec 32 := Scalar.addi v2 c1_i32_243
  let c4_i32_244 : BitVec 32 := 4#32
  let c0_i32_245 : BitVec 32 := 0#32
  let v340 : BitVec 1 := Scalar.cmpi .eq c4_i32_244 c0_i32_245
  let c1_i32_246 : BitVec 32 := 1#32
  let v341 : BitVec 32 := Scalar.select v340 c1_i32_246 c4_i32_244
  let v342 : BitVec 32 := Scalar.remsi v339 v341
  let c0_i32_248 : BitVec 32 := 0#32
  let v344 : BitVec 1 := Scalar.cmpi .slt v342 c0_i32_248
  let c0_i32_249 : BitVec 32 := 0#32
  let v345 : BitVec 1 := Scalar.cmpi .slt v341 c0_i32_249
  let v346 : BitVec 1 := Scalar.xori v344 v345
  let c0_i32_247 : BitVec 32 := 0#32
  let v343 : BitVec 1 := Scalar.cmpi .ne v342 c0_i32_247
  let v347 : BitVec 1 := Scalar.andi v346 v343
  let v348 : BitVec 32 := Scalar.addi v342 v341
  let v349 : BitVec 32 := Scalar.select v347 v348 v342
  let c1_i32_251 : BitVec 32 := 1#32
  let v350 : BitVec 32 := Scalar.muli v349 c1_i32_251
  let v351 : BitVec 32 := Scalar.addi c0_i32_252 v350
  v351.toNat
def k0_dev21 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_253 : BitVec 32 := 2#32
  let v352 : BitVec 32 := Scalar.addi v2 c2_i32_253
  let c4_i32_254 : BitVec 32 := 4#32
  let c0_i32_255 : BitVec 32 := 0#32
  let v353 : BitVec 1 := Scalar.cmpi .eq c4_i32_254 c0_i32_255
  let c1_i32_256 : BitVec 32 := 1#32
  let v354 : BitVec 32 := Scalar.select v353 c1_i32_256 c4_i32_254
  let v355 : BitVec 32 := Scalar.remsi v352 v354
  let c0_i32_258 : BitVec 32 := 0#32
  let v357 : BitVec 1 := Scalar.cmpi .slt v355 c0_i32_258
  let c0_i32_259 : BitVec 32 := 0#32
  let v358 : BitVec 1 := Scalar.cmpi .slt v354 c0_i32_259
  let v359 : BitVec 1 := Scalar.xori v357 v358
  let c0_i32_257 : BitVec 32 := 0#32
  let v356 : BitVec 1 := Scalar.cmpi .ne v355 c0_i32_257
  let v360 : BitVec 1 := Scalar.andi v359 v356
  let v361 : BitVec 32 := Scalar.addi v355 v354
  let v362 : BitVec 32 := Scalar.select v360 v361 v355
  let c1_i32_261 : BitVec 32 := 1#32
  let v363 : BitVec 32 := Scalar.muli v362 c1_i32_261
  let v364 : BitVec 32 := Scalar.addi c0_i32_262 v363
  v364.toNat
def k0_dev22 (d0 : Dev nD) : Nat :=
  let c0_i32_272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_263 : BitVec 32 := 3#32
  let v365 : BitVec 32 := Scalar.addi v2 c3_i32_263
  let c4_i32_264 : BitVec 32 := 4#32
  let c0_i32_265 : BitVec 32 := 0#32
  let v366 : BitVec 1 := Scalar.cmpi .eq c4_i32_264 c0_i32_265
  let c1_i32_266 : BitVec 32 := 1#32
  let v367 : BitVec 32 := Scalar.select v366 c1_i32_266 c4_i32_264
  let v368 : BitVec 32 := Scalar.remsi v365 v367
  let c0_i32_268 : BitVec 32 := 0#32
  let v370 : BitVec 1 := Scalar.cmpi .slt v368 c0_i32_268
  let c0_i32_269 : BitVec 32 := 0#32
  let v371 : BitVec 1 := Scalar.cmpi .slt v367 c0_i32_269
  let v372 : BitVec 1 := Scalar.xori v370 v371
  let c0_i32_267 : BitVec 32 := 0#32
  let v369 : BitVec 1 := Scalar.cmpi .ne v368 c0_i32_267
  let v373 : BitVec 1 := Scalar.andi v372 v369
  let v374 : BitVec 32 := Scalar.addi v368 v367
  let v375 : BitVec 32 := Scalar.select v373 v374 v368
  let c1_i32_271 : BitVec 32 := 1#32
  let v376 : BitVec 32 := Scalar.muli v375 c1_i32_271
  let v377 : BitVec 32 := Scalar.addi c0_i32_272 v376
  v377.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S1x8x8192x8192 : Shape := ⟨4, ![1, 8, 8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x1x8192x1 : Shape := ⟨4, ![1, 1, 8192, 1]⟩
abbrev S1x8x128x8192 : Shape := ⟨4, ![1, 8, 128, 8192]⟩

abbrev nBuf : Space → Nat
  | .hbm => 67
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x8x128, .f32⟩
  | .hbm, ⟨3, _⟩ => ⟨S1x8192x8x128, .f32⟩
  | .hbm, ⟨4, _⟩ => ⟨S1024x1024, .f32⟩
  | .hbm, ⟨5, _⟩ => ⟨S1x8192x1024, .f32⟩
  | .hbm, ⟨6, _⟩ => ⟨S1x8192x8x128, .f32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i1⟩
  | .hbm, ⟨18, _⟩ => ⟨S_, .i32⟩
  | .hbm, ⟨19, _⟩ => ⟨S1x8192, .i32⟩
  | .hbm, ⟨20, _⟩ => ⟨S1x8192, .i1⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S8192x8192, .i1⟩
  | .hbm, ⟨25, _⟩ => ⟨S8192x8192, .i1⟩
  | .hbm, ⟨26, _⟩ => ⟨S8192x8192, .i1⟩
  | .hbm, ⟨27, _⟩ => ⟨S8192x8192, .i1⟩
  | .hbm, ⟨28, _⟩ => ⟨S1x8x8192x8192, .f32⟩
  | .hbm, ⟨29, _⟩ => ⟨S_, .f32⟩
  | .hbm, ⟨30, _⟩ => ⟨S1x8x8192x8192, .f32⟩
  | .hbm, ⟨31, _⟩ => ⟨S1x8x8192x8192, .f32⟩
  | .hbm, ⟨32, _⟩ => ⟨S1x1x8192x8192, .i1⟩
  | .hbm, ⟨33, _⟩ => ⟨S_, .f32⟩
  | .hbm, ⟨34, _⟩ => ⟨S_, .f32⟩
  | .hbm, ⟨35, _⟩ => ⟨S1x8x8192x8192, .i1⟩
  | .hbm, ⟨36, _⟩ => ⟨S1x8x8192x8192, .f32⟩
  | .hbm, ⟨37, _⟩ => ⟨S1x8x8192x8192, .f32⟩
  | .hbm, ⟨38, _⟩ => ⟨S_, .f32⟩
  | .hbm, ⟨39, _⟩ => ⟨S1x8x8192, .f32⟩
  | .hbm, ⟨40, _⟩ => ⟨S1x8x8192x1, .f32⟩
  | .hbm, ⟨41, _⟩ => ⟨S1x8x8192x8192, .f32⟩
  | .hbm, ⟨42, _⟩ => ⟨S1x8x8192x8192, .f32⟩
  | .hbm, ⟨43, _⟩ => ⟨S1x8x8192x8192, .f32⟩
  | .hbm, ⟨44, _⟩ => ⟨S_, .i1⟩
  | .hbm, ⟨45, _⟩ => ⟨S8192, .i1⟩
  | .hbm, ⟨46, _⟩ => ⟨S1x1x8192x1, .i1⟩
  | .hbm, ⟨47, _⟩ => ⟨S_, .f32⟩
  | .hbm, ⟨48, _⟩ => ⟨S1x8x8192, .f32⟩
  | .hbm, ⟨49, _⟩ => ⟨S1x8x8192x1, .f32⟩
  | .hbm, ⟨50, _⟩ => ⟨S_, .f32⟩
  | .hbm, ⟨51, _⟩ => ⟨S_, .f32⟩
  | .hbm, ⟨52, _⟩ => ⟨S1x8x8192x1, .i1⟩
  | .hbm, ⟨53, _⟩ => ⟨S1x8x8192x1, .f32⟩
  | .hbm, ⟨54, _⟩ => ⟨S1x8x8192x1, .f32⟩
  | .hbm, ⟨55, _⟩ => ⟨S1x8x8192x8192, .f32⟩
  | .hbm, ⟨56, _⟩ => ⟨S1x8x8192x8192, .f32⟩
  | .hbm, ⟨57, _⟩ => ⟨S1x1x8192x1, .i1⟩
  | .hbm, ⟨58, _⟩ => ⟨S_, .f32⟩
  | .hbm, ⟨59, _⟩ => ⟨S_, .f32⟩
  | .hbm, ⟨60, _⟩ => ⟨S1x8x8192x8192, .i1⟩
  | .hbm, ⟨61, _⟩ => ⟨S1x8x8192x8192, .f32⟩
  | .hbm, ⟨62, _⟩ => ⟨S1x8x8192x8192, .f32⟩
  | .hbm, ⟨63, _⟩ => ⟨S1x8x128x8192, .f32⟩
  | .hbm, ⟨64, _⟩ => ⟨S1x8192x8x128, .f32⟩
  | .hbm, ⟨65, _⟩ => ⟨S1x8192x1024, .f32⟩
  | .hbm, ⟨66, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Protocol.lean ====
/-
The four devices' handshakes as one schedule: which semaphore cells there are, who credits each, by how much, and what a credit
carries. A device's cells are numbered 0..31: the barrier, the exit semaphore, sixteen send cells, ten receive cells, four
cells of its own local copies.
-/
module

public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The algebra: the pipeline's copy and the mesh's, duties named by a device -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices -/

def up (i : ℕ) (c : Dev nD) : Dev nD := ⟨(c.val + i) % 4, Nat.mod_lt _ (by decide)⟩

theorem dev1_eq (c : Dev nD) : (⟨k0_dev1 c, k0_dev1_lt c⟩ : Dev nD) = up 1 c := by revert c; decide
theorem dev2_eq (c : Dev nD) : (⟨k0_dev2 c, k0_dev2_lt c⟩ : Dev nD) = up 2 c := by revert c; decide
theorem dev3_eq (c : Dev nD) : (⟨k0_dev3 c, k0_dev3_lt c⟩ : Dev nD) = up 3 c := by revert c; decide
theorem dev20_eq (c : Dev nD) : (⟨k0_dev20 c, k0_dev20_lt c⟩ : Dev nD) = up 1 c := by revert c; decide
theorem dev21_eq (c : Dev nD) : (⟨k0_dev21 c, k0_dev21_lt c⟩ : Dev nD) = up 2 c := by revert c; decide
theorem dev22_eq (c : Dev nD) : (⟨k0_dev22 c, k0_dev22_lt c⟩ : Dev nD) = up 3 c := by revert c; decide
theorem dev4_eq (c : Dev nD) (h : k0_cond1 c = 1#1) : (⟨k0_dev4 c, k0_dev4_lt c h⟩ : Dev nD) = up 3 c := by revert c; decide
theorem dev5_eq (c : Dev nD) (h : k0_cond1 c = 1#1) : (⟨k0_dev5 c, k0_dev5_lt c h⟩ : Dev nD) = up 3 c := by revert c; decide
theorem dev6_eq (c : Dev nD) (h : k0_cond2 c = 1#1) : (⟨k0_dev6 c, k0_dev6_lt c h⟩ : Dev nD) = up 1 c := by revert c; decide
theorem dev7_eq (c : Dev nD) (h : k0_cond2 c = 1#1) : (⟨k0_dev7 c, k0_dev7_lt c h⟩ : Dev nD) = up 1 c := by revert c; decide
theorem dev8_eq (c : Dev nD) (h : k0_cond3 c = 1#1) : (⟨k0_dev8, k0_dev8_lt c h⟩ : Dev nD) = 1 := by revert c; decide
theorem dev9_eq (c : Dev nD) (h : k0_cond3 c = 1#1) : (⟨k0_dev9, k0_dev9_lt c h⟩ : Dev nD) = 1 := by revert c; decide
theorem dev10_eq (c : Dev nD) (h : k0_cond3 c = 1#1) : (⟨k0_dev10, k0_dev10_lt c h⟩ : Dev nD) = 2 := by revert c; decide
theorem dev11_eq (c : Dev nD) (h : k0_cond3 c = 1#1) : (⟨k0_dev11, k0_dev11_lt c h⟩ : Dev nD) = 2 := by revert c; decide
theorem dev12_eq (c : Dev nD) (h : k0_cond3 c = 1#1) : (⟨k0_dev12, k0_dev12_lt c h⟩ : Dev nD) = 3 := by revert c; decide
theorem dev13_eq (c : Dev nD) (h : k0_cond3 c = 1#1) : (⟨k0_dev13, k0_dev13_lt c h⟩ : Dev nD) = 3 := by revert c; decide
theorem dev14_eq (c : Dev nD) (h : k0_cond5 c = 1#1) : (⟨k0_dev14, k0_dev14_lt c h⟩ : Dev nD) = 1 := by revert c; decide
theorem dev15_eq (c : Dev nD) (h : k0_cond5 c = 1#1) : (⟨k0_dev15, k0_dev15_lt c h⟩ : Dev nD) = 2 := by revert c; decide
theorem dev16_eq (c : Dev nD) (h : k0_cond5 c = 1#1) : (⟨k0_dev16, k0_dev16_lt c h⟩ : Dev nD) = 3 := by revert c; decide
theorem dev17_eq (c : Dev nD) (h : k0_cond8 c = 1#1) : (⟨k0_dev17, k0_dev17_lt c h⟩ : Dev nD) = 0 := by revert c; decide
theorem dev18_eq (c : Dev nD) (h : k0_cond9 c = 1#1) : (⟨k0_dev18, k0_dev18_lt c h⟩ : Dev nD) = 0 := by revert c; decide
theorem dev19_eq (c : Dev nD) (h : k0_cond10 c = 1#1) : (⟨k0_dev19, k0_dev19_lt c h⟩ : Dev nD) = 0 := by revert c; decide

theorem cond1_iff (c : Dev nD) : k0_cond1 c = 1#1 ↔ 0 < c.val := by revert c; decide
theorem cond2_iff (c : Dev nD) : k0_cond2 c = 1#1 ↔ c.val < 3 := by revert c; decide
theorem cond3_iff (c : Dev nD) : k0_cond3 c = 1#1 ↔ c = 0 := by revert c; decide
theorem cond5_iff (c : Dev nD) : k0_cond5 c = 1#1 ↔ c = 0 := by revert c; decide
theorem cond8_iff (c : Dev nD) : k0_cond8 c = 1#1 ↔ c = 1 := by revert c; decide
theorem cond9_iff (c : Dev nD) : k0_cond9 c = 1#1 ↔ c = 2 := by revert c; decide
theorem cond10_iff (c : Dev nD) : k0_cond10 c = 1#1 ↔ c = 3 := by revert c; decide

/-! ## Memrefs -/

abbrev kM : Memref sig .tc .hbm S1x2048x8x128 .f32 := Memref.whole main_arg2
abbrev vM : Memref sig .tc .hbm S1x2048x8x128 .f32 := Memref.whole main_arg3
abbrev m6 : Memref sig .tc .vmem S2336x8x128 .f32 := Memref.whole cc0_scratch0
abbrev m7 : Memref sig .tc .vmem S2336x8x128 .f32 := Memref.whole cc0_scratch1
abbrev m8 : Memref sig .tc .vmem S2048x1024 .f32 := Memref.whole cc0_scratch2
abbrev m9 : Memref sig .tc .vmem S32x1024 .f32 := Memref.whole cc0_scratch3
abbrev m10 : Memref sig .tc .vmem S32x1040 .f32 := Memref.whole cc0_scratch4
abbrev m11 : Memref sig .tc .vmem S3x32x1040 .f32 := Memref.whole cc0_scratch5

/-- The first 32, first 128, last 128 and all rows of a device's block of keys or values. -/
abbrev s32 (a : Memref sig .tc .hbm S1x2048x8x128 .f32) : Memref sig .tc .hbm S32x8x128 .f32 :=
  (a.slice (Rect.unit (s := S1x2048x8x128) ![0, 0, 0, 0] S1x32x8x128.size inb_S1x2048x8x128_S1x32x8x128_0_0_0_0) (fun _ => rfl)).squeeze S32x8x128 squeezes_S1x32x8x128_S32x8x128
abbrev sLo (a : Memref sig .tc .hbm S1x2048x8x128 .f32) : Memref sig .tc .hbm S128x8x128 .f32 :=
  (a.slice (Rect.unit (s := S1x2048x8x128) ![0, 0, 0, 0] S1x128x8x128.size inb_S1x2048x8x128_S1x128x8x128_0_0_0_0) (fun _ => rfl)).squeeze S128x8x128 squeezes_S1x128x8x128_S128x8x128
abbrev sHi (a : Memref sig .tc .hbm S1x2048x8x128 .f32) : Memref sig .tc .hbm S128x8x128 .f32 :=
  (a.slice (Rect.unit (s := S1x2048x8x128) ![0, 1920, 0, 0] S1x128x8x128.size inb_S1x2048x8x128_S1x128x8x128_0_1920_0_0) (fun _ => rfl)).squeeze S128x8x128 squeezes_S1x128x8x128_S128x8x128
abbrev sAll (a : Memref sig .tc .hbm S1x2048x8x128 .f32) : Memref sig .tc .hbm S2048x8x128 .f32 :=
  (a.slice (Rect.unit (s := S1x2048x8x128) ![0, 0, 0, 0] S1x2048x8x128.size inb_S1x2048x8x128_S1x2048x8x128_0_0_0_0) (fun _ => rfl)).squeeze S2048x8x128 squeezes_S1x2048x8x128_S2048x8x128

/-- The four stretches of a key or value buffer: global rows, left halo, own rows, right halo. -/
abbrev dG (a : Memref sig .tc .vmem S2336x8x128 .f32) : Memref sig .tc .vmem S32x8x128 .f32 :=
  a.slice (Rect.unit (s := S2336x8x128) ![0, 0, 0] S32x8x128.size inb_S2336x8x128_S32x8x128_0_0_0) (fun _ => rfl)
abbrev dL (a : Memref sig .tc .vmem S2336x8x128 .f32) : Memref sig .tc .vmem S128x8x128 .f32 :=
  a.slice (Rect.unit (s := S2336x8x128) ![32, 0, 0] S128x8x128.size inb_S2336x8x128_S128x8x128_32_0_0) (fun _ => rfl)
abbrev dM (a : Memref sig .tc .vmem S2336x8x128 .f32) : Memref sig .tc .vmem S2048x8x128 .f32 :=
  a.slice (Rect.unit (s := S2336x8x128) ![160, 0, 0] S2048x8x128.size inb_S2336x8x128_S2048x8x128_160_0_0) (fun _ => rfl)
abbrev dR (a : Memref sig .tc .vmem S2336x8x128 .f32) : Memref sig .tc .vmem S128x8x128 .f32 :=
  a.slice (Rect.unit (s := S2336x8x128) ![2208, 0, 0] S128x8x128.size inb_S2336x8x128_S128x8x128_2208_0_0) (fun _ => rfl)
/-- The first 32 rows of the queries. -/
abbrev q32 : Memref sig .tc .vmem S32x1024 .f32 :=
  m8.slice (Rect.unit (s := S2048x1024) ![0, 0] S32x1024.size inb_S2048x1024_S32x1024_0_0) (fun _ => rfl)
/-- The three landing places of the other devices' partial sums. -/
abbrev p0 : Memref sig .tc .vmem S32x1040 .f32 :=
  (m11.slice (Rect.unit (s := S3x32x1040) ![0, 0, 0] S1x32x1040.size inb_S3x32x1040_S1x32x1040_0_0_0) (fun _ => rfl)).squeeze S32x1040 squeezes_S1x32x1040_S32x1040
abbrev p1 : Memref sig .tc .vmem S32x1040 .f32 :=
  (m11.slice (Rect.unit (s := S3x32x1040) ![1, 0, 0] S1x32x1040.size inb_S3x32x1040_S1x32x1040_1_0_0) (fun _ => rfl)).squeeze S32x1040 squeezes_S1x32x1040_S32x1040
abbrev p2 : Memref sig .tc .vmem S32x1040 .f32 :=
  (m11.slice (Rect.unit (s := S3x32x1040) ![2, 0, 0] S1x32x1040.size inb_S3x32x1040_S1x32x1040_2_0_0) (fun _ => rfl)).squeeze S32x1040 squeezes_S1x32x1040_S32x1040

/-! ## Cells -/

abbrev barS : Sem sig := (SemArray.scalar (sig.barrier 0 rfl) : Sems sig S_).sem
abbrev exitS : Sem sig := (cc0_scratch9 : Sems sig S_).sem

/-- Cell `k` of a device. -/
def csem (k : Fin 32) : SemLoc sig := if k.val = 0 then .reg barS else if k.val = 1 then .reg exitS else .dma ⟨k.val + 2, by have := k.isLt; show _ < 34; omega⟩

/-- The number of a semaphore among a device's cells, if it is one. -/
def kOf : SemLoc sig → Option (Fin 32)
  | .reg s => if s = barS then some 0 else if s = exitS then some 1 else none
  | .dma q => if h : 4 ≤ q.val ∧ q.val < 34 then some ⟨q.val - 2, by omega⟩ else none

theorem kOf_csem (k : Fin 32) : kOf (csem k) = some k := by revert k; decide

abbrev kcell (ck : Dev nD × Fin 32) : GSem nD τ sig := ((ck.1 : Thread nD τ), csem ck.2)

theorem kcell_injective : Function.Injective kcell := fun a b h => by
  obtain ⟨a1, a2⟩ := a; obtain ⟨b1, b2⟩ := b
  have h1 : a1 = b1 := congrArg (fun g : GSem nD τ sig => g.1.1) h
  have h2 : csem a2 = csem b2 := congrArg (fun g : GSem nD τ sig => g.2) h
  have h3 : a2 = b2 := Option.some.inj ((kOf_csem a2).symm.trans ((congrArg kOf h2).trans (kOf_csem b2)))
  rw [h1, h3]

/-! ## Credits -/

abbrev N128 : ℕ := (dL m6).view.dmaCredit
abbrev N32 : ℕ := (dG m6).view.dmaCredit
abbrev NA : ℕ := (dM m6).view.dmaCredit
abbrev NQ : ℕ := (m9).view.dmaCredit
abbrev NP : ℕ := (p0).view.dmaCredit

theorem cr1 : (dR m6).view.dmaCredit = N128 := rfl
theorem cr2 : (dR m7).view.dmaCredit = N128 := rfl
theorem cr3 : (sLo kM).view.dmaCredit = N128 := rfl
theorem cr4 : (s32 vM).view.dmaCredit = N32 := rfl
theorem cr5 : (q32).view.dmaCredit = NQ := rfl
theorem cr6 : (p2).view.dmaCredit = NP := rfl
theorem cr7 : (m10).view.dmaCredit = NP := rfl
theorem cr8 : (sAll kM).view.dmaCredit = NA := rfl

end Cert.KernelIdeal.Mesh
-- ==== Proof.Schedule.lean ====
/-
What each credit of the four devices' handshakes carries, and the rule of each step (signal, wait, send, local copy) at these cells.
-/
module

public import proofs.«01_k».proof.Proof.Protocol
public import proofs.«01_k».proof.Proof.Gen.KernelIdeal.Skeleton

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Contents -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A device's blocks of the inputs, the queries' weights and the output's. -/
def xs (c : Dev nD) : (cc0_stg0_0 : Ref sig .tc).ty.Contents (Elt F) := iblk m c 0 t₀
def wq (c : Dev nD) : (cc0_stg1_0 : Ref sig .tc).ty.Contents (Elt F) := iblk m c 1 t₀
def wo (c : Dev nD) : (cc0_stg2_0 : Ref sig .tc).ty.Contents (Elt F) := iblk m c 2 t₀
/-- Its queries. -/
def qsc (c : Dev nD) : (cc0_scratch2 : Ref sig .tc).ty.Contents (Elt F) := k0_pay109 (xs m c) (wq m c)

/-- A view of a device's buffer as launched, and a view held at given contents. -/
def at_ {sp s e} (c : Dev nD) (v : Memref sig .tc sp s e) (q : PosShare TreeShare) : sProp 𝕄 :=
  (v.view.loc (c : Thread nD τ) ↦[v.view.set]{q} m (v.view.loc (c : Thread nD τ)))
def hold {sp s e} (c : Dev nD) (v : Memref sig .tc sp s e) (f : Buf (Elt F) (v.view.loc (c : Thread nD τ))) : sProp 𝕄 :=
  (v.view.loc (c : Thread nD τ) ↦[v.view.set]{fullShare} f)
def some_ {sp s e} (c : Dev nD) (v : Memref sig .tc sp s e) : sProp 𝕄 := iprop(∃ f, hold (F := F) c v f)
/-- The contents of `dst` on `c` after a copy of `src`'s contents `fs` on `c'`. -/
def landed {sp s e sp'} (c c' : Dev nD) (dst : Memref sig .tc sp s e) (src : Memref sig .tc sp' s e)
    (fs : Buf (Elt F) (src.view.loc (c' : Thread nD τ))) : Buf (Elt F) (dst.view.loc (c : Thread nD τ)) :=
  dst.view.write (Elt F) (m (dst.view.loc (c : Thread nD τ))) (src.view.read (Elt F) fs) Finset.univ
/-- The same, `src` as launched. -/
def landedM {sp s e sp'} (c c' : Dev nD) (dst : Memref sig .tc sp s e) (src : Memref sig .tc sp' s e) : Buf (Elt F) (dst.view.loc (c : Thread nD τ)) :=
  landed m c c' dst src (m (src.view.loc (c' : Thread nD τ)))

omit [FloatOps F] [Named F] in
theorem written_eq {sp s e} (c : Dev nD) (dst : Memref sig .tc sp s e) (fd : Buf (Elt F) (dst.view.loc (c : Thread nD τ))) (w : s.Idx → Elt F e) :
    ((dst.view.loc (c : Thread nD τ) ↦[dst.view.set]{fullShare} (dst.view.write (Elt F) fd w Finset.univ)) : sProp 𝕄)
      = hold c dst (dst.view.write (Elt F) (m (dst.view.loc (c : Thread nD τ))) w Finset.univ) := by
  unfold hold
  exact pointsTo_congr fun i hi => View.write_congr (fun _ _ _ => rfl) (fun h => absurd hi h)

/-! ## Shares: the source of several copies at once -/

def sh (i : ℕ) : PosShare TreeShare := (i.rec fullShare fun _ q => q.right : PosShare TreeShare).left
def shRest (i : ℕ) : PosShare TreeShare := i.rec fullShare fun _ q => q.right

/-! ## Lending -/

/-- What device `p`'s barrier signal lends device `q`: the landing places `q` writes on `p`. -/
def lendR (p q : Dev nD) : sProp 𝕄 := if q.val = p.val + 1 then iprop(some_ (F := F) p (dR m6) ∗ some_ (F := F) p (dR m7)) else iprop(emp)
def lendL (p q : Dev nD) : sProp 𝕄 := if p.val = q.val + 1 then iprop(some_ (F := F) p (dL m6) ∗ some_ (F := F) p (dL m7)) else iprop(emp)
def lendG (p q : Dev nD) : sProp 𝕄 := if q.val = 0 ∧ p.val ≠ 0 then iprop(some_ (F := F) p (dG m6) ∗ some_ (F := F) p (dG m7) ∗ some_ (F := F) p m9) else iprop(emp)
def pK (k : ℕ) : Memref sig .tc .vmem S32x1040 .f32 := match k with | 1 => p0 | 2 => p1 | _ => p2
def lendP (p q : Dev nD) : sProp 𝕄 := if p.val = 0 ∧ q.val ≠ 0 then some_ (F := F) 0 (pK q.val) else iprop(emp)
def lend (p q : Dev nD) : sProp 𝕄 := iprop(lendR (F := F) p q ∗ lendL (F := F) p q ∗ lendG (F := F) p q ∗ lendP (F := F) p q)

/-! ## The schedule -/

variable (PS : Dev nD → (cc0_scratch4 : Ref sig .tc).ty.Contents (Elt F) → Prop)

/-- Whether a device's transfer cell `k` is used. -/
def on (c : Dev nD) (k : Fin 32) : Prop :=
  match k.val with
  | 2 | 3 | 15 | 18 | 19 | 22 | 23 | 24 => 0 < c.val
  | 4 | 5 | 20 | 21 => c.val < 3
  | 6 | 7 | 8 | 9 | 10 | 11 | 12 | 13 | 14 | 25 | 26 | 27 | 30 | 31 => c.val = 0
  | 28 | 29 => True
  | _ => False
instance (c : Dev nD) (k : Fin 32) : Decidable (on c k) := by unfold on; split <;> infer_instance

def du (c : Dev nD) (k : Fin 32) : Finset (Fin 4) := if k.val < 2 then Finset.univ.erase c else if on c k then {0} else ∅

def am (k : Fin 32) : ℕ :=
  match k.val with
  | 2 | 3 | 4 | 5 | 18 | 19 | 20 | 21 => N128
  | 6 | 7 | 8 | 9 | 10 | 11 | 22 | 23 | 30 | 31 => N32
  | 12 | 13 | 14 | 24 => NQ
  | 15 | 25 | 26 | 27 => NP
  | 28 | 29 => NA
  | _ => 1

omit [FloatOps F] [Named F] in
theorem am_pos (k : Fin 32) : 0 < am k := by
  have h1 : 0 < N128 := View.dmaCredit_pos _ (by decide)
  have h2 : 0 < N32 := View.dmaCredit_pos _ (by decide)
  have h3 : 0 < NQ := View.dmaCredit_pos _ (by decide)
  have h4 : 0 < NP := View.dmaCredit_pos _ (by decide)
  have h5 : 0 < NA := View.dmaCredit_pos _ (by decide)
  unfold am
  split <;> first | exact Nat.one_pos | assumption

/-- A device's partial sums landed on device 0. -/
def partAt (t : Dev nD) (p : Memref sig .tc .vmem S32x1040 .f32) : sProp 𝕄 := iprop(∃ X, ⌜PS t X⌝ ∗ hold 0 p (landed m 0 t p m10 X))

def pay (c : Dev nD) (k : Fin 32) (d : Fin 4) : sProp 𝕄 :=
  match k.val with
  | 0 => lend (F := F) d c
  | 2 => at_ m c (sLo kM) (sh 0)
  | 3 => at_ m c (sLo vM) (sh 0)
  | 4 => at_ m c (sHi kM) (sh 1)
  | 5 => at_ m c (sHi vM) (sh 1)
  | 6 => at_ m c (s32 kM) (sh 2)
  | 7 => at_ m c (s32 kM) (sh 3)
  | 8 => at_ m c (s32 kM) (sh 4)
  | 9 => at_ m c (s32 vM) (sh 2)
  | 10 => at_ m c (s32 vM) (sh 3)
  | 11 => at_ m c (s32 vM) (sh 4)
  | 12 => (q32.view.loc (c : Thread nD τ) ↦[q32.view.set]{sh 0} qsc m c)
  | 13 => (q32.view.loc (c : Thread nD τ) ↦[q32.view.set]{sh 1} qsc m c)
  | 14 => (q32.view.loc (c : Thread nD τ) ↦[q32.view.set]{sh 2} qsc m c)
  | 15 => some_ (F := F) c m10
  | 18 => hold c (dL m6) (landedM m c (up 3 c) (dL m6) (sHi kM))
  | 19 => hold c (dL m7) (landedM m c (up 3 c) (dL m7) (sHi vM))
  | 20 => hold c (dR m6) (landedM m c (up 1 c) (dR m6) (sLo kM))
  | 21 => hold c (dR m7) (landedM m c (up 1 c) (dR m7) (sLo vM))
  | 22 => hold c (dG m6) (landedM m c 0 (dG m6) (s32 kM))
  | 23 => hold c (dG m7) (landedM m c 0 (dG m7) (s32 vM))
  | 24 => hold c m9 (landed m c 0 m9 q32 (qsc m 0))
  | 25 => partAt m PS 1 p0
  | 26 => partAt m PS 2 p1
  | 27 => partAt m PS 3 p2
  | 28 => iprop(hold c (dM m6) (landedM m c c (dM m6) (sAll kM)) ∗ at_ m c (sAll kM) (sh 5))
  | 29 => iprop(hold c (dM m7) (landedM m c c (dM m7) (sAll vM)) ∗ at_ m c (sAll vM) (sh 5))
  | 30 => iprop(hold c (dG m6) (landedM m c c (dG m6) (s32 kM)) ∗ at_ m c (s32 kM) (sh 6))
  | 31 => iprop(hold c (dG m7) (landedM m c c (dG m7) (s32 vM)) ∗ at_ m c (s32 vM) (sh 6))
  | _ => iprop(emp)

def meshRd : Rounds.Schedule (GSem nD τ sig) (Fin 4) 𝕄 where
  duties g r := if r = 0 ∧ g.1.2 = .tc then (match kOf g.2 with | some k => du g.1.1 k | none => ∅) else ∅
  unitless _ := False
  amount g _ _ := match kOf g.2 with | some k => am k | none => 1
  payload g _ d := match kOf g.2 with | some k => pay m PS g.1.1 k d | none => iprop(emp)
  amount_pos g _ _ _ := by split; exact am_pos _; exact Nat.one_pos

instance at_storable {sp s e} (c : Dev nD) (v : Memref sig .tc sp s e) (q : PosShare TreeShare) : BI.Storable (upEmb : UEmb _ 𝕄) (at_ m c v q) := by unfold at_; infer_instance
instance hold_storable {sp s e} (c : Dev nD) (v : Memref sig .tc sp s e) (f : Buf (Elt F) (v.view.loc (c : Thread nD τ))) : BI.Storable (upEmb : UEmb _ 𝕄) (hold c v f) := by unfold hold; infer_instance
instance some_storable {sp s e} (c : Dev nD) (v : Memref sig .tc sp s e) : BI.Storable (upEmb : UEmb _ 𝕄) (some_ (F := F) c v) := by unfold some_; infer_instance
instance lend_storable (p q : Dev nD) : BI.Storable (upEmb : UEmb _ 𝕄) (lend (F := F) p q) := by
  have h1 : BI.Storable (upEmb : UEmb _ 𝕄) (lendR (F := F) p q) := by unfold lendR; split <;> infer_instance
  have h2 : BI.Storable (upEmb : UEmb _ 𝕄) (lendL (F := F) p q) := by unfold lendL; split <;> infer_instance
  have h3 : BI.Storable (upEmb : UEmb _ 𝕄) (lendG (F := F) p q) := by unfold lendG; split <;> infer_instance
  have h4 : BI.Storable (upEmb : UEmb _ 𝕄) (lendP (F := F) p q) := by unfold lendP; split <;> infer_instance
  unfold lend; infer_instance
instance partAt_storable (t : Dev nD) (p : Memref sig .tc .vmem S32x1040 .f32) : BI.Storable (upEmb : UEmb _ 𝕄) (partAt m PS t p) := by unfold partAt; infer_instance
instance pay_storable (c : Dev nD) (k : Fin 32) (d : Fin 4) : BI.Storable (upEmb : UEmb _ 𝕄) (pay m PS c k d) := by
  unfold pay; split <;> infer_instance
instance meshRd_payload_storable (g : GSem nD τ sig) (r : ℕ) (d : Fin 4) : BI.Storable (upEmb : UEmb _ 𝕄) ((meshRd m PS).payload g r d) := by
  show BI.Storable upEmb (match kOf g.2 with | some k => pay m PS g.1.1 k d | none => iprop(emp))
  split <;> infer_instance

section Sched
variable (c : Dev nD) (k : Fin 32)
omit [FloatOps F] [Named F] in
theorem kOf_kcell : kOf (kcell (c, k)).2 = some k := kOf_csem k
theorem duties_k : (meshRd m PS).duties (kcell (c, k)) 0 = du c k := by
  dsimp only [meshRd]; rw [if_pos ⟨rfl, rfl⟩, show kOf (kcell (c, k)).2 = some k from kOf_csem k]
theorem duties_later (g : GSem nD τ sig) : ∀ r, 1 ≤ r → (meshRd m PS).duties g r = ∅ :=
  fun r hr => by dsimp only [meshRd]; rw [if_neg fun h => by omega]
theorem duties_off (h : du c k = ∅) : ∀ r, 0 ≤ r → (meshRd m PS).duties (kcell (c, k)) r = ∅ := fun r _ => by
  rcases Nat.eq_zero_or_pos r with rfl | hr
  · rw [duties_k, h]
  · exact duties_later m PS _ r hr
theorem amount_k (r : ℕ) (d : Fin 4) : (meshRd m PS).amount (kcell (c, k)) r d = am k := by dsimp only [meshRd]; rw [show kOf (kcell (c, k)).2 = some k from kOf_csem k]
theorem payload_k (r : ℕ) (d : Fin 4) : (meshRd m PS).payload (kcell (c, k)) r d = pay m PS c k d := by dsimp only [meshRd]; rw [show kOf (kcell (c, k)).2 = some k from kOf_csem k]
theorem du_on (h : on c k) (hk : 2 ≤ k.val) : du c k = {0} := by unfold du; rw [if_neg (by omega), if_pos h]
theorem expect_on (h : on c k) (hk : 2 ≤ k.val) : (meshRd m PS).expect (kcell (c, k)) 0 = am k := by
  unfold Schedule.expect Schedule.amountOf; rw [duties_k, du_on c k h hk, Finset.sum_singleton, amount_k]
theorem expect_reg (hk : k.val < 2) : (meshRd m PS).expect (kcell (c, k)) 0 = 3 := by
  unfold Schedule.expect Schedule.amountOf
  rw [duties_k, Finset.sum_congr rfl fun d _ => amount_k m PS c k 0 d, Finset.sum_const, smul_eq_mul]
  unfold du; rw [if_pos hk, Finset.card_erase_of_mem (Finset.mem_univ _)]
  unfold am; split <;> first | (exfalso; omega) | rfl
theorem rest_on (h : on c k) (hk : 2 ≤ k.val) :
    bigSep ((meshRd m PS).duties (kcell (c, k)) 0 \ ∅) (fun d => (meshRd m PS).payload (kcell (c, k)) 0 d) = pay m PS c k 0 := by
  rw [Finset.sdiff_empty, duties_k, du_on c k h hk, bigSep_singleton, payload_k]
theorem rest_reg (hk : k.val < 2) :
    bigSep ((meshRd m PS).duties (kcell (c, k)) 0 \ ∅) (fun d => (meshRd m PS).payload (kcell (c, k)) 0 d)
      = iprop(pay m PS c k (up 1 c) ∗ pay m PS c k (up 2 c) ∗ pay m PS c k (up 3 c)) := by
  have hdu : du c k = [up 1 c, up 2 c, up 3 c].toFinset := by
    unfold du; rw [if_pos hk]; clear hk; revert c; decide
  rw [Finset.sdiff_empty, duties_k, bigSep_eq_bigSepL_of_eq [up 1 c, up 2 c, up 3 c] hdu (by clear hdu hk; revert c; decide), bigSepL_cons_cons, bigSepL_cons_cons, bigSepL_singleton,
    payload_k, payload_k, payload_k]
  rfl
end Sched

/-! ## Levels -/

def lvl (k : Fin 32) : ℕ := match k.val with | 0 => 1 | 1 => 4 | 18 | 19 | 20 | 21 | 22 | 23 | 24 => 2 | 25 | 26 | 27 => 3 | _ => 0
def L (g : GSem nD τ sig) : Finset Unit := if g.1.2 = .tc then {()} else ∅
def lv (g : GSem nD τ sig) (_ : Unit) : ℕ := match kOf g.2 with | some k => lvl k | none => 0
theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Fin 32) : lv (kcell (c, k)) () = lvl k := by unfold lv; rw [show kOf (kcell (c, k)).2 = some k from kOf_csem k]

/-- Every obligation in `O` is on a core's cell of level above `n`. -/
def Above (n : ℕ) (O : CellTallies nD τ sig Unit) : Prop := ∀ g u, 0 < O g u → g.1.2 = .tc ∧ n < lv g ()
theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · rw [h0, Nat.zero_add] at hg; exact h' g u hg
  · exact h g u h0
theorem Above.tally {n : ℕ} (c : Dev nD) (k : Fin 32) (a : ℕ) (h : n < lvl k) : Above n (tallyAt (kcell (c, k)) () a) := fun g u hg => by
  rw [tallyAt_apply] at hg
  by_cases h' : g = kcell (c, k) ∧ u = ()
  · rw [h'.1, lv_k]; exact ⟨rfl, h⟩
  · rw [if_neg h'] at hg; exact absurd hg (Nat.lt_irrefl 0)
theorem Above.ite {n : ℕ} {P : Prop} [Decidable P] {O O' : CellTallies nD τ sig Unit} (h : Above n O) (h' : Above n O') : Above n (if P then O else O') := by
  split <;> assumption

omit [FloatOps F] [Named F] in
theorem mayWait_above (c : Dev nD) (sm : SemLoc sig) (n : ℕ) (hsm : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-! ## What each device owes at launch, in the order it pays -/

def oExit (c : Dev nD) : CellTallies nD τ sig Unit :=
  0 + tallyAt (kcell (up 3 c, 1)) () 1 + tallyAt (kcell (up 2 c, 1)) () 1 + tallyAt (kcell (up 1 c, 1)) () 1
def kP (c : Dev nD) : Fin 32 := match c.val with | 1 => 25 | 2 => 26 | _ => 27
def oPart (c : Dev nD) : CellTallies nD τ sig Unit := oExit c + if 0 < c.val then tallyAt (kcell (0, kP c)) () NP else 0
def oQ (c : Dev nD) : CellTallies nD τ sig Unit :=
  if c = 0 then oPart c + tallyAt (kcell (3, 24)) () NQ + tallyAt (kcell (2, 24)) () NQ + tallyAt (kcell (1, 24)) () NQ else oPart c
def oG (c : Dev nD) : CellTallies nD τ sig Unit :=
  if c = 0 then oQ c + tallyAt (kcell (3, 23)) () N32 + tallyAt (kcell (3, 22)) () N32 + tallyAt (kcell (2, 23)) () N32 + tallyAt (kcell (2, 22)) () N32
    + tallyAt (kcell (1, 23)) () N32 + tallyAt (kcell (1, 22)) () N32 else oQ c
def oR (c : Dev nD) : CellTallies nD τ sig Unit :=
  if c.val < 3 then oG c + tallyAt (kcell (up 1 c, 19)) () N128 + tallyAt (kcell (up 1 c, 18)) () N128 else oG c
def oL (c : Dev nD) : CellTallies nD τ sig Unit :=
  if 0 < c.val then oR c + tallyAt (kcell (up 3 c, 21)) () N128 + tallyAt (kcell (up 3 c, 20)) () N128 else oR c
def O₀ (c : Dev nD) : CellTallies nD τ sig Unit :=
  oL c + tallyAt (kcell (up 3 c, 0)) () 1 + tallyAt (kcell (up 2 c, 0)) () 1 + tallyAt (kcell (up 1 c, 0)) () 1

theorem above_exit (c : Dev nD) {n : ℕ} (h : n < 4) : Above n (oExit c) := by
  unfold oExit
  exact (((Above.zero n).add (.tally _ _ _ (by exact h))).add (.tally _ _ _ (by exact h))).add (.tally _ _ _ (by exact h))
theorem lvl_kP (c : Dev nD) : lvl (kP c) = 3 := by revert c; decide
theorem above_part (c : Dev nD) {n : ℕ} (h : n < 3) : Above n (oPart c) := by
  unfold oPart
  exact (above_exit c (by omega)).add (.ite (.tally _ _ _ (by rw [lvl_kP]; exact h)) (.zero n))
theorem above_Q (c : Dev nD) {n : ℕ} (h : n < 2) : Above n (oQ c) := by
  unfold oQ
  have ht := above_part c (n := n) (by omega)
  exact .ite (((ht.add (.tally _ _ _ (by exact h))).add (.tally _ _ _ (by exact h))).add (.tally _ _ _ (by exact h))) ht
theorem above_G (c : Dev nD) {n : ℕ} (h : n < 2) : Above n (oG c) := by
  unfold oG
  have ht := above_Q c h
  exact .ite ((((((ht.add (.tally _ _ _ (by exact h))).add (.tally _ _ _ (by exact h))).add (.tally _ _ _ (by exact h))).add (.tally _ _ _ (by exact h))).add (.tally _ _ _ (by exact h))).add (.tally _ _ _ (by exact h))) ht
theorem above_R (c : Dev nD) {n : ℕ} (h : n < 2) : Above n (oR c) := by
  unfold oR
  have ht := above_G c h
  exact .ite ((ht.add (.tally _ _ _ (by exact h))).add (.tally _ _ _ (by exact h))) ht
theorem above_L (c : Dev nD) {n : ℕ} (h : n < 2) : Above n (oL c) := by
  unfold oL
  have ht := above_R c h
  exact .ite ((ht.add (.tally _ _ _ (by exact h))).add (.tally _ _ _ (by exact h))) ht
theorem above_O (c : Dev nD) {n : ℕ} (h : n < 1) : Above n (O₀ c) := by
  unfold O₀
  exact (((above_L c (by omega)).add (.tally _ _ _ (by exact h))).add (.tally _ _ _ (by exact h))).add (.tally _ _ _ (by exact h))

end Cert.KernelIdeal.Mesh
-- ==== Proof.Steps.lean ====
/-
The rule of each step of the handshakes (signal, wait, send, local copy) at the cells' schedule.
-/
module

public import proofs.«01_k».proof.Proof.Schedule

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (PS : Dev nD → (cc0_scratch4 : Ref sig .tc).ty.Contents (Elt F) → Prop)
variable (K : Dev nD × Fin 32 → ℕ)

abbrev 𝒱₀ : Variants := Variants.none

/-- The facts every device holds throughout: each cell's invariant, that each cell's round 0 is reached, the levels. -/
def Ctx : sProp 𝕄 :=
  iprop((bigSep Finset.univ fun ck : Dev nD × Fin 32 => cellInv ER (meshRd m PS) (K ck) (kcell ck))
    ∗ (bigSep Finset.univ fun ck : Dev nD × Fin 32 => reached ER (kcell ck) 0) ∗ levAts L lv)
instance ctx_persistent : BI.Persistent (Ctx m PS K) := by unfold Ctx; infer_instance

def ow (c : Dev nD) (O : CellTallies nD τ sig Unit) : sProp 𝕄 := iprop(∃ W, owes (c : Thread nD τ) O W)
def tk (p : Dev nD) (k : Fin 32) (d : Fin 4) : sProp 𝕄 := dutyTok ER (kcell (p, k)) 0 d
def at0 (c : Dev nD) (k : Fin 32) : sProp 𝕄 := atPos ER (kcell (c, k)) 0 ∅ 0
def at1 (c : Dev nD) (k : Fin 32) : sProp 𝕄 := atPos ER (kcell (c, k)) 1 ∅ 0
def cr (c : Dev nD) (k : Fin 32) (n : ℕ) : sProp 𝕄 := cred (tallyAt (kcell (c, k)) () n)

theorem ctx_inv (ck : Dev nD × Fin 32) : Ctx m PS K ⊢ cellInv ER (meshRd m PS) (K ck) (kcell ck) := by
  unfold Ctx
  rw [show (bigSep Finset.univ fun ck : Dev nD × Fin 32 => cellInv ER (meshRd m PS) (K ck) (kcell ck)) = _ from bigSep_univ_at _ ck]
  iintro ⟨⟨H, -⟩, -, -⟩
  iexact H
theorem ctx_reached (ck : Dev nD × Fin 32) : Ctx m PS K ⊢ (reached ER (kcell ck) 0 : sProp 𝕄) := by
  unfold Ctx
  rw [show (bigSep Finset.univ fun ck : Dev nD × Fin 32 => (reached ER (kcell ck) 0 : sProp 𝕄)) = _ from bigSep_univ_at _ ck]
  iintro ⟨-, ⟨H, -⟩, -⟩
  iexact H
theorem ctx_lev : Ctx m PS K ⊢ (levAts L lv : sProp 𝕄) := by
  unfold Ctx
  iintro ⟨-, -, H⟩
  iexact H

section Steps

/-- A signal of one unit to cell `j` (the barrier or the exit semaphore) of device `p`. -/
theorem wp_sig {α : Type} {Q : α → sProp 𝕄} {k : PUnit → Prog (TpuEff nD τ sig (Elt F) Λ₀ .tc) α} (c p n : Dev nD) (hn : n = p) (j : Fin 32) (s : Sem sig) (hs : csem j = .reg s) (hj : j.val < 2) (hne : c ≠ p) (a : ℕ) (ha : a = 1)
    (O : CellTallies nD τ sig Unit) :
    iprop(Ctx m PS K ∗ ow (F := F) c (O + tallyAt (kcell (p, j)) () 1) ∗ tk (F := F) p j c ∗ pay m PS p j c)
      ⊢ iprop((ow (F := F) c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) s a) k) Q) := by
  subst hn ha
  unfold ow tk
  iintro ⟨#HC, ⟨%W, HO⟩, HT, HP⟩ Hk
  have ham : am j = 1 := by unfold am; split <;> first | (exfalso; omega) | rfl
  have hg : ((Dev.tc n : Thread nD τ), SemLoc.reg s) = kcell (n, j) := by unfold kcell; rw [hs]
  iapply (Rounds.wp_signal 𝒱₀ ER (meshRd m PS) (c : Thread nD τ) none (dst := (n : Thread nD τ)) (κ := K (n, j)) (r := 0)
      (d := c) (by rw [hg, duties_k]; unfold du; rw [if_pos hj]; exact Finset.mem_erase.mpr ⟨hne, Finset.mem_univ _⟩)
      ((congrArg (fun g => (meshRd m PS).amount g 0 c) hg).trans ((amount_k m PS n j 0 c).trans ham)) () O (congrArg (fun g => O + tallyAt g () 1) hg.symm) (W := W))
    $$ [HO HT HP]
  · rw [hg, payload_k]
    isplitr; · iapply (ctx_inv m PS K (n, j)) $$ HC
    isplitl [HO]; · iexact HO
    isplitl [HT]; · iexact HT
    isplitl [HP]; · iexact HP
    iapply (ctx_reached m PS K (n, j)) $$ HC
  iintro HO
  iapply Hk
  iexists W
  iexact HO

/-- A wait for all of cell `j`'s credits. -/
theorem wp_waitAll {α : Type} {Q : α → sProp 𝕄} {k : PUnit → Prog (TpuEff nD τ sig (Elt F) Λ₀ .tc) α} {w : TpuEff nD τ sig (Elt F) Λ₀ .tc PUnit} (c : Dev nD) (j : Fin 32) (sm : SemLoc sig) (hs : csem j = sm) (a : ℕ)
    (hw : ∀ K' : PUnit → sProp 𝕄, wpE (defs₀ (F := F)) 𝒱₀ (c : Thread nD τ) none Set.univ w K' = waitSpec (c : Thread nD τ) Set.univ sm a K')
    (ha : a = (meshRd m PS).expect (kcell (c, j)) 0) {O : CellTallies nD τ sig Unit} (hO : Above (lvl j) O) :
    iprop(Ctx m PS K ∗ ow (F := F) c O ∗ at0 (F := F) c j ∗ cr (F := F) c j a)
      ⊢ iprop(((ow (F := F) c O ∗ at1 (F := F) c j ∗ bigSep ((meshRd m PS).duties (kcell (c, j)) 0 \ ∅) (fun d => (meshRd m PS).payload (kcell (c, j)) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hs
  unfold ow at0 at1 cr
  iintro ⟨#HC, ⟨%W, HO⟩, HA, Hc⟩ Hk
  iapply (Rounds.wp_wait_rest_token 𝒱₀ ER (meshRd m PS) (c : Thread nD τ) none (κ := K (c, j)) hw (Set.mem_univ _) () (O := O) (W := W) (R := 0) (m := 0) (T := ∅)
      (by rw [Nat.zero_add]; exact ha)) $$ [HO HA Hc]
  · isplitr; · iapply (ctx_inv m PS K (c, j)) $$ HC
    isplitl [Hc]; · iexact Hc
    isplitl [HO]; · iexact HO
    isplitr; · iapply (mayWait_above c (csem j) (lvl j) (le_of_eq (lv_k c j)) hO); iapply (ctx_lev m PS K) $$ HC
    iexact HA
  iintro ⟨HO, HA, -, HP⟩
  iapply Hk
  isplitl [HO]; · iexists _; iexact HO
  isplitl [HA]; · iexact HA
  iexact HP

theorem wp_waitReg {α : Type} {Q : α → sProp 𝕄} {k : PUnit → Prog (TpuEff nD τ sig (Elt F) Λ₀ .tc) α} {w : TpuEff nD τ sig (Elt F) Λ₀ .tc PUnit} (c : Dev nD) (j : Fin 32) (sm : SemLoc sig) (hs : csem j = sm) (hj : j.val < 2) (a : ℕ)
    (hw : ∀ K' : PUnit → sProp 𝕄, wpE (defs₀ (F := F)) 𝒱₀ (c : Thread nD τ) none Set.univ w K' = waitSpec (c : Thread nD τ) Set.univ sm a K')
    (ha : a = 3) {O : CellTallies nD τ sig Unit} (hO : Above (lvl j) O) :
    iprop(Ctx m PS K ∗ ow (F := F) c O ∗ at0 (F := F) c j ∗ cr (F := F) c j 3)
      ⊢ iprop(((ow (F := F) c O ∗ at1 (F := F) c j ∗ pay m PS c j (up 1 c) ∗ pay m PS c j (up 2 c) ∗ pay m PS c j (up 3 c))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst ha
  have h := wp_waitAll m PS K c j sm hs 3 hw (expect_reg m PS c j hj).symm hO (Q := Q) (k := k)
  rw [rest_reg m PS c j hj] at h
  exact h

theorem wp_waitOn {α : Type} {Q : α → sProp 𝕄} {k : PUnit → Prog (TpuEff nD τ sig (Elt F) Λ₀ .tc) α} {w : TpuEff nD τ sig (Elt F) Λ₀ .tc PUnit} (c : Dev nD) (j : Fin 32) (sm : SemLoc sig) (hs : csem j = sm) (hon : on c j) (hj : 2 ≤ j.val) (a : ℕ)
    (hw : ∀ K' : PUnit → sProp 𝕄, wpE (defs₀ (F := F)) 𝒱₀ (c : Thread nD τ) none Set.univ w K' = waitSpec (c : Thread nD τ) Set.univ sm a K')
    (ha : a = am j) {O : CellTallies nD τ sig Unit} (hO : Above (lvl j) O) :
    iprop(Ctx m PS K ∗ ow (F := F) c O ∗ at0 (F := F) c j ∗ cr (F := F) c j (am j))
      ⊢ iprop(((ow (F := F) c O ∗ at1 (F := F) c j ∗ pay m PS c j 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst ha
  have h := wp_waitAll m PS K c j sm hs (am j) hw (expect_on m PS c j hon hj).symm hO (Q := Q) (k := k)
  rw [rest_on m PS c j hon hj] at h
  exact h

/-- A copy to device `p`, crediting send cell `ks` here and receive cell `kr` there. -/
theorem wp_sendTo {α : Type} {Q : α → sProp 𝕄} {k : PUnit → Prog (TpuEff nD τ sig (Elt F) Λ₀ .tc) α} {sp sp' : Space} {s : Shape} {e : EltTy} (c p n : Dev nD) (hn : n = p) (ks kr : Fin 32)
    {src : Memref sig .tc sp s e} {dst : Memref sig .tc sp' s e} {hsc : dst.view.ref.isScScratch = false}
    {sS sR : SemLoc sig} (hS : csem ks = sS) (hR : csem kr = sR)
    {hsrc : src.view.WordExact} {hdst : dst.view.WordExact} {hsem : DmaTarget.Typed sp sR (.remote (p := (Proc.tc : Proc τ)) (Dev.tc n : Thread nD τ) dst sS hsc)}
    (ons : on c ks) (hks : 2 ≤ ks.val) (onr : on p kr) (hkr : 2 ≤ kr.val) (N : ℕ) (hN : dst.view.amount sR = N) (has : am ks = N) (har : am kr = N)
    (q : PosShare TreeShare) (fs : Buf (Elt F) (src.view.loc (c : Thread nD τ))) (fd : Buf (Elt F) (dst.view.loc (p : Thread nD τ)))
    (hpay₁ : (src.view.loc (c : Thread nD τ) ↦[src.view.set]{q} fs) ⊢ pay m PS c ks 0)
    (hpay₂ : hold p dst (dst.view.write (Elt F) (m (dst.view.loc (p : Thread nD τ))) (src.view.read (Elt F) fs) Finset.univ) ⊢ pay m PS p kr 0)
    (O : CellTallies nD τ sig Unit) :
    iprop(Ctx m PS K ∗ (src.view.loc (c : Thread nD τ) ↦[src.view.set]{q} fs) ∗ hold p dst fd
        ∗ ow (F := F) c (O + tallyAt (kcell (p, kr)) () N) ∗ tk (F := F) c ks 0 ∗ tk (F := F) p kr 0)
      ⊢ iprop(((ow (F := F) c O ∗ cr (F := F) c ks N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  subst hn hS hR
  unfold ow tk cr
  iintro ⟨#HC, HS, HD, ⟨%W, HO⟩, HT1, HT2⟩ Hk
  iapply (Rounds.wp_send_pointsTo 𝒱₀ ER (meshRd m PS) (c : Thread nD τ) none (κ₁ := K (c, ks)) (κ₂ := K (n, kr)) (q := q) (fs := fs) (fd := fd)
    (r₁ := 0) (r₂ := 0) (d₁ := 0) (d₂ := 0) (by rw [duties_k, du_on c ks ons hks]; exact Finset.mem_singleton_self _)
    (by rw [duties_k, du_on n kr onr hkr]; exact Finset.mem_singleton_self _) () () N hN ((amount_k m PS c ks 0 0).trans has) ((amount_k m PS n kr 0 0).trans har)
    O rfl (W := W) (by rw [payload_k]; exact hpay₁) (by rw [payload_k, written_eq m]; exact hpay₂)) $$ [HS HD HO HT1 HT2]
  · isplitr; · iapply (ctx_inv m PS K (c, ks)) $$ HC
    isplitr; · iapply (ctx_inv m PS K (n, kr)) $$ HC
    isplitl [HS]; · iexact HS
    isplitl [HD]; · unfold hold; iexact HD
    isplitl [HO]; · iexact HO
    isplitl [HT1]; · iexact HT1
    isplitr; · iapply (ctx_reached m PS K (c, ks)) $$ HC
    isplitl [HT2]; · iexact HT2
    iapply (ctx_reached m PS K (n, kr)) $$ HC
  iintro ⟨Hc, HO⟩
  iapply Hk
  isplitl [HO]; · iexists W; iexact HO
  iexact Hc

/-- A copy within the device, crediting cell `j`. -/
theorem wp_copyTo {α : Type} {Q : α → sProp 𝕄} {k : PUnit → Prog (TpuEff nD τ sig (Elt F) Λ₀ .tc) α} {sp sp' : Space} {s : Shape} {e : EltTy} (c : Dev nD) (j : Fin 32)
    {src : Memref sig .tc sp s e} {dst : Memref sig .tc sp' s e} {sR : SemLoc sig} (hR : csem j = sR)
    {hsrc : src.view.WordExact} {hdst : dst.view.WordExact} {hsem : DmaTarget.Typed (nD := nD) sp sR (DmaTarget.here (p := (Proc.tc : Proc τ)) dst)}
    (onr : on c j) (hj : 2 ≤ j.val) (N : ℕ) (hN : dst.view.amount sR = N) (har : am j = N)
    (q : PosShare TreeShare) (fs : Buf (Elt F) (src.view.loc (c : Thread nD τ))) (fd : Buf (Elt F) (dst.view.loc (c : Thread nD τ)))
    (hpay : iprop(hold c dst (dst.view.write (Elt F) (m (dst.view.loc (c : Thread nD τ))) (src.view.read (Elt F) fs) Finset.univ)
      ∗ (src.view.loc (c : Thread nD τ) ↦[src.view.set]{q} fs)) ⊢ pay m PS c j 0) :
    iprop(Ctx m PS K ∗ (src.view.loc (c : Thread nD τ) ↦[src.view.set]{q} fs) ∗ hold c dst fd ∗ tk (F := F) c j 0)
      ⊢ iprop((cr (F := F) c j N -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) sR hsrc hdst hsem) k) Q) := by
  subst hR
  unfold tk cr
  iintro ⟨#HC, HS, HD, HT⟩ Hk
  iapply (Rounds.wp_copy_pointsTo 𝒱₀ ER (meshRd m PS) (c : Thread nD τ) none (κ := K (c, j)) (q := q) (fs := fs) (fd := fd)
    (r := 0) (d := 0) (by rw [duties_k, du_on c j onr hj]; exact Finset.mem_singleton_self _) () N hN ((amount_k m PS c j 0 0).trans har)
    (by rw [payload_k, written_eq m]; exact hpay)) $$ [HS HD HT]
  · isplitr; · iapply (ctx_inv m PS K (c, j)) $$ HC
    isplitl [HS]; · iexact HS
    isplitl [HD]; · unfold hold; iexact HD
    isplitl [HT]; · iexact HT
    iapply (ctx_reached m PS K (c, j)) $$ HC
  iintro Hc
  iapply Hk
  iexact Hc

end Steps

/-- A cell whose credits are all spent, or that has none, closes at zero. -/
theorem close1 (c : Dev nD) (j : Fin 32) : iprop(Ctx m PS K ∗ at1 (F := F) c j) ⊢ iprop(|={Set.univ}=> semVal (kcell (c, j)) 0) := by
  unfold at1
  iintro ⟨#HC, HA⟩
  iapply (Rounds.cell_close ER (meshRd m PS) (Set.mem_univ (K (c, j))) (fun h => h) (R := 1) (duties_later m PS (kcell (c, j))))
  isplitr; · iapply (ctx_inv m PS K (c, j)) $$ HC
  iexact HA
theorem close0 (c : Dev nD) (j : Fin 32) (h : du c j = ∅) : iprop(Ctx m PS K ∗ at0 (F := F) c j) ⊢ iprop(|={Set.univ}=> semVal (kcell (c, j)) 0) := by
  unfold at0
  iintro ⟨#HC, HA⟩
  iapply (Rounds.cell_close ER (meshRd m PS) (Set.mem_univ (K (c, j))) (fun h => h) (R := 0) (duties_off m PS c j h))
  isplitr; · iapply (ctx_inv m PS K (c, j)) $$ HC
  iexact HA

/-- A piece of program, then the rest. -/
theorem wp_seq {α β : Type} (c : Dev nD) (p : Prog (TpuEff nD τ sig (Elt F) Λ₀ .tc) α) (k : α → Prog (TpuEff nD τ sig (Elt F) Λ₀ .tc) β) (R : α → sProp 𝕄) (Q : β → sProp 𝕄) :
    iprop(wp frame (wpE (defs₀ (F := F)) 𝒱₀ (c : Thread nD τ) none) Set.univ p R
        ∗ (∀ a, R a -∗ wp frame (wpE (defs₀ (F := F)) 𝒱₀ (c : Thread nD τ) none) Set.univ (k a) Q))
      ⊢ wp frame (wpE (defs₀ (F := F)) 𝒱₀ (c : Thread nD τ) none) Set.univ (p >>= k) Q := by
  rw [wp_bind]
  iintro ⟨H, Hk⟩
  iapply (wp_wand frame (wpE (defs₀ (F := F)) 𝒱₀ (c : Thread nD τ) none) Set.univ) $$ [H]
  · iexact H
  iintro %a HR
  iapply Hk $$ HR

end Cert.KernelIdeal.Mesh
-- ==== Proof.Buffers.lean ====
/-
The buffers of a device cut into the stretches the copies land on and the shares they read.
-/
module

public import proofs.«01_k».proof.Proof.Steps

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- A part of the body, at the buffers and the semaphores that the kernel has. -/
abbrev bufs.{u} {β : Sort u} (f : ∀ a0 : Memref sig .tc .vmem S1x2048x1024 .f32, a0.IsWhole →
  ∀ a1 : Memref sig .tc .vmem S1024x1024 .f32, a1.IsWhole →
  ∀ a2 : Memref sig .tc .hbm S1x2048x8x128 .f32, a2.IsWhole →
  ∀ a3 : Memref sig .tc .hbm S1x2048x8x128 .f32, a3.IsWhole →
  ∀ a4 : Memref sig .tc .vmem S1024x1024 .f32, a4.IsWhole →
  ∀ a5 : Memref sig .tc .vmem S1x2048x1024 .f32, a5.IsWhole →
  ∀ a6 : Memref sig .tc .vmem S2336x8x128 .f32, a6.IsWhole →
  ∀ a7 : Memref sig .tc .vmem S2336x8x128 .f32, a7.IsWhole →
  ∀ a8 : Memref sig .tc .vmem S2048x1024 .f32, a8.IsWhole →
  ∀ a9 : Memref sig .tc .vmem S32x1024 .f32, a9.IsWhole →
  ∀ a10 : Memref sig .tc .vmem S32x1040 .f32, a10.IsWhole →
  ∀ a11 : Memref sig .tc .vmem S3x32x1040 .f32, a11.IsWhole →
  DmaSems sig S16 → DmaSems sig S10 → DmaSems sig S4 → Sems sig S_ → β) : β :=
  f (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9

/-- The semaphores by number. -/
abbrev dsem6 {n : ℕ} (h : ∀ a, (![n] : Fin 1 → ℕ) a + S1.size a ≤ S16.size a) : DmaSem sig :=
  ((cc0_scratch6.slice (Rect.unit (s := S16) ![n] S1.size h)).squeeze S_ squeezes_S1_S_).sem
abbrev dsem7 {n : ℕ} (h : ∀ a, (![n] : Fin 1 → ℕ) a + S1.size a ≤ S10.size a) : DmaSem sig :=
  ((cc0_scratch7.slice (Rect.unit (s := S10) ![n] S1.size h)).squeeze S_ squeezes_S1_S_).sem
abbrev dsem8 {n : ℕ} (h : ∀ a, (![n] : Fin 1 → ℕ) a + S1.size a ≤ S4.size a) : DmaSem sig :=
  ((cc0_scratch8.slice (Rect.unit (s := S4) ![n] S1.size h)).squeeze S_ squeezes_S1_S_).sem

variable (m : (ℓ : Loc nD τ sig) → Buf (Elt F) ℓ)

/-! ## Conjuncts in any order -/

omit [FloatOps F] [Named F] in
theorem eq_of_iff {P Q : sProp 𝕄} (h : P ⊣⊢ Q) : P = Q := BI.Entails.antisymm h.1 h.2

instance star_comm : _root_.Std.Commutative (α := sProp 𝕄) (fun P Q => iprop(P ∗ Q)) := ⟨fun P Q => eq_of_iff Laws.sep_comm⟩
instance star_assoc : _root_.Std.Associative (α := sProp 𝕄) (fun P Q => iprop(P ∗ Q)) := ⟨fun P Q R => eq_of_iff Laws.sep_assoc⟩

/-! ## A buffer as its stretches -/

omit [FloatOps F] [Named F] in
theorem pts_parts4 {ℓ : Loc nD τ sig} (A B C D : Finset ℓ.2.ty.Idx) (hAB : Disjoint A B) (hAC : Disjoint A C) (hBC : Disjoint B C)
    (hD : (((Finset.univ \ A) \ B) \ C) = D) (f a b c d : Buf (Elt F) ℓ)
    (ha : ∀ i ∈ A, f i = a i) (hb : ∀ i ∈ B, f i = b i) (hc : ∀ i ∈ C, f i = c i) (hd : ∀ i ∈ D, f i = d i) :
    ((ℓ ↦{fullShare} f) : sProp 𝕄) = iprop((ℓ ↦[A]{fullShare} a) ∗ (ℓ ↦[B]{fullShare} b) ∗ (ℓ ↦[C]{fullShare} c) ∗ (ℓ ↦[D]{fullShare} d)) := by
  have h1 : ((ℓ ↦[Finset.univ]{fullShare} f) : sProp 𝕄) = _ := eq_of_iff (pointsTo_split_subset (Finset.subset_univ A))
  have h2 : ((ℓ ↦[Finset.univ \ A]{fullShare} f) : sProp 𝕄) = _ := eq_of_iff (pointsTo_split_subset (I := B)
    (fun i hi => Finset.mem_sdiff.mpr ⟨Finset.mem_univ _, fun h => Finset.disjoint_left.mp hAB h hi⟩))
  have h3 : ((ℓ ↦[(Finset.univ \ A) \ B]{fullShare} f) : sProp 𝕄) = _ := eq_of_iff (pointsTo_split_subset (I := C)
    (fun i hi => Finset.mem_sdiff.mpr ⟨Finset.mem_sdiff.mpr ⟨Finset.mem_univ _, fun h => Finset.disjoint_left.mp hAC h hi⟩, fun h => Finset.disjoint_left.mp hBC h hi⟩))
  rw [h1, h2, h3, hD, pointsTo_congr ha, pointsTo_congr hb, pointsTo_congr hc, pointsTo_congr hd]

theorem mem_rows {o n : ℕ} {inb} (i : S2336x8x128.Idx) :
    i ∈ (Rect.unit (s := S2336x8x128) ![o, 0, 0] ![n, 8, 128] inb).set ↔ o ≤ (i 0).val ∧ (i 0).val < o + n := by
  refine Rect.mem_set_unit.trans ⟨fun h => h 0, fun h a => ?_⟩
  match a with
  | ⟨0, _⟩ => exact h
  | ⟨1, _⟩ => exact ⟨Nat.zero_le _, by have : (i 1).val < 8 := (i 1).isLt; simpa using this⟩
  | ⟨2, _⟩ => exact ⟨Nat.zero_le _, by have : (i 2).val < 128 := (i 2).isLt; simpa using this⟩

theorem mem_dG6 (i : S2336x8x128.Idx) : i ∈ (dG m6).view.set ↔ 0 ≤ (i 0).val ∧ (i 0).val < 0 + 32 := by
  rw [show (dG m6).view.set = _ from View.set_slice_whole cc0_scratch0 _]; exact mem_rows i
theorem mem_dL6 (i : S2336x8x128.Idx) : i ∈ (dL m6).view.set ↔ 32 ≤ (i 0).val ∧ (i 0).val < 32 + 128 := by
  rw [show (dL m6).view.set = _ from View.set_slice_whole cc0_scratch0 _]; exact mem_rows i
theorem mem_dM6 (i : S2336x8x128.Idx) : i ∈ (dM m6).view.set ↔ 160 ≤ (i 0).val ∧ (i 0).val < 160 + 2048 := by
  rw [show (dM m6).view.set = _ from View.set_slice_whole cc0_scratch0 _]; exact mem_rows i
theorem mem_dR6 (i : S2336x8x128.Idx) : i ∈ (dR m6).view.set ↔ 2208 ≤ (i 0).val ∧ (i 0).val < 2208 + 128 := by
  rw [show (dR m6).view.set = _ from View.set_slice_whole cc0_scratch0 _]; exact mem_rows i
theorem mem_dG7 (i : S2336x8x128.Idx) : i ∈ (dG m7).view.set ↔ 0 ≤ (i 0).val ∧ (i 0).val < 0 + 32 := by
  rw [show (dG m7).view.set = _ from View.set_slice_whole cc0_scratch1 _]; exact mem_rows i
theorem mem_dL7 (i : S2336x8x128.Idx) : i ∈ (dL m7).view.set ↔ 32 ≤ (i 0).val ∧ (i 0).val < 32 + 128 := by
  rw [show (dL m7).view.set = _ from View.set_slice_whole cc0_scratch1 _]; exact mem_rows i
theorem mem_dM7 (i : S2336x8x128.Idx) : i ∈ (dM m7).view.set ↔ 160 ≤ (i 0).val ∧ (i 0).val < 160 + 2048 := by
  rw [show (dM m7).view.set = _ from View.set_slice_whole cc0_scratch1 _]; exact mem_rows i
theorem mem_dR7 (i : S2336x8x128.Idx) : i ∈ (dR m7).view.set ↔ 2208 ≤ (i 0).val ∧ (i 0).val < 2208 + 128 := by
  rw [show (dR m7).view.set = _ from View.set_slice_whole cc0_scratch1 _]; exact mem_rows i

/-- A key or value buffer holding `g`, `l`, `o`, `r` on its four stretches. -/
def cat4 {V : Type} (g l o r : S2336x8x128.Idx → V) : S2336x8x128.Idx → V := fun i =>
  if (i 0).val < 32 then g i else if (i 0).val < 160 then l i else if (i 0).val < 2208 then o i else r i

theorem cat4_same {V : Type} (f : S2336x8x128.Idx → V) : cat4 f f f f = f := by
  funext i; unfold cat4; split_ifs <;> rfl

abbrev B6 (F : FTy → Type) : Type := (cc0_scratch0 : Ref sig .tc).ty.Contents (Elt F)
abbrev B7 (F : FTy → Type) : Type := (cc0_scratch1 : Ref sig .tc).ty.Contents (Elt F)

theorem kcat_parts (c : Dev nD) (g l o r : B6 F) :
    ((((c : Thread nD τ).loc cc0_scratch0) ↦{fullShare} (cat4 g l o r : B6 F)) : sProp 𝕄)
      = iprop(hold c (dG m6) g ∗ hold c (dL m6) l ∗ hold c (dM m6) o ∗ hold c (dR m6) r) := by
  unfold hold
  refine pts_parts4 (ℓ := (c : Thread nD τ).loc cc0_scratch0) (dG m6).view.set (dL m6).view.set (dM m6).view.set (dR m6).view.set
    (Finset.disjoint_left.mpr fun i h h' => ?_) (Finset.disjoint_left.mpr fun i h h' => ?_) (Finset.disjoint_left.mpr fun i h h' => ?_)
    (Finset.ext fun i => ?_) _ _ _ _ _ (fun i h => ?_) (fun i h => ?_) (fun i h => ?_) (fun i h => ?_)
  · have := (mem_dG6 i).mp h; have := (mem_dL6 i).mp h'; omega
  · have := (mem_dG6 i).mp h; have := (mem_dM6 i).mp h'; omega
  · have := (mem_dL6 i).mp h; have := (mem_dM6 i).mp h'; omega
  · rw [Finset.mem_sdiff, Finset.mem_sdiff, Finset.mem_sdiff, mem_dG6 i, mem_dL6 i, mem_dM6 i, mem_dR6 i]
    have : (i 0).val < 2336 := (i 0).isLt
    have := Finset.mem_univ i
    constructor
    · rintro ⟨⟨⟨-, h1⟩, h2⟩, h3⟩; omega
    · intro h; exact ⟨⟨⟨this, by omega⟩, by omega⟩, by omega⟩
  · have := (mem_dG6 i).mp h; unfold cat4; rw [if_pos (by omega)]
  · have := (mem_dL6 i).mp h; unfold cat4; rw [if_neg (by omega), if_pos (by omega)]
  · have := (mem_dM6 i).mp h; unfold cat4; rw [if_neg (by omega), if_neg (by omega), if_pos (by omega)]
  · have := (mem_dR6 i).mp h; unfold cat4; rw [if_neg (by omega), if_neg (by omega), if_neg (by omega)]

theorem vcat_parts (c : Dev nD) (g l o r : B7 F) :
    ((((c : Thread nD τ).loc cc0_scratch1) ↦{fullShare} (cat4 g l o r : B7 F)) : sProp 𝕄)
      = iprop(hold c (dG m7) g ∗ hold c (dL m7) l ∗ hold c (dM m7) o ∗ hold c (dR m7) r) := by
  unfold hold
  refine pts_parts4 (ℓ := (c : Thread nD τ).loc cc0_scratch1) (dG m7).view.set (dL m7).view.set (dM m7).view.set (dR m7).view.set
    (Finset.disjoint_left.mpr fun i h h' => ?_) (Finset.disjoint_left.mpr fun i h h' => ?_) (Finset.disjoint_left.mpr fun i h h' => ?_)
    (Finset.ext fun i => ?_) _ _ _ _ _ (fun i h => ?_) (fun i h => ?_) (fun i h => ?_) (fun i h => ?_)
  · have := (mem_dG7 i).mp h; have := (mem_dL7 i).mp h'; omega
  · have := (mem_dG7 i).mp h; have := (mem_dM7 i).mp h'; omega
  · have := (mem_dL7 i).mp h; have := (mem_dM7 i).mp h'; omega
  · rw [Finset.mem_sdiff, Finset.mem_sdiff, Finset.mem_sdiff, mem_dG7 i, mem_dL7 i, mem_dM7 i, mem_dR7 i]
    have : (i 0).val < 2336 := (i 0).isLt
    have := Finset.mem_univ i
    constructor
    · rintro ⟨⟨⟨-, h1⟩, h2⟩, h3⟩; omega
    · intro h; exact ⟨⟨⟨this, by omega⟩, by omega⟩, by omega⟩
  · have := (mem_dG7 i).mp h; unfold cat4; rw [if_pos (by omega)]
  · have := (mem_dL7 i).mp h; unfold cat4; rw [if_neg (by omega), if_pos (by omega)]
  · have := (mem_dM7 i).mp h; unfold cat4; rw [if_neg (by omega), if_neg (by omega), if_pos (by omega)]
  · have := (mem_dR7 i).mp h; unfold cat4; rw [if_neg (by omega), if_neg (by omega), if_neg (by omega)]

/-! ## The landing places of the partial sums -/

theorem mem_slab {o : ℕ} {inb} (i : S3x32x1040.Idx) :
    i ∈ (Rect.unit (s := S3x32x1040) ![o, 0, 0] ![1, 32, 1040] inb).set ↔ o ≤ (i 0).val ∧ (i 0).val < o + 1 := by
  refine Rect.mem_set_unit.trans ⟨fun h => h 0, fun h a => ?_⟩
  match a with
  | ⟨0, _⟩ => exact h
  | ⟨1, _⟩ => exact ⟨Nat.zero_le _, by have : (i 1).val < 32 := (i 1).isLt; simpa using this⟩
  | ⟨2, _⟩ => exact ⟨Nat.zero_le _, by have : (i 2).val < 1040 := (i 2).isLt; simpa using this⟩
theorem mem_p0 (i : S3x32x1040.Idx) : i ∈ p0.view.set ↔ 0 ≤ (i 0).val ∧ (i 0).val < 0 + 1 := by
  rw [show p0.view.set = _ from (View.set_reshape _ _).trans (View.set_slice_whole cc0_scratch5 _)]; exact mem_slab i
theorem mem_p1 (i : S3x32x1040.Idx) : i ∈ p1.view.set ↔ 1 ≤ (i 0).val ∧ (i 0).val < 1 + 1 := by
  rw [show p1.view.set = _ from (View.set_reshape _ _).trans (View.set_slice_whole cc0_scratch5 _)]; exact mem_slab i
theorem mem_p2 (i : S3x32x1040.Idx) : i ∈ p2.view.set ↔ 2 ≤ (i 0).val ∧ (i 0).val < 2 + 1 := by
  rw [show p2.view.set = _ from (View.set_reshape _ _).trans (View.set_slice_whole cc0_scratch5 _)]; exact mem_slab i

def cat3 {V : Type} (a b d : S3x32x1040.Idx → V) : S3x32x1040.Idx → V := fun i =>
  if (i 0).val < 1 then a i else if (i 0).val < 2 then b i else d i
theorem cat3_same {V : Type} (f : S3x32x1040.Idx → V) : cat3 f f f = f := by
  funext i; unfold cat3; split_ifs <;> rfl

abbrev B11 (F : FTy → Type) : Type := (cc0_scratch5 : Ref sig .tc).ty.Contents (Elt F)

theorem prec_parts (c : Dev nD) (a b d : B11 F) :
    ((((c : Thread nD τ).loc cc0_scratch5) ↦{fullShare} (cat3 a b d : B11 F)) : sProp 𝕄)
      = iprop(hold c p0 a ∗ hold c p1 b ∗ hold c p2 d) := by
  unfold hold
  have h : (((c : Thread nD τ).loc cc0_scratch5 ↦{fullShare} (cat3 a b d : B11 F)) : sProp 𝕄) = _ :=
    pts_parts4 (ℓ := (c : Thread nD τ).loc cc0_scratch5) p0.view.set p1.view.set ∅ p2.view.set
    (Finset.disjoint_left.mpr fun i h h' => by have := (mem_p0 i).mp h; have := (mem_p1 i).mp h'; omega) (Finset.disjoint_empty_right _) (Finset.disjoint_empty_right _)
    (Finset.ext fun i => by
      rw [Finset.mem_sdiff, Finset.mem_sdiff, Finset.mem_sdiff, mem_p0 i, mem_p1 i, mem_p2 i]
      have : (i 0).val < 3 := (i 0).isLt
      have h0 := Finset.mem_univ i
      constructor
      · rintro ⟨⟨⟨-, h1⟩, h2⟩, h3⟩; omega
      · intro h; exact ⟨⟨⟨h0, by omega⟩, by omega⟩, Finset.notMem_empty _⟩) _ a b a d
    (fun i h => by have := (mem_p0 i).mp h; unfold cat3; rw [if_pos (by omega)])
    (fun i h => by have := (mem_p1 i).mp h; unfold cat3; rw [if_neg (by omega), if_pos (by omega)])
    (fun i h => absurd h (Finset.notMem_empty _))
    (fun i h => by have := (mem_p2 i).mp h; unfold cat3; rw [if_neg (by omega), if_neg (by omega)])
  rw [h, pointsTo_empty]
  exact congrArg _ (congrArg _ (eq_of_iff Laws.emp_sep))

/-! ## Splitting the sources of several copies -/

def rest_ {sp s e} (c : Dev nD) (v : Memref sig .tc sp s e) (q : PosShare TreeShare) (f : Buf (Elt F) (v.view.loc (c : Thread nD τ))) : sProp 𝕄 :=
  (v.view.loc (c : Thread nD τ) ↦[Finset.univ \ v.view.set]{q} f)

theorem peel {sp s e} (c : Dev nD) (v : Memref sig .tc sp s e) (i : ℕ) (f : Buf (Elt F) (v.view.loc (c : Thread nD τ))) :
    ((v.view.loc (c : Thread nD τ) ↦{shRest i} f) : sProp 𝕄)
      = iprop(((v.view.loc (c : Thread nD τ) ↦[v.view.set]{sh i} f) ∗ rest_ c v (sh i) f) ∗ (v.view.loc (c : Thread nD τ) ↦{shRest (i + 1)} f)) := by
  have h1 : ((v.view.loc (c : Thread nD τ) ↦[Finset.univ]{shRest i} f) : sProp 𝕄) = _ := eq_of_iff (pointsTo_share (PosShare.mem_left_op_right (shRest i)))
  have h2 : ((v.view.loc (c : Thread nD τ) ↦[Finset.univ]{sh i} f) : sProp 𝕄) = _ := eq_of_iff (pointsTo_split_subset (Finset.subset_univ v.view.set))
  unfold rest_
  rw [h1, show (shRest i).left = sh i from rfl, h2]
  rfl

/-- What remains of the keys (values) beside the sources of the copies. -/
def kvRest (c : Dev nD) (a : Memref sig .tc .hbm S1x2048x8x128 .f32) : sProp 𝕄 :=
  iprop(rest_ c (sLo a) (sh 0) (m ((sLo a).view.loc (c : Thread nD τ))) ∗ rest_ c (sHi a) (sh 1) (m ((sHi a).view.loc (c : Thread nD τ))) ∗ rest_ c (s32 a) (sh 2) (m ((s32 a).view.loc (c : Thread nD τ)))
    ∗ rest_ c (s32 a) (sh 3) (m ((s32 a).view.loc (c : Thread nD τ))) ∗ rest_ c (s32 a) (sh 4) (m ((s32 a).view.loc (c : Thread nD τ))) ∗ rest_ c (sAll a) (sh 5) (m ((sAll a).view.loc (c : Thread nD τ)))
    ∗ rest_ c (s32 a) (sh 6) (m ((s32 a).view.loc (c : Thread nD τ))) ∗ (a.view.loc (c : Thread nD τ) ↦{shRest 7} m (a.view.loc (c : Thread nD τ))))

theorem kv_parts (c : Dev nD) (a : Memref sig .tc .hbm S1x2048x8x128 .f32) :
    ((a.view.loc (c : Thread nD τ) ↦{fullShare} m (a.view.loc (c : Thread nD τ))) : sProp 𝕄)
      = iprop(at_ m c (sLo a) (sh 0) ∗ at_ m c (sHi a) (sh 1) ∗ at_ m c (s32 a) (sh 2) ∗ at_ m c (s32 a) (sh 3) ∗ at_ m c (s32 a) (sh 4)
          ∗ at_ m c (sAll a) (sh 5) ∗ at_ m c (s32 a) (sh 6) ∗ kvRest m c a) := by
  have h0 : ((a.view.loc (c : Thread nD τ) ↦{shRest 0} m (a.view.loc (c : Thread nD τ))) : sProp 𝕄) = iprop((at_ m c (sLo a) (sh 0) ∗ rest_ c (sLo a) (sh 0) (m ((sLo a).view.loc (c : Thread nD τ)))) ∗ (a.view.loc (c : Thread nD τ) ↦{shRest 1} m (a.view.loc (c : Thread nD τ)))) := peel c (sLo a) 0 (m (a.view.loc (c : Thread nD τ)))
  have h1 : ((a.view.loc (c : Thread nD τ) ↦{shRest 1} m (a.view.loc (c : Thread nD τ))) : sProp 𝕄) = iprop((at_ m c (sHi a) (sh 1) ∗ rest_ c (sHi a) (sh 1) (m ((sHi a).view.loc (c : Thread nD τ)))) ∗ (a.view.loc (c : Thread nD τ) ↦{shRest 2} m (a.view.loc (c : Thread nD τ)))) := peel c (sHi a) 1 (m (a.view.loc (c : Thread nD τ)))
  have h2 : ((a.view.loc (c : Thread nD τ) ↦{shRest 2} m (a.view.loc (c : Thread nD τ))) : sProp 𝕄) = iprop((at_ m c (s32 a) (sh 2) ∗ rest_ c (s32 a) (sh 2) (m ((s32 a).view.loc (c : Thread nD τ)))) ∗ (a.view.loc (c : Thread nD τ) ↦{shRest 3} m (a.view.loc (c : Thread nD τ)))) := peel c (s32 a) 2 (m (a.view.loc (c : Thread nD τ)))
  have h3 : ((a.view.loc (c : Thread nD τ) ↦{shRest 3} m (a.view.loc (c : Thread nD τ))) : sProp 𝕄) = iprop((at_ m c (s32 a) (sh 3) ∗ rest_ c (s32 a) (sh 3) (m ((s32 a).view.loc (c : Thread nD τ)))) ∗ (a.view.loc (c : Thread nD τ) ↦{shRest 4} m (a.view.loc (c : Thread nD τ)))) := peel c (s32 a) 3 (m (a.view.loc (c : Thread nD τ)))
  have h4 : ((a.view.loc (c : Thread nD τ) ↦{shRest 4} m (a.view.loc (c : Thread nD τ))) : sProp 𝕄) = iprop((at_ m c (s32 a) (sh 4) ∗ rest_ c (s32 a) (sh 4) (m ((s32 a).view.loc (c : Thread nD τ)))) ∗ (a.view.loc (c : Thread nD τ) ↦{shRest 5} m (a.view.loc (c : Thread nD τ)))) := peel c (s32 a) 4 (m (a.view.loc (c : Thread nD τ)))
  have h5 : ((a.view.loc (c : Thread nD τ) ↦{shRest 5} m (a.view.loc (c : Thread nD τ))) : sProp 𝕄) = iprop((at_ m c (sAll a) (sh 5) ∗ rest_ c (sAll a) (sh 5) (m ((sAll a).view.loc (c : Thread nD τ)))) ∗ (a.view.loc (c : Thread nD τ) ↦{shRest 6} m (a.view.loc (c : Thread nD τ)))) := peel c (sAll a) 5 (m (a.view.loc (c : Thread nD τ)))
  have h6 : ((a.view.loc (c : Thread nD τ) ↦{shRest 6} m (a.view.loc (c : Thread nD τ))) : sProp 𝕄) = iprop((at_ m c (s32 a) (sh 6) ∗ rest_ c (s32 a) (sh 6) (m ((s32 a).view.loc (c : Thread nD τ)))) ∗ (a.view.loc (c : Thread nD τ) ↦{shRest 7} m (a.view.loc (c : Thread nD τ)))) := peel c (s32 a) 6 (m (a.view.loc (c : Thread nD τ)))
  rw [show fullShare = shRest 0 from rfl, h0, h1, h2, h3, h4, h5, h6]
  unfold kvRest
  ac_rfl

/-- The queries' first rows as three copies' sources, the whole at what share remains. -/
def qRest (c : Dev nD) (f : (cc0_scratch2 : Ref sig .tc).ty.Contents (Elt F)) : sProp 𝕄 :=
  iprop(rest_ c q32 (sh 0) f ∗ rest_ c q32 (sh 1) f ∗ rest_ c q32 (sh 2) f)
def qSrc (c : Dev nD) (i : ℕ) (f : (cc0_scratch2 : Ref sig .tc).ty.Contents (Elt F)) : sProp 𝕄 := (q32.view.loc (c : Thread nD τ) ↦[q32.view.set]{sh i} f)

theorem q_parts (c : Dev nD) (f : (cc0_scratch2 : Ref sig .tc).ty.Contents (Elt F)) :
    ((((c : Thread nD τ).loc cc0_scratch2) ↦{fullShare} f) : sProp 𝕄)
      = iprop(qSrc c 0 f ∗ qSrc c 1 f ∗ qSrc c 2 f ∗ qRest c f ∗ (((c : Thread nD τ).loc cc0_scratch2) ↦{shRest 3} f)) := by
  have h0 : ((((c : Thread nD τ).loc cc0_scratch2) ↦{shRest 0} f) : sProp 𝕄) = iprop((qSrc c 0 f ∗ rest_ c q32 (sh 0) f) ∗ (((c : Thread nD τ).loc cc0_scratch2) ↦{shRest 1} f)) := peel c q32 0 f
  have h1 : ((((c : Thread nD τ).loc cc0_scratch2) ↦{shRest 1} f) : sProp 𝕄) = iprop((qSrc c 1 f ∗ rest_ c q32 (sh 1) f) ∗ (((c : Thread nD τ).loc cc0_scratch2) ↦{shRest 2} f)) := peel c q32 1 f
  have h2 : ((((c : Thread nD τ).loc cc0_scratch2) ↦{shRest 2} f) : sProp 𝕄) = iprop((qSrc c 2 f ∗ rest_ c q32 (sh 2) f) ∗ (((c : Thread nD τ).loc cc0_scratch2) ↦{shRest 3} f)) := peel c q32 2 f
  rw [show fullShare = shRest 0 from rfl, h0, h1, h2]
  unfold qRest
  ac_rfl

end Cert.KernelIdeal.Mesh
-- ==== Proof.Stretches.lean ====
/-
The program's conditional stretches by name, and the parts as sequences of them.
-/
module

public import proofs.«01_k».proof.Proof.Buffers

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

def stL (c : Dev nD) : Prog (TpuEff nD τ sig (Elt F) Λ₀ .tc) PUnit :=
  if h : k0_cond1 c = 1#1 then do
    Prog.lift (.enqueueDma (sLo kM) (.remote (Dev.tc (⟨k0_dev4 c, k0_dev4_lt c h⟩ : Dev nD)) (dR m6) (SemLoc.dma (dsem6 inb_S16_S1_0))) (SemLoc.dma (dsem7 inb_S10_S1_2)) ((View.wordExact_bits rfl).reshape _ _) (View.wordExact_bits rfl) ⟨⟨rfl, Or.inl rfl⟩, trivial⟩)
    Prog.lift (.enqueueDma (sLo vM) (.remote (Dev.tc (⟨k0_dev5 c, k0_dev5_lt c h⟩ : Dev nD)) (dR m7) (SemLoc.dma (dsem6 inb_S16_S1_1))) (SemLoc.dma (dsem7 inb_S10_S1_3)) ((View.wordExact_bits rfl).reshape _ _) (View.wordExact_bits rfl) ⟨⟨rfl, Or.inl rfl⟩, trivial⟩)
    pure ⟨⟩
  else pure ⟨⟩

def stR (c : Dev nD) : Prog (TpuEff nD τ sig (Elt F) Λ₀ .tc) PUnit :=
  if h : k0_cond2 c = 1#1 then do
    Prog.lift (.enqueueDma (sHi kM) (.remote (Dev.tc (⟨k0_dev6 c, k0_dev6_lt c h⟩ : Dev nD)) (dL m6) (SemLoc.dma (dsem6 inb_S16_S1_2))) (SemLoc.dma (dsem7 inb_S10_S1_0)) ((View.wordExact_bits rfl).reshape _ _) (View.wordExact_bits rfl) ⟨⟨rfl, Or.inl rfl⟩, trivial⟩)
    Prog.lift (.enqueueDma (sHi vM) (.remote (Dev.tc (⟨k0_dev7 c, k0_dev7_lt c h⟩ : Dev nD)) (dL m7) (SemLoc.dma (dsem6 inb_S16_S1_3))) (SemLoc.dma (dsem7 inb_S10_S1_1)) ((View.wordExact_bits rfl).reshape _ _) (View.wordExact_bits rfl) ⟨⟨rfl, Or.inl rfl⟩, trivial⟩)
    pure ⟨⟩
  else pure ⟨⟩

def stG (c : Dev nD) : Prog (TpuEff nD τ sig (Elt F) Λ₀ .tc) PUnit :=
  if h : k0_cond3 c = 1#1 then do
    Prog.lift (.enqueueDma (s32 kM) (.remote (Dev.tc (⟨k0_dev8, k0_dev8_lt c h⟩ : Dev nD)) (dG m6) (SemLoc.dma (dsem6 inb_S16_S1_4))) (SemLoc.dma (dsem7 inb_S10_S1_4)) ((View.wordExact_bits rfl).reshape _ _) (View.wordExact_bits rfl) ⟨⟨rfl, Or.inl rfl⟩, trivial⟩)
    Prog.lift (.enqueueDma (s32 vM) (.remote (Dev.tc (⟨k0_dev9, k0_dev9_lt c h⟩ : Dev nD)) (dG m7) (SemLoc.dma (dsem6 inb_S16_S1_7))) (SemLoc.dma (dsem7 inb_S10_S1_5)) ((View.wordExact_bits rfl).reshape _ _) (View.wordExact_bits rfl) ⟨⟨rfl, Or.inl rfl⟩, trivial⟩)
    Prog.lift (.enqueueDma (s32 kM) (.remote (Dev.tc (⟨k0_dev10, k0_dev10_lt c h⟩ : Dev nD)) (dG m6) (SemLoc.dma (dsem6 inb_S16_S1_5))) (SemLoc.dma (dsem7 inb_S10_S1_4)) ((View.wordExact_bits rfl).reshape _ _) (View.wordExact_bits rfl) ⟨⟨rfl, Or.inl rfl⟩, trivial⟩)
    Prog.lift (.enqueueDma (s32 vM) (.remote (Dev.tc (⟨k0_dev11, k0_dev11_lt c h⟩ : Dev nD)) (dG m7) (SemLoc.dma (dsem6 inb_S16_S1_8))) (SemLoc.dma (dsem7 inb_S10_S1_5)) ((View.wordExact_bits rfl).reshape _ _) (View.wordExact_bits rfl) ⟨⟨rfl, Or.inl rfl⟩, trivial⟩)
    Prog.lift (.enqueueDma (s32 kM) (.remote (Dev.tc (⟨k0_dev12, k0_dev12_lt c h⟩ : Dev nD)) (dG m6) (SemLoc.dma (dsem6 inb_S16_S1_6))) (SemLoc.dma (dsem7 inb_S10_S1_4)) ((View.wordExact_bits rfl).reshape _ _) (View.wordExact_bits rfl) ⟨⟨rfl, Or.inl rfl⟩, trivial⟩)
    Prog.lift (.enqueueDma (s32 vM) (.remote (Dev.tc (⟨k0_dev13, k0_dev13_lt c h⟩ : Dev nD)) (dG m7) (SemLoc.dma (dsem6 inb_S16_S1_9))) (SemLoc.dma (dsem7 inb_S10_S1_5)) ((View.wordExact_bits rfl).reshape _ _) (View.wordExact_bits rfl) ⟨⟨rfl, Or.inl rfl⟩, trivial⟩)
    pure ⟨⟩
  else pure ⟨⟩

def stGl (b : BitVec 1) : Prog (TpuEff nD τ sig (Elt F) Λ₀ .tc) PUnit :=
  if h : b = 1#1 then do
    Prog.lift (.enqueueDma (s32 kM) (.here (dG m6)) (SemLoc.dma (dsem8 inb_S4_S1_2)) ((View.wordExact_bits rfl).reshape _ _) (View.wordExact_bits rfl) ⟨Or.inl rfl, trivial⟩)
    Prog.lift (.enqueueDma (s32 vM) (.here (dG m7)) (SemLoc.dma (dsem8 inb_S4_S1_3)) ((View.wordExact_bits rfl).reshape _ _) (View.wordExact_bits rfl) ⟨Or.inl rfl, trivial⟩)
    Prog.lift (.waitDma2 (dsem8 inb_S4_S1_2) (s32 kM) (dG m6) ((View.wordExact_bits rfl).reshape _ _) (View.wordExact_bits rfl))
    Prog.lift (.waitDma2 (dsem8 inb_S4_S1_3) (s32 vM) (dG m7) ((View.wordExact_bits rfl).reshape _ _) (View.wordExact_bits rfl))
    pure ⟨⟩
  else pure ⟨⟩

def stQ (c : Dev nD) : Prog (TpuEff nD τ sig (Elt F) Λ₀ .tc) PUnit :=
  if h : k0_cond5 c = 1#1 then do
    Prog.lift (.enqueueDma (q32) (.remote (Dev.tc (⟨k0_dev14, k0_dev14_lt c h⟩ : Dev nD)) (m9) (SemLoc.dma (dsem6 inb_S16_S1_10))) (SemLoc.dma (dsem7 inb_S10_S1_6)) (View.wordExact_bits rfl) (Memref.isWhole_whole _).wordExact ⟨⟨rfl, Or.inl rfl⟩, trivial⟩)
    Prog.lift (.enqueueDma (q32) (.remote (Dev.tc (⟨k0_dev15, k0_dev15_lt c h⟩ : Dev nD)) (m9) (SemLoc.dma (dsem6 inb_S16_S1_11))) (SemLoc.dma (dsem7 inb_S10_S1_6)) (View.wordExact_bits rfl) (Memref.isWhole_whole _).wordExact ⟨⟨rfl, Or.inl rfl⟩, trivial⟩)
    Prog.lift (.enqueueDma (q32) (.remote (Dev.tc (⟨k0_dev16, k0_dev16_lt c h⟩ : Dev nD)) (m9) (SemLoc.dma (dsem6 inb_S16_S1_12))) (SemLoc.dma (dsem7 inb_S10_S1_6)) (View.wordExact_bits rfl) (Memref.isWhole_whole _).wordExact ⟨⟨rfl, Or.inl rfl⟩, trivial⟩)
    pure ⟨⟩
  else pure ⟨⟩

def stRx (b : BitVec 1) : Prog (TpuEff nD τ sig (Elt F) Λ₀ .tc) PUnit :=
  if h : b = 1#1 then do
    Prog.lift (.waitDma2 (dsem7 inb_S10_S1_0) (sHi kM) (dL m6) ((View.wordExact_bits rfl).reshape _ _) (View.wordExact_bits rfl))
    Prog.lift (.waitDma2 (dsem7 inb_S10_S1_1) (sHi vM) (dL m7) ((View.wordExact_bits rfl).reshape _ _) (View.wordExact_bits rfl))
    Prog.lift (.waitDma2 (dsem7 inb_S10_S1_4) (s32 kM) (dG m6) ((View.wordExact_bits rfl).reshape _ _) (View.wordExact_bits rfl))
    Prog.lift (.waitDma2 (dsem7 inb_S10_S1_5) (s32 vM) (dG m7) ((View.wordExact_bits rfl).reshape _ _) (View.wordExact_bits rfl))
    Prog.lift (.waitDma2 (dsem7 inb_S10_S1_6) (q32) (m9) (View.wordExact_bits rfl) (Memref.isWhole_whole _).wordExact)
    pure ⟨⟩
  else pure ⟨⟩

def stRy (b : BitVec 1) : Prog (TpuEff nD τ sig (Elt F) Λ₀ .tc) PUnit :=
  if h : b = 1#1 then do
    Prog.lift (.waitDma2 (dsem7 inb_S10_S1_2) (sLo kM) (dR m6) ((View.wordExact_bits rfl).reshape _ _) (View.wordExact_bits rfl))
    Prog.lift (.waitDma2 (dsem7 inb_S10_S1_3) (sLo vM) (dR m7) ((View.wordExact_bits rfl).reshape _ _) (View.wordExact_bits rfl))
    pure ⟨⟩
  else pure ⟨⟩

def stP8 (c : Dev nD) : Prog (TpuEff nD τ sig (Elt F) Λ₀ .tc) PUnit :=
  if h : k0_cond8 c = 1#1 then do
    Prog.lift (.enqueueDma (m10) (.remote (Dev.tc (⟨k0_dev17, k0_dev17_lt c h⟩ : Dev nD)) (p0) (SemLoc.dma (dsem6 inb_S16_S1_13))) (SemLoc.dma (dsem7 inb_S10_S1_7)) (Memref.isWhole_whole _).wordExact ((View.wordExact_bits rfl).reshape _ _) ⟨⟨rfl, Or.inl rfl⟩, trivial⟩)
    pure ⟨⟩
  else pure ⟨⟩

def stP9 (c : Dev nD) : Prog (TpuEff nD τ sig (Elt F) Λ₀ .tc) PUnit :=
  if h : k0_cond9 c = 1#1 then do
    Prog.lift (.enqueueDma (m10) (.remote (Dev.tc (⟨k0_dev18, k0_dev18_lt c h⟩ : Dev nD)) (p1) (SemLoc.dma (dsem6 inb_S16_S1_13))) (SemLoc.dma (dsem7 inb_S10_S1_8)) (Memref.isWhole_whole _).wordExact ((View.wordExact_bits rfl).reshape _ _) ⟨⟨rfl, Or.inl rfl⟩, trivial⟩)
    pure ⟨⟩
  else pure ⟨⟩

def stP10 (c : Dev nD) : Prog (TpuEff nD τ sig (Elt F) Λ₀ .tc) PUnit :=
  if h : k0_cond10 c = 1#1 then do
    Prog.lift (.enqueueDma (m10) (.remote (Dev.tc (⟨k0_dev19, k0_dev19_lt c h⟩ : Dev nD)) (p2) (SemLoc.dma (dsem6 inb_S16_S1_13))) (SemLoc.dma (dsem7 inb_S10_S1_9)) (Memref.isWhole_whole _).wordExact ((View.wordExact_bits rfl).reshape _ _) ⟨⟨rfl, Or.inl rfl⟩, trivial⟩)
    pure ⟨⟩
  else pure ⟨⟩

def stEx (b : BitVec 1) : Prog (TpuEff nD τ sig (Elt F) Λ₀ .tc) PUnit :=
  if h : b = 1#1 then do
    Prog.lift (.waitDma2 (dsem6 inb_S16_S1_0) (dR m6) (sLo kM) (View.wordExact_bits rfl) ((View.wordExact_bits rfl).reshape _ _))
    Prog.lift (.waitDma2 (dsem6 inb_S16_S1_1) (dR m7) (sLo vM) (View.wordExact_bits rfl) ((View.wordExact_bits rfl).reshape _ _))
    Prog.lift (.waitDma2 (dsem6 inb_S16_S1_13) (p0) (m10) ((View.wordExact_bits rfl).reshape _ _) (Memref.isWhole_whole _).wordExact)
    pure ⟨⟩
  else pure ⟨⟩

def stEy (b : BitVec 1) : Prog (TpuEff nD τ sig (Elt F) Λ₀ .tc) PUnit :=
  if h : b = 1#1 then do
    Prog.lift (.waitDma2 (dsem6 inb_S16_S1_2) (dL m6) (sHi kM) (View.wordExact_bits rfl) ((View.wordExact_bits rfl).reshape _ _))
    Prog.lift (.waitDma2 (dsem6 inb_S16_S1_3) (dL m7) (sHi vM) (View.wordExact_bits rfl) ((View.wordExact_bits rfl).reshape _ _))
    pure ⟨⟩
  else pure ⟨⟩

def stEz (b : BitVec 1) : Prog (TpuEff nD τ sig (Elt F) Λ₀ .tc) PUnit :=
  if h : b = 1#1 then do
    Prog.lift (.waitDma2 (dsem6 inb_S16_S1_4) (dG m6) (s32 kM) (View.wordExact_bits rfl) ((View.wordExact_bits rfl).reshape _ _))
    Prog.lift (.waitDma2 (dsem6 inb_S16_S1_7) (dG m7) (s32 vM) (View.wordExact_bits rfl) ((View.wordExact_bits rfl).reshape _ _))
    Prog.lift (.waitDma2 (dsem6 inb_S16_S1_10) (m9) (q32) (Memref.isWhole_whole _).wordExact (View.wordExact_bits rfl))
    Prog.lift (.waitDma2 (dsem6 inb_S16_S1_5) (dG m6) (s32 kM) (View.wordExact_bits rfl) ((View.wordExact_bits rfl).reshape _ _))
    Prog.lift (.waitDma2 (dsem6 inb_S16_S1_8) (dG m7) (s32 vM) (View.wordExact_bits rfl) ((View.wordExact_bits rfl).reshape _ _))
    Prog.lift (.waitDma2 (dsem6 inb_S16_S1_11) (m9) (q32) (Memref.isWhole_whole _).wordExact (View.wordExact_bits rfl))
    Prog.lift (.waitDma2 (dsem6 inb_S16_S1_6) (dG m6) (s32 kM) (View.wordExact_bits rfl) ((View.wordExact_bits rfl).reshape _ _))
    Prog.lift (.waitDma2 (dsem6 inb_S16_S1_9) (dG m7) (s32 vM) (View.wordExact_bits rfl) ((View.wordExact_bits rfl).reshape _ _))
    Prog.lift (.waitDma2 (dsem6 inb_S16_S1_12) (m9) (q32) (Memref.isWhole_whole _).wordExact (View.wordExact_bits rfl))
    pure ⟨⟩
  else pure ⟨⟩

abbrev isZ (v2 : BitVec 32) : BitVec 1 := Scalar.cmpi .ne (Scalar.extui (Scalar.cmpi .eq v2 0#32) : BitVec 32) 0#32
abbrev isP (v2 : BitVec 32) : BitVec 1 := Scalar.cmpi .ne (Scalar.extui (Scalar.cmpi .sgt v2 0#32) : BitVec 32) 0#32
abbrev isN (v2 : BitVec 32) : BitVec 1 := Scalar.cmpi .ne (Scalar.extui (Scalar.cmpi .slt v2 3#32) : BitVec 32) 0#32
abbrev barA : Sems sig S_ := SemArray.scalar (sig.barrier 0 rfl)

theorem part29_eq (c : Dev nD) (v2 v30 c4 : BitVec 32) (v31 : BitVec 1) : bufs (k0_part29 (F := F)) c v2 barA v30 c4 v31 = (do
    semSignalWord (⟨k0_dev3 c, k0_dev3_lt c⟩ : Dev nD) barA.sem 1#32
    semWaitWord barA.sem 3#32
    stL c; stR c; stG c
    Prog.lift (.enqueueDma (sAll kM) (.here (dM m6)) (SemLoc.dma (dsem8 inb_S4_S1_0)) ((View.wordExact_bits rfl).reshape _ _) (View.wordExact_bits rfl) ⟨Or.inl rfl, trivial⟩)) := by
  unfold bufs; rw [k0_part29_eq_skeleton]; unfold k0_part29_skel stL stR stG
  simp only [k0_part1_eq_skeleton, k0_part2_eq_skeleton]
  by_cases h1 : k0_cond1 c = 1#1 <;> by_cases h2 : k0_cond2 c = 1#1 <;> by_cases h3 : k0_cond3 c = 1#1 <;>
    simp only [h1, h2, h3, dif_pos, dif_neg, not_false_eq_true] <;> rfl

theorem part30_eq (c : Dev nD) (v2 : BitVec 32) : bufs (k0_part30 (F := F)) c v2 = (do
    Prog.lift (.enqueueDma (sAll vM) (.here (dM m7)) (SemLoc.dma (dsem8 inb_S4_S1_1)) ((View.wordExact_bits rfl).reshape _ _) (View.wordExact_bits rfl) ⟨Or.inl rfl, trivial⟩)
    stGl (isZ v2)
    let v65 : Vec F S1x2048x1024 .f32 ← Prog.lift (.load (Memref.whole cc0_stg0_0) (Rect.unit (s := S1x2048x1024) ![0, 0, 0] S1x2048x1024.size inb_S1x2048x1024_S1x2048x1024_0_0_0).toLoadRect (View.loadsAt_vmem h_S1x2048x1024))
    let v67 : Vec F S1024x1024 .f32 ← Prog.lift (.load (Memref.whole cc0_stg1_0) (Rect.unit (s := S1024x1024) ![0, 0] S1024x1024.size inb_S1024x1024_S1024x1024_0_0).toLoadRect (View.loadsAt_vmem h_S1024x1024))
    let v70 : Vec F S2048x1024 .f32 ← Prog.lift (.load m8 (Rect.unit (s := S2048x1024) ![0, 0] S2048x1024.size inb_S2048x1024_S2048x1024_0_0).toLoadRect (View.loadsAt_vmem h_S2048x1024))
    Prog.lift (.store m8 (Rect.unit (s := S2048x1024) ![0, 0] S2048x1024.size inb_S2048x1024_S2048x1024_0_0) (k0_pay109 v65 v67) Finset.univ (View.stores_vmem_bits_univ h_S2048x1024 rfl) (.inl rfl))
    stQ c; stRx (isP v2); stRy (isN v2)) := by
  unfold bufs; rw [k0_part30_eq_skeleton]; unfold k0_part30_skel stGl stQ stRx stRy
  simp only [k0_part3_eq_skeleton]
  by_cases h1 : isZ v2 = 1#1 <;> by_cases h2 : k0_cond5 c = 1#1 <;> by_cases h3 : isP v2 = 1#1 <;> by_cases h4 : isN v2 = 1#1 <;>
    simp only [h1, h2, h3, h4, dif_pos, dif_neg, not_false_eq_true] <;> rfl

theorem part39_eq (c : Dev nD) (v2 : BitVec 32) (b : BitVec 1) : bufs (k0_part39 (F := F)) c v2 b = (do
    stEx b; stEy (isN v2); stEz (isZ v2)
    semSignalWord (⟨k0_dev20 c, k0_dev20_lt c⟩ : Dev nD) cc0_scratch9.sem 1#32
    pure ⟨⟩) := by
  unfold bufs; rw [k0_part39_eq_skeleton]; unfold k0_part39_skel stEx stEy stEz
  simp only [k0_part26_eq_skeleton, k0_part27_eq_skeleton]
  by_cases h1 : b = 1#1 <;> by_cases h2 : isN v2 = 1#1 <;> by_cases h3 : isZ v2 = 1#1 <;>
    simp only [h1, h2, h3, dif_pos, dif_neg, not_false_eq_true] <;> rfl

end Cert.KernelIdeal.Mesh
-- ==== Proof.Sends.lean ====
/-
The stretches of the program that talk to other devices: what each takes and what it leaves.
-/
module

public import proofs.«01_k».proof.Proof.Stretches

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (PS : Dev nD → (cc0_scratch4 : Ref sig .tc).ty.Contents (Elt F) → Prop)
variable (K : Dev nD × Fin 32 → ℕ)

/-! ## Neighbours -/

theorem up13 (c : Dev nD) : up 1 (up 3 c) = c := by revert c; decide
theorem up31 (c : Dev nD) : up 3 (up 1 c) = c := by revert c; decide
theorem up3_lt (c : Dev nD) (h : 0 < c.val) : (up 3 c).val < 3 := by revert c; decide
theorem up1_pos (c : Dev nD) (h : c.val < 3) : 0 < (up 1 c).val := by revert c; decide
theorem ne_up (c : Dev nD) : c ≠ up 1 c ∧ c ≠ up 2 c ∧ c ≠ up 3 c := by revert c; decide

theorem pay_halo (c c' : Dev nD) (h : up 1 c = c') : pay m PS c 20 0 = hold c (dR m6) (landedM m c c' (dR m6) (sLo kM)) := by subst h; rfl
theorem pay_halo' (c c' : Dev nD) (h : up 1 c = c') : pay m PS c 21 0 = hold c (dR m7) (landedM m c c' (dR m7) (sLo vM)) := by subst h; rfl
theorem pay_halo2 (c c' : Dev nD) (h : up 3 c = c') : pay m PS c 18 0 = hold c (dL m6) (landedM m c c' (dL m6) (sHi kM)) := by subst h; rfl
theorem pay_halo2' (c c' : Dev nD) (h : up 3 c = c') : pay m PS c 19 0 = hold c (dL m7) (landedM m c c' (dL m7) (sHi vM)) := by subst h; rfl

/-! ## What each stretch takes and leaves: sources, landing places, tokens, credits -/

def srcL (c : Dev nD) : sProp 𝕄 := iprop(at_ m c (sLo kM) (sh 0) ∗ at_ m c (sLo vM) (sh 0))
def dstL (c : Dev nD) : sProp 𝕄 := if 0 < c.val then iprop(some_ (F := F) (up 3 c) (dR m6) ∗ some_ (F := F) (up 3 c) (dR m7)) else iprop(emp)
def tkL (c : Dev nD) : sProp 𝕄 := if 0 < c.val then iprop(tk (F := F) (up 3 c) 20 0 ∗ tk (F := F) c 2 0 ∗ tk (F := F) (up 3 c) 21 0 ∗ tk (F := F) c 3 0) else iprop(emp)
def sentL (c : Dev nD) : sProp 𝕄 := if 0 < c.val then iprop(cr (F := F) c 2 N128 ∗ cr (F := F) c 3 N128) else srcL m c

def srcR (c : Dev nD) : sProp 𝕄 := iprop(at_ m c (sHi kM) (sh 1) ∗ at_ m c (sHi vM) (sh 1))
def dstR (c : Dev nD) : sProp 𝕄 := if c.val < 3 then iprop(some_ (F := F) (up 1 c) (dL m6) ∗ some_ (F := F) (up 1 c) (dL m7)) else iprop(emp)
def tkR (c : Dev nD) : sProp 𝕄 := if c.val < 3 then iprop(tk (F := F) (up 1 c) 18 0 ∗ tk (F := F) c 4 0 ∗ tk (F := F) (up 1 c) 19 0 ∗ tk (F := F) c 5 0) else iprop(emp)
def sentR (c : Dev nD) : sProp 𝕄 := if c.val < 3 then iprop(cr (F := F) c 4 N128 ∗ cr (F := F) c 5 N128) else srcR m c

def srcG (c : Dev nD) : sProp 𝕄 := iprop((at_ m c (s32 kM) (sh 2) ∗ at_ m c (s32 kM) (sh 3) ∗ at_ m c (s32 kM) (sh 4)) ∗ (at_ m c (s32 vM) (sh 2) ∗ at_ m c (s32 vM) (sh 3) ∗ at_ m c (s32 vM) (sh 4)))
def dstG (c : Dev nD) : sProp 𝕄 := if c = 0 then iprop((some_ (F := F) 1 (dG m6) ∗ some_ (F := F) 1 (dG m7)) ∗ (some_ (F := F) 2 (dG m6) ∗ some_ (F := F) 2 (dG m7)) ∗ (some_ (F := F) 3 (dG m6) ∗ some_ (F := F) 3 (dG m7))) else iprop(emp)
def tkG (c : Dev nD) : sProp 𝕄 := if c = 0 then iprop((tk (F := F) 1 22 0 ∗ tk (F := F) 0 6 0 ∗ tk (F := F) 1 23 0 ∗ tk (F := F) 0 9 0)
  ∗ (tk (F := F) 2 22 0 ∗ tk (F := F) 0 7 0 ∗ tk (F := F) 2 23 0 ∗ tk (F := F) 0 10 0) ∗ (tk (F := F) 3 22 0 ∗ tk (F := F) 0 8 0 ∗ tk (F := F) 3 23 0 ∗ tk (F := F) 0 11 0)) else iprop(emp)
def sentG (c : Dev nD) : sProp 𝕄 := if c = 0 then iprop((cr (F := F) 0 6 N32 ∗ cr (F := F) 0 7 N32 ∗ cr (F := F) 0 8 N32) ∗ (cr (F := F) 0 9 N32 ∗ cr (F := F) 0 10 N32 ∗ cr (F := F) 0 11 N32)) else srcG m c

def srcQ (c : Dev nD) : sProp 𝕄 := iprop(qSrc c 0 (qsc m c) ∗ qSrc c 1 (qsc m c) ∗ qSrc c 2 (qsc m c))
def dstQ (c : Dev nD) : sProp 𝕄 := if c = 0 then iprop(some_ (F := F) 1 m9 ∗ some_ (F := F) 2 m9 ∗ some_ (F := F) 3 m9) else iprop(emp)
def tkQ (c : Dev nD) : sProp 𝕄 := if c = 0 then iprop((tk (F := F) 1 24 0 ∗ tk (F := F) 0 12 0) ∗ (tk (F := F) 2 24 0 ∗ tk (F := F) 0 13 0) ∗ (tk (F := F) 3 24 0 ∗ tk (F := F) 0 14 0)) else iprop(emp)
def sentQ (c : Dev nD) : sProp 𝕄 := if c = 0 then iprop(cr (F := F) 0 12 NQ ∗ cr (F := F) 0 13 NQ ∗ cr (F := F) 0 14 NQ) else srcQ m c

/-- Where a device stands at a transfer cell after its waits: past the one round if the cell is used. -/
def done (c : Dev nD) (j : Fin 32) : sProp 𝕄 := if on c j then at1 (F := F) c j else at0 (F := F) c j

def crRx (c : Dev nD) : sProp 𝕄 := if 0 < c.val then iprop(cr (F := F) c 18 N128 ∗ cr (F := F) c 19 N128 ∗ cr (F := F) c 22 N32 ∗ cr (F := F) c 23 N32 ∗ cr (F := F) c 24 NQ) else iprop(emp)
def gotRx (c : Dev nD) : sProp 𝕄 := if 0 < c.val then iprop(pay m PS c 18 0 ∗ pay m PS c 19 0 ∗ pay m PS c 22 0 ∗ pay m PS c 23 0 ∗ pay m PS c 24 0) else iprop(emp)
def crRy (c : Dev nD) : sProp 𝕄 := if c.val < 3 then iprop(cr (F := F) c 20 N128 ∗ cr (F := F) c 21 N128) else iprop(emp)
def gotRy (c : Dev nD) : sProp 𝕄 := if c.val < 3 then iprop(pay m PS c 20 0 ∗ pay m PS c 21 0) else iprop(emp)

/-- A device's own partial sums. -/
def partHas (c : Dev nD) : sProp 𝕄 := iprop(∃ X, ⌜PS c X⌝ ∗ hold (F := F) c m10 X)
def sentP (c : Dev nD) : sProp 𝕄 := if 0 < c.val then cr (F := F) c 15 NP else partHas PS c
theorem part_some (c : Dev nD) : partHas PS c ⊢ some_ (F := F) c m10 := by
  unfold partHas some_
  iintro ⟨%X, %hX, H⟩
  iexists X; iexact H

/-- A wait for a copy's credits. -/
theorem wp_waitDma {α : Type} {Q : α → sProp 𝕄} {k : PUnit → Prog (TpuEff nD τ sig (Elt F) Λ₀ .tc) α} {sp sp' : Space} {s : Shape} {e : EltTy} (c : Dev nD) (j : Fin 32) (sem : DmaSem sig) (N : ℕ)
    {src : Memref sig .tc sp s e} {dst : Memref sig .tc sp' s e} {h1 : src.view.WordExact} {h2 : dst.view.WordExact} (hs : csem j = .dma sem) (hon : on c j) (hj : 2 ≤ j.val)
    (ha : dst.view.dmaCredit = am j) (hN : am j = N) {O : CellTallies nD τ sig Unit} (hO : Above (lvl j) O) :
    iprop(Ctx m PS K ∗ ow (F := F) c O ∗ at0 (F := F) c j ∗ cr (F := F) c j N)
      ⊢ iprop(((ow (F := F) c O ∗ at1 (F := F) c j ∗ pay m PS c j 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h1 h2) k) Q) := by
  subst hN
  exact wp_waitOn m PS K c j _ hs hon hj _ (wpE_waitDma2_eq 𝒱₀ (c : Thread nD τ) none Set.univ) ha hO

def dstP (c : Dev nD) : sProp 𝕄 := if 0 < c.val then some_ (F := F) 0 (pK c.val) else iprop(emp)
def tkP (c : Dev nD) : sProp 𝕄 := if 0 < c.val then iprop(tk (F := F) 0 (kP c) 0 ∗ tk (F := F) c 15 0) else iprop(emp)

def preGl (c : Dev nD) : sProp 𝕄 := if c = 0 then iprop(some_ (F := F) 0 (dG m6) ∗ some_ (F := F) 0 (dG m7) ∗ tk (F := F) 0 30 0 ∗ tk (F := F) 0 31 0) else iprop(emp)
def gotGl (c : Dev nD) : sProp 𝕄 := if c = 0 then iprop(hold 0 (dG m6) (landedM m 0 0 (dG m6) (s32 kM)) ∗ hold 0 (dG m7) (landedM m 0 0 (dG m7) (s32 vM))) else iprop(emp)

theorem four (c : Dev nD) : c = 0 ∨ c = 1 ∨ c = 2 ∨ c = 3 := by revert c; decide

theorem CellTallies_add_zero (O : CellTallies nD τ sig Unit) : O + 0 = O := add_zero O

/-! ## The stretches -/

theorem wp_stL (c : Dev nD) : iprop(Ctx m PS K ∗ ow (F := F) c (oL c) ∗ srcL m c ∗ dstL (F := F) c ∗ tkL (F := F) c)
    ⊢ wp frame (wpE (defs₀ (F := F)) 𝒱₀ (c : Thread nD τ) none) Set.univ (stL c) (fun _ => iprop(ow (F := F) c (oR c) ∗ sentL m c)) := by
  unfold stL dstL tkL sentL oL
  by_cases h : 0 < c.val
  · rw [dif_pos ((cond1_iff c).mpr h)]
    simp only [if_pos h]
    simp only [Prog.lift, Prog.bind_op, Prog.bind_ret, Prog.pure_eq_ret]
    unfold srcL some_
    iintro ⟨#HC, HO, ⟨Hk, Hv⟩, ⟨⟨%f, Hdk⟩, ⟨%f', Hdv⟩⟩, ⟨Ht1, Ht2, Ht3, Ht4⟩⟩
    iapply (wp_sendTo m PS K (src := sLo kM) (dst := dR m6) (sS := (SemLoc.dma (dsem6 inb_S16_S1_0))) (sR := (SemLoc.dma (dsem7 inb_S10_S1_2))) c (up 3 c) _ (dev4_eq c ((cond1_iff c).mpr h)) 2 20 rfl rfl h (by decide) (up3_lt c h) (by decide) N128 rfl rfl rfl (sh 0) _ f
      (by exact Entails.refl _) (by rw [pay_halo m PS (up 3 c) c (up13 c)]; exact Entails.refl _) _) $$ [HO Hk Hdk Ht1 Ht2]
    · unfold at_; iframe; iexact HC
    iintro ⟨HO, Hc1⟩
    iapply (wp_sendTo m PS K (src := sLo vM) (dst := dR m7) (sS := (SemLoc.dma (dsem6 inb_S16_S1_1))) (sR := (SemLoc.dma (dsem7 inb_S10_S1_3))) c (up 3 c) _ (dev5_eq c ((cond1_iff c).mpr h)) 3 21 rfl rfl h (by decide) (up3_lt c h) (by decide) N128 rfl rfl rfl (sh 0) _ f'
      (by exact Entails.refl _) (by rw [pay_halo' m PS (up 3 c) c (up13 c)]; exact Entails.refl _) _) $$ [HO Hv Hdv Ht3 Ht4]
    · unfold at_; iframe; iexact HC
    iintro ⟨HO, Hc2⟩
    rw [wp_ret]; imodintro
    iframe
  · rw [dif_neg (fun h' => h ((cond1_iff c).mp h'))]
    simp only [if_neg h, Prog.pure_eq_ret]
    iintro ⟨#HC, HO, Hs, -, -⟩
    rw [wp_ret]; imodintro
    iframe

theorem wp_stR (c : Dev nD) : iprop(Ctx m PS K ∗ ow (F := F) c (oR c) ∗ srcR m c ∗ dstR (F := F) c ∗ tkR (F := F) c)
    ⊢ wp frame (wpE (defs₀ (F := F)) 𝒱₀ (c : Thread nD τ) none) Set.univ (stR c) (fun _ => iprop(ow (F := F) c (oG c) ∗ sentR m c)) := by
  unfold stR dstR tkR sentR oR
  by_cases h : c.val < 3
  · rw [dif_pos ((cond2_iff c).mpr h)]
    simp only [if_pos h]
    simp only [Prog.lift, Prog.bind_op, Prog.bind_ret, Prog.pure_eq_ret]
    unfold srcR some_
    iintro ⟨#HC, HO, ⟨Hk, Hv⟩, ⟨⟨%f, Hdk⟩, ⟨%f', Hdv⟩⟩, ⟨Ht1, Ht2, Ht3, Ht4⟩⟩
    iapply (wp_sendTo m PS K (src := sHi kM) (dst := dL m6) (sS := (SemLoc.dma (dsem6 inb_S16_S1_2))) (sR := (SemLoc.dma (dsem7 inb_S10_S1_0))) c (up 1 c) _ (dev6_eq c ((cond2_iff c).mpr h)) 4 18 rfl rfl h (by decide) (up1_pos c h) (by decide) N128 rfl rfl rfl (sh 1) _ f
      (by exact Entails.refl _) (by rw [pay_halo2 m PS (up 1 c) c (up31 c)]; exact Entails.refl _) _) $$ [HO Hk Hdk Ht1 Ht2]
    · unfold at_; iframe; iexact HC
    iintro ⟨HO, Hc1⟩
    iapply (wp_sendTo m PS K (src := sHi vM) (dst := dL m7) (sS := (SemLoc.dma (dsem6 inb_S16_S1_3))) (sR := (SemLoc.dma (dsem7 inb_S10_S1_1))) c (up 1 c) _ (dev7_eq c ((cond2_iff c).mpr h)) 5 19 rfl rfl h (by decide) (up1_pos c h) (by decide) N128 rfl rfl rfl (sh 1) _ f'
      (by exact Entails.refl _) (by rw [pay_halo2' m PS (up 1 c) c (up31 c)]; exact Entails.refl _) _) $$ [HO Hv Hdv Ht3 Ht4]
    · unfold at_; iframe; iexact HC
    iintro ⟨HO, Hc2⟩
    rw [wp_ret]; imodintro
    iframe
  · rw [dif_neg (fun h' => h ((cond2_iff c).mp h'))]
    simp only [if_neg h, Prog.pure_eq_ret]
    iintro ⟨#HC, HO, Hs, -, -⟩
    rw [wp_ret]; imodintro
    iframe

theorem wp_stG (c : Dev nD) : iprop(Ctx m PS K ∗ ow (F := F) c (oG c) ∗ srcG m c ∗ dstG (F := F) c ∗ tkG (F := F) c)
    ⊢ wp frame (wpE (defs₀ (F := F)) 𝒱₀ (c : Thread nD τ) none) Set.univ (stG c) (fun _ => iprop(ow (F := F) c (oQ c) ∗ sentG m c)) := by
  unfold stG oG dstG tkG sentG
  by_cases h : c = 0
  · rw [dif_pos ((cond3_iff c).mpr h)]
    simp only [if_pos h]
    subst h
    simp only [Prog.lift, Prog.bind_op, Prog.bind_ret, Prog.pure_eq_ret]
    unfold srcG some_
    iintro ⟨#HC, HO, ⟨⟨Hk1, Hk2, Hk3⟩, ⟨Hv1, Hv2, Hv3⟩⟩, ⟨⟨⟨%f1, Hd1⟩, ⟨%g1, He1⟩⟩, ⟨⟨%f2, Hd2⟩, ⟨%g2, He2⟩⟩, ⟨⟨%f3, Hd3⟩, ⟨%g3, He3⟩⟩⟩,
      ⟨⟨Ht1, Ht2, Ht3, Ht4⟩, ⟨Hu1, Hu2, Hu3, Hu4⟩, ⟨Hw1, Hw2, Hw3, Hw4⟩⟩⟩
    iapply (wp_sendTo m PS K (src := s32 kM) (dst := dG m6) (sS := (SemLoc.dma (dsem6 inb_S16_S1_4))) (sR := (SemLoc.dma (dsem7 inb_S10_S1_4))) 0 (1) _ (dev8_eq 0 ((cond3_iff 0).mpr rfl)) 6 22 rfl rfl (by decide) (by decide) (by decide) (by decide) N32 rfl rfl rfl (sh 2) _ f1
      (by exact Entails.refl _) (by exact Entails.refl _) _) $$ [HO Hk1 Hd1 Ht1 Ht2]
    · unfold at_; iframe; iexact HC
    iintro ⟨HO, Hc1⟩
    iapply (wp_sendTo m PS K (src := s32 vM) (dst := dG m7) (sS := (SemLoc.dma (dsem6 inb_S16_S1_7))) (sR := (SemLoc.dma (dsem7 inb_S10_S1_5))) 0 (1) _ (dev9_eq 0 ((cond3_iff 0).mpr rfl)) 9 23 rfl rfl (by decide) (by decide) (by decide) (by decide) N32 rfl rfl rfl (sh 2) _ g1
      (by exact Entails.refl _) (by exact Entails.refl _) _) $$ [HO Hv1 He1 Ht3 Ht4]
    · unfold at_; iframe; iexact HC
    iintro ⟨HO, He1⟩
    iapply (wp_sendTo m PS K (src := s32 kM) (dst := dG m6) (sS := (SemLoc.dma (dsem6 inb_S16_S1_5))) (sR := (SemLoc.dma (dsem7 inb_S10_S1_4))) 0 (2) _ (dev10_eq 0 ((cond3_iff 0).mpr rfl)) 7 22 rfl rfl (by decide) (by decide) (by decide) (by decide) N32 rfl rfl rfl (sh 3) _ f2
      (by exact Entails.refl _) (by exact Entails.refl _) _) $$ [HO Hk2 Hd2 Hu1 Hu2]
    · unfold at_; iframe; iexact HC
    iintro ⟨HO, Hc2⟩
    iapply (wp_sendTo m PS K (src := s32 vM) (dst := dG m7) (sS := (SemLoc.dma (dsem6 inb_S16_S1_8))) (sR := (SemLoc.dma (dsem7 inb_S10_S1_5))) 0 (2) _ (dev11_eq 0 ((cond3_iff 0).mpr rfl)) 10 23 rfl rfl (by decide) (by decide) (by decide) (by decide) N32 rfl rfl rfl (sh 3) _ g2
      (by exact Entails.refl _) (by exact Entails.refl _) _) $$ [HO Hv2 He2 Hu3 Hu4]
    · unfold at_; iframe; iexact HC
    iintro ⟨HO, He2⟩
    iapply (wp_sendTo m PS K (src := s32 kM) (dst := dG m6) (sS := (SemLoc.dma (dsem6 inb_S16_S1_6))) (sR := (SemLoc.dma (dsem7 inb_S10_S1_4))) 0 (3) _ (dev12_eq 0 ((cond3_iff 0).mpr rfl)) 8 22 rfl rfl (by decide) (by decide) (by decide) (by decide) N32 rfl rfl rfl (sh 4) _ f3
      (by exact Entails.refl _) (by exact Entails.refl _) _) $$ [HO Hk3 Hd3 Hw1 Hw2]
    · unfold at_; iframe; iexact HC
    iintro ⟨HO, Hc3⟩
    iapply (wp_sendTo m PS K (src := s32 vM) (dst := dG m7) (sS := (SemLoc.dma (dsem6 inb_S16_S1_9))) (sR := (SemLoc.dma (dsem7 inb_S10_S1_5))) 0 (3) _ (dev13_eq 0 ((cond3_iff 0).mpr rfl)) 11 23 rfl rfl (by decide) (by decide) (by decide) (by decide) N32 rfl rfl rfl (sh 4) _ g3
      (by exact Entails.refl _) (by exact Entails.refl _) _) $$ [HO Hv3 He3 Hw3 Hw4]
    · unfold at_; iframe; iexact HC
    iintro ⟨HO, He3⟩
    rw [wp_ret]; imodintro
    iframe
  · rw [dif_neg (fun h' => h ((cond3_iff c).mp h'))]
    simp only [if_neg h, Prog.pure_eq_ret]
    iintro ⟨#HC, HO, Hs, -, -⟩
    rw [wp_ret]; imodintro
    iframe

theorem wp_stQ (c : Dev nD) : iprop(Ctx m PS K ∗ ow (F := F) c (oQ c) ∗ srcQ m c ∗ dstQ (F := F) c ∗ tkQ (F := F) c)
    ⊢ wp frame (wpE (defs₀ (F := F)) 𝒱₀ (c : Thread nD τ) none) Set.univ (stQ c) (fun _ => iprop(ow (F := F) c (oPart c) ∗ sentQ m c)) := by
  unfold stQ oQ dstQ tkQ sentQ
  by_cases h : c = 0
  · rw [dif_pos ((cond5_iff c).mpr h)]
    simp only [if_pos h]
    subst h
    simp only [Prog.lift, Prog.bind_op, Prog.bind_ret, Prog.pure_eq_ret]
    unfold srcQ some_
    iintro ⟨#HC, HO, ⟨Hq1, Hq2, Hq3⟩, ⟨⟨%f1, Hd1⟩, ⟨%f2, Hd2⟩, ⟨%f3, Hd3⟩⟩, ⟨⟨Ht1, Ht2⟩, ⟨Hu1, Hu2⟩, ⟨Hw1, Hw2⟩⟩⟩
    iapply (wp_sendTo m PS K (src := q32) (dst := m9) (sS := (SemLoc.dma (dsem6 inb_S16_S1_10))) (sR := (SemLoc.dma (dsem7 inb_S10_S1_6))) 0 (1) _ (dev14_eq 0 ((cond5_iff 0).mpr rfl)) 12 24 rfl rfl (by decide) (by decide) (by decide) (by decide) NQ rfl rfl rfl (sh 0) _ f1
      (by exact Entails.refl _) (by exact Entails.refl _) _) $$ [HO Hq1 Hd1 Ht1 Ht2]
    · unfold qSrc; iframe; iexact HC
    iintro ⟨HO, Hc1⟩
    iapply (wp_sendTo m PS K (src := q32) (dst := m9) (sS := (SemLoc.dma (dsem6 inb_S16_S1_11))) (sR := (SemLoc.dma (dsem7 inb_S10_S1_6))) 0 (2) _ (dev15_eq 0 ((cond5_iff 0).mpr rfl)) 13 24 rfl rfl (by decide) (by decide) (by decide) (by decide) NQ rfl rfl rfl (sh 1) _ f2
      (by exact Entails.refl _) (by exact Entails.refl _) _) $$ [HO Hq2 Hd2 Hu1 Hu2]
    · unfold qSrc; iframe; iexact HC
    iintro ⟨HO, Hc2⟩
    iapply (wp_sendTo m PS K (src := q32) (dst := m9) (sS := (SemLoc.dma (dsem6 inb_S16_S1_12))) (sR := (SemLoc.dma (dsem7 inb_S10_S1_6))) 0 (3) _ (dev16_eq 0 ((cond5_iff 0).mpr rfl)) 14 24 rfl rfl (by decide) (by decide) (by decide) (by decide) NQ rfl rfl rfl (sh 2) _ f3
      (by exact Entails.refl _) (by exact Entails.refl _) _) $$ [HO Hq3 Hd3 Hw1 Hw2]
    · unfold qSrc; iframe; iexact HC
    iintro ⟨HO, Hc3⟩
    rw [wp_ret]; imodintro
    iframe
  · rw [dif_neg (fun h' => h ((cond5_iff c).mp h'))]
    simp only [if_neg h, Prog.pure_eq_ret]
    iintro ⟨#HC, HO, Hs, -, -⟩
    rw [wp_ret]; imodintro
    iframe

theorem wp_stRx (c : Dev nD) (b : BitVec 1) (hb : b = 1#1 ↔ 0 < c.val) : iprop(Ctx m PS K ∗ ow (F := F) c (oPart c) ∗ (at0 (F := F) c 18 ∗ at0 (F := F) c 19 ∗ at0 (F := F) c 22 ∗ at0 (F := F) c 23 ∗ at0 (F := F) c 24) ∗ crRx (F := F) c)
    ⊢ wp frame (wpE (defs₀ (F := F)) 𝒱₀ (c : Thread nD τ) none) Set.univ (stRx b) (fun _ => iprop(ow (F := F) c (oPart c) ∗ (done (F := F) c 18 ∗ done (F := F) c 19 ∗ done (F := F) c 22 ∗ done (F := F) c 23 ∗ done (F := F) c 24) ∗ gotRx m PS c)) := by
  unfold stRx crRx gotRx
  by_cases h : 0 < c.val
  · rw [dif_pos (hb.mpr h)]
    simp only [if_pos h]
    simp only [Prog.lift, Prog.bind_op, Prog.bind_ret, Prog.pure_eq_ret]
    iintro ⟨#HC, HO, ⟨Ha18, Ha19, Ha22, Ha23, Ha24⟩, ⟨Hc18, Hc19, Hc22, Hc23, Hc24⟩⟩
    iapply (wp_waitDma m PS K c 18 (dsem7 inb_S10_S1_0) N128 (src := sHi kM) (dst := dL m6) rfl h (by decide) rfl rfl (above_part c (by decide))) $$ [HO Ha18 Hc18]
    · iframe; iexact HC
    iintro ⟨HO, Ha18, Hg18⟩
    iapply (wp_waitDma m PS K c 19 (dsem7 inb_S10_S1_1) N128 (src := sHi vM) (dst := dL m7) rfl h (by decide) rfl rfl (above_part c (by decide))) $$ [HO Ha19 Hc19]
    · iframe; iexact HC
    iintro ⟨HO, Ha19, Hg19⟩
    iapply (wp_waitDma m PS K c 22 (dsem7 inb_S10_S1_4) N32 (src := s32 kM) (dst := dG m6) rfl h (by decide) rfl rfl (above_part c (by decide))) $$ [HO Ha22 Hc22]
    · iframe; iexact HC
    iintro ⟨HO, Ha22, Hg22⟩
    iapply (wp_waitDma m PS K c 23 (dsem7 inb_S10_S1_5) N32 (src := s32 vM) (dst := dG m7) rfl h (by decide) rfl rfl (above_part c (by decide))) $$ [HO Ha23 Hc23]
    · iframe; iexact HC
    iintro ⟨HO, Ha23, Hg23⟩
    iapply (wp_waitDma m PS K c 24 (dsem7 inb_S10_S1_6) NQ (src := q32) (dst := m9) rfl h (by decide) rfl rfl (above_part c (by decide))) $$ [HO Ha24 Hc24]
    · iframe; iexact HC
    iintro ⟨HO, Ha24, Hg24⟩
    rw [show done (F := F) c 18 = at1 (F := F) c 18 from if_pos h, show done (F := F) c 19 = at1 (F := F) c 19 from if_pos h, show done (F := F) c 22 = at1 (F := F) c 22 from if_pos h, show done (F := F) c 23 = at1 (F := F) c 23 from if_pos h, show done (F := F) c 24 = at1 (F := F) c 24 from if_pos h]
    rw [wp_ret]; imodintro
    iframe
  · rw [dif_neg (fun h' => h (hb.mp h'))]
    simp only [if_neg h, Prog.pure_eq_ret]
    iintro ⟨#HC, HO, Ha, -⟩
    rw [wp_ret]; imodintro
    rw [show done (F := F) c 18 = at0 (F := F) c 18 from if_neg h, show done (F := F) c 19 = at0 (F := F) c 19 from if_neg h, show done (F := F) c 22 = at0 (F := F) c 22 from if_neg h, show done (F := F) c 23 = at0 (F := F) c 23 from if_neg h, show done (F := F) c 24 = at0 (F := F) c 24 from if_neg h]
    iframe

theorem wp_stRy (c : Dev nD) (b : BitVec 1) (hb : b = 1#1 ↔ c.val < 3) : iprop(Ctx m PS K ∗ ow (F := F) c (oPart c) ∗ (at0 (F := F) c 20 ∗ at0 (F := F) c 21) ∗ crRy (F := F) c)
    ⊢ wp frame (wpE (defs₀ (F := F)) 𝒱₀ (c : Thread nD τ) none) Set.univ (stRy b) (fun _ => iprop(ow (F := F) c (oPart c) ∗ (done (F := F) c 20 ∗ done (F := F) c 21) ∗ gotRy m PS c)) := by
  unfold stRy crRy gotRy
  by_cases h : c.val < 3
  · rw [dif_pos (hb.mpr h)]
    simp only [if_pos h]
    simp only [Prog.lift, Prog.bind_op, Prog.bind_ret, Prog.pure_eq_ret]
    iintro ⟨#HC, HO, ⟨Ha20, Ha21⟩, ⟨Hc20, Hc21⟩⟩
    iapply (wp_waitDma m PS K c 20 (dsem7 inb_S10_S1_2) N128 (src := sLo kM) (dst := dR m6) rfl h (by decide) rfl rfl (above_part c (by decide))) $$ [HO Ha20 Hc20]
    · iframe; iexact HC
    iintro ⟨HO, Ha20, Hg20⟩
    iapply (wp_waitDma m PS K c 21 (dsem7 inb_S10_S1_3) N128 (src := sLo vM) (dst := dR m7) rfl h (by decide) rfl rfl (above_part c (by decide))) $$ [HO Ha21 Hc21]
    · iframe; iexact HC
    iintro ⟨HO, Ha21, Hg21⟩
    rw [show done (F := F) c 20 = at1 (F := F) c 20 from if_pos h, show done (F := F) c 21 = at1 (F := F) c 21 from if_pos h]
    rw [wp_ret]; imodintro
    iframe
  · rw [dif_neg (fun h' => h (hb.mp h'))]
    simp only [if_neg h, Prog.pure_eq_ret]
    iintro ⟨#HC, HO, Ha, -⟩
    rw [wp_ret]; imodintro
    rw [show done (F := F) c 20 = at0 (F := F) c 20 from if_neg h, show done (F := F) c 21 = at0 (F := F) c 21 from if_neg h]
    iframe

theorem wp_stEx (c : Dev nD) (b : BitVec 1) (hb : b = 1#1 ↔ 0 < c.val) : iprop(Ctx m PS K ∗ ow (F := F) c (oExit c) ∗ (at0 (F := F) c 2 ∗ at0 (F := F) c 3 ∗ at0 (F := F) c 15) ∗ (sentL m c ∗ sentP PS c))
    ⊢ wp frame (wpE (defs₀ (F := F)) 𝒱₀ (c : Thread nD τ) none) Set.univ (stEx b) (fun _ => iprop(ow (F := F) c (oExit c) ∗ (done (F := F) c 2 ∗ done (F := F) c 3 ∗ done (F := F) c 15) ∗ srcL m c ∗ some_ (F := F) c m10)) := by
  unfold stEx sentL sentP srcL
  by_cases h : 0 < c.val
  · rw [dif_pos (hb.mpr h)]
    simp only [if_pos h]
    simp only [Prog.lift, Prog.bind_op, Prog.bind_ret, Prog.pure_eq_ret]
    iintro ⟨#HC, HO, ⟨Ha2, Ha3, Ha15⟩, ⟨⟨Hc2, Hc3⟩, Hc15⟩⟩
    iapply (wp_waitDma m PS K c 2 (dsem6 inb_S16_S1_0) N128 (src := dR m6) (dst := sLo kM) rfl h (by decide) rfl rfl (above_exit c (by decide))) $$ [HO Ha2 Hc2]
    · iframe; iexact HC
    iintro ⟨HO, Ha2, Hg2⟩
    iapply (wp_waitDma m PS K c 3 (dsem6 inb_S16_S1_1) N128 (src := dR m7) (dst := sLo vM) rfl h (by decide) rfl rfl (above_exit c (by decide))) $$ [HO Ha3 Hc3]
    · iframe; iexact HC
    iintro ⟨HO, Ha3, Hg3⟩
    iapply (wp_waitDma m PS K c 15 (dsem6 inb_S16_S1_13) NP (src := p0) (dst := m10) rfl h (by decide) rfl rfl (above_exit c (by decide))) $$ [HO Ha15 Hc15]
    · iframe; iexact HC
    iintro ⟨HO, Ha15, Hg15⟩
    rw [show done (F := F) c 2 = at1 (F := F) c 2 from if_pos h, show done (F := F) c 3 = at1 (F := F) c 3 from if_pos h, show done (F := F) c 15 = at1 (F := F) c 15 from if_pos h]
    ihave Hg2 := (Entails.of_eq (show pay m PS c 2 0 = at_ m c (sLo kM) (sh 0) from rfl)) $$ Hg2
    ihave Hg3 := (Entails.of_eq (show pay m PS c 3 0 = at_ m c (sLo vM) (sh 0) from rfl)) $$ Hg3
    ihave Hg15 := (Entails.of_eq (show pay m PS c 15 0 = some_ (F := F) c m10 from rfl)) $$ Hg15
    rw [wp_ret]; imodintro
    iframe
  · rw [dif_neg (fun h' => h (hb.mp h'))]
    simp only [if_neg h, Prog.pure_eq_ret]
    iintro ⟨#HC, HO, Ha, ⟨Hs, Hp⟩⟩
    rw [wp_ret]; imodintro
    rw [show done (F := F) c 2 = at0 (F := F) c 2 from if_neg h, show done (F := F) c 3 = at0 (F := F) c 3 from if_neg h, show done (F := F) c 15 = at0 (F := F) c 15 from if_neg h]
    ihave Hp := (part_some PS c) $$ Hp
    iframe

theorem wp_stEy (c : Dev nD) (b : BitVec 1) (hb : b = 1#1 ↔ c.val < 3) : iprop(Ctx m PS K ∗ ow (F := F) c (oExit c) ∗ (at0 (F := F) c 4 ∗ at0 (F := F) c 5) ∗ sentR m c)
    ⊢ wp frame (wpE (defs₀ (F := F)) 𝒱₀ (c : Thread nD τ) none) Set.univ (stEy b) (fun _ => iprop(ow (F := F) c (oExit c) ∗ (done (F := F) c 4 ∗ done (F := F) c 5) ∗ srcR m c)) := by
  unfold stEy sentR srcR
  by_cases h : c.val < 3
  · rw [dif_pos (hb.mpr h)]
    simp only [if_pos h]
    simp only [Prog.lift, Prog.bind_op, Prog.bind_ret, Prog.pure_eq_ret]
    iintro ⟨#HC, HO, ⟨Ha4, Ha5⟩, ⟨Hc4, Hc5⟩⟩
    iapply (wp_waitDma m PS K c 4 (dsem6 inb_S16_S1_2) N128 (src := dL m6) (dst := sHi kM) rfl h (by decide) rfl rfl (above_exit c (by decide))) $$ [HO Ha4 Hc4]
    · iframe; iexact HC
    iintro ⟨HO, Ha4, Hg4⟩
    iapply (wp_waitDma m PS K c 5 (dsem6 inb_S16_S1_3) N128 (src := dL m7) (dst := sHi vM) rfl h (by decide) rfl rfl (above_exit c (by decide))) $$ [HO Ha5 Hc5]
    · iframe; iexact HC
    iintro ⟨HO, Ha5, Hg5⟩
    rw [show done (F := F) c 4 = at1 (F := F) c 4 from if_pos h, show done (F := F) c 5 = at1 (F := F) c 5 from if_pos h]
    ihave Hg4 := (Entails.of_eq (show pay m PS c 4 0 = at_ m c (sHi kM) (sh 1) from rfl)) $$ Hg4
    ihave Hg5 := (Entails.of_eq (show pay m PS c 5 0 = at_ m c (sHi vM) (sh 1) from rfl)) $$ Hg5
    rw [wp_ret]; imodintro
    iframe
  · rw [dif_neg (fun h' => h (hb.mp h'))]
    simp only [if_neg h, Prog.pure_eq_ret]
    iintro ⟨#HC, HO, Ha, Hs⟩
    rw [wp_ret]; imodintro
    rw [show done (F := F) c 4 = at0 (F := F) c 4 from if_neg h, show done (F := F) c 5 = at0 (F := F) c 5 from if_neg h]
    iframe

theorem wp_stEz (c : Dev nD) (b : BitVec 1) (hb : b = 1#1 ↔ c = 0) : iprop(Ctx m PS K ∗ ow (F := F) c (oExit c) ∗ (at0 (F := F) c 6 ∗ at0 (F := F) c 9 ∗ at0 (F := F) c 12 ∗ at0 (F := F) c 7 ∗ at0 (F := F) c 10 ∗ at0 (F := F) c 13 ∗ at0 (F := F) c 8 ∗ at0 (F := F) c 11 ∗ at0 (F := F) c 14) ∗ (sentG m c ∗ sentQ m c))
    ⊢ wp frame (wpE (defs₀ (F := F)) 𝒱₀ (c : Thread nD τ) none) Set.univ (stEz b) (fun _ => iprop(ow (F := F) c (oExit c) ∗ (done (F := F) c 6 ∗ done (F := F) c 9 ∗ done (F := F) c 12 ∗ done (F := F) c 7 ∗ done (F := F) c 10 ∗ done (F := F) c 13 ∗ done (F := F) c 8 ∗ done (F := F) c 11 ∗ done (F := F) c 14) ∗ srcG m c ∗ srcQ m c)) := by
  unfold stEz sentG sentQ srcG srcQ
  by_cases h : c = 0
  · rw [dif_pos (hb.mpr h)]
    simp only [if_pos h]
    subst h
    simp only [Prog.lift, Prog.bind_op, Prog.bind_ret, Prog.pure_eq_ret]
    iintro ⟨#HC, HO, ⟨Ha6, Ha9, Ha12, Ha7, Ha10, Ha13, Ha8, Ha11, Ha14⟩, ⟨⟨⟨Hc6, Hc7, Hc8⟩, ⟨Hc9, Hc10, Hc11⟩⟩, ⟨Hc12, Hc13, Hc14⟩⟩⟩
    iapply (wp_waitDma m PS K 0 6 (dsem6 inb_S16_S1_4) N32 (src := dG m6) (dst := s32 kM) rfl (by decide) (by decide) rfl rfl (above_exit 0 (by decide))) $$ [HO Ha6 Hc6]
    · iframe; iexact HC
    iintro ⟨HO, Ha6, Hg6⟩
    iapply (wp_waitDma m PS K 0 9 (dsem6 inb_S16_S1_7) N32 (src := dG m7) (dst := s32 vM) rfl (by decide) (by decide) rfl rfl (above_exit 0 (by decide))) $$ [HO Ha9 Hc9]
    · iframe; iexact HC
    iintro ⟨HO, Ha9, Hg9⟩
    iapply (wp_waitDma m PS K 0 12 (dsem6 inb_S16_S1_10) NQ (src := m9) (dst := q32) rfl (by decide) (by decide) rfl rfl (above_exit 0 (by decide))) $$ [HO Ha12 Hc12]
    · iframe; iexact HC
    iintro ⟨HO, Ha12, Hg12⟩
    iapply (wp_waitDma m PS K 0 7 (dsem6 inb_S16_S1_5) N32 (src := dG m6) (dst := s32 kM) rfl (by decide) (by decide) rfl rfl (above_exit 0 (by decide))) $$ [HO Ha7 Hc7]
    · iframe; iexact HC
    iintro ⟨HO, Ha7, Hg7⟩
    iapply (wp_waitDma m PS K 0 10 (dsem6 inb_S16_S1_8) N32 (src := dG m7) (dst := s32 vM) rfl (by decide) (by decide) rfl rfl (above_exit 0 (by decide))) $$ [HO Ha10 Hc10]
    · iframe; iexact HC
    iintro ⟨HO, Ha10, Hg10⟩
    iapply (wp_waitDma m PS K 0 13 (dsem6 inb_S16_S1_11) NQ (src := m9) (dst := q32) rfl (by decide) (by decide) rfl rfl (above_exit 0 (by decide))) $$ [HO Ha13 Hc13]
    · iframe; iexact HC
    iintro ⟨HO, Ha13, Hg13⟩
    iapply (wp_waitDma m PS K 0 8 (dsem6 inb_S16_S1_6) N32 (src := dG m6) (dst := s32 kM) rfl (by decide) (by decide) rfl rfl (above_exit 0 (by decide))) $$ [HO Ha8 Hc8]
    · iframe; iexact HC
    iintro ⟨HO, Ha8, Hg8⟩
    iapply (wp_waitDma m PS K 0 11 (dsem6 inb_S16_S1_9) N32 (src := dG m7) (dst := s32 vM) rfl (by decide) (by decide) rfl rfl (above_exit 0 (by decide))) $$ [HO Ha11 Hc11]
    · iframe; iexact HC
    iintro ⟨HO, Ha11, Hg11⟩
    iapply (wp_waitDma m PS K 0 14 (dsem6 inb_S16_S1_12) NQ (src := m9) (dst := q32) rfl (by decide) (by decide) rfl rfl (above_exit 0 (by decide))) $$ [HO Ha14 Hc14]
    · iframe; iexact HC
    iintro ⟨HO, Ha14, Hg14⟩
    rw [show done (F := F) 0 6 = at1 (F := F) 0 6 from if_pos (by decide), show done (F := F) 0 9 = at1 (F := F) 0 9 from if_pos (by decide), show done (F := F) 0 12 = at1 (F := F) 0 12 from if_pos (by decide), show done (F := F) 0 7 = at1 (F := F) 0 7 from if_pos (by decide), show done (F := F) 0 10 = at1 (F := F) 0 10 from if_pos (by decide), show done (F := F) 0 13 = at1 (F := F) 0 13 from if_pos (by decide), show done (F := F) 0 8 = at1 (F := F) 0 8 from if_pos (by decide), show done (F := F) 0 11 = at1 (F := F) 0 11 from if_pos (by decide), show done (F := F) 0 14 = at1 (F := F) 0 14 from if_pos (by decide)]
    ihave Hg6 := (Entails.of_eq (show pay m PS 0 6 0 = at_ m 0 (s32 kM) (sh 2) from rfl)) $$ Hg6
    ihave Hg9 := (Entails.of_eq (show pay m PS 0 9 0 = at_ m 0 (s32 vM) (sh 2) from rfl)) $$ Hg9
    ihave Hg12 := (Entails.of_eq (show pay m PS 0 12 0 = qSrc 0 0 (qsc m 0) from rfl)) $$ Hg12
    ihave Hg7 := (Entails.of_eq (show pay m PS 0 7 0 = at_ m 0 (s32 kM) (sh 3) from rfl)) $$ Hg7
    ihave Hg10 := (Entails.of_eq (show pay m PS 0 10 0 = at_ m 0 (s32 vM) (sh 3) from rfl)) $$ Hg10
    ihave Hg13 := (Entails.of_eq (show pay m PS 0 13 0 = qSrc 0 1 (qsc m 0) from rfl)) $$ Hg13
    ihave Hg8 := (Entails.of_eq (show pay m PS 0 8 0 = at_ m 0 (s32 kM) (sh 4) from rfl)) $$ Hg8
    ihave Hg11 := (Entails.of_eq (show pay m PS 0 11 0 = at_ m 0 (s32 vM) (sh 4) from rfl)) $$ Hg11
    ihave Hg14 := (Entails.of_eq (show pay m PS 0 14 0 = qSrc 0 2 (qsc m 0) from rfl)) $$ Hg14
    rw [wp_ret]; imodintro
    iframe
  · rw [dif_neg (fun h' => h (hb.mp h'))]
    simp only [if_neg h, Prog.pure_eq_ret]
    iintro ⟨#HC, HO, Ha, ⟨Hs, Hq⟩⟩
    rw [wp_ret]; imodintro
    rw [show done (F := F) c 6 = at0 (F := F) c 6 from if_neg (fun h'' => h (Fin.ext h'')), show done (F := F) c 9 = at0 (F := F) c 9 from if_neg (fun h'' => h (Fin.ext h'')), show done (F := F) c 12 = at0 (F := F) c 12 from if_neg (fun h'' => h (Fin.ext h'')), show done (F := F) c 7 = at0 (F := F) c 7 from if_neg (fun h'' => h (Fin.ext h'')), show done (F := F) c 10 = at0 (F := F) c 10 from if_neg (fun h'' => h (Fin.ext h'')), show done (F := F) c 13 = at0 (F := F) c 13 from if_neg (fun h'' => h (Fin.ext h'')), show done (F := F) c 8 = at0 (F := F) c 8 from if_neg (fun h'' => h (Fin.ext h'')), show done (F := F) c 11 = at0 (F := F) c 11 from if_neg (fun h'' => h (Fin.ext h'')), show done (F := F) c 14 = at0 (F := F) c 14 from if_neg (fun h'' => h (Fin.ext h''))]
    iframe

theorem wp_stGl (c : Dev nD) (b : BitVec 1) (hb : b = 1#1 ↔ c = 0) : iprop(Ctx m PS K ∗ ow (F := F) c (oQ c) ∗ (at0 (F := F) c 30 ∗ at0 (F := F) c 31) ∗ (at_ m c (s32 kM) (sh 6) ∗ at_ m c (s32 vM) (sh 6)) ∗ preGl (F := F) c)
    ⊢ wp frame (wpE (defs₀ (F := F)) 𝒱₀ (c : Thread nD τ) none) Set.univ (stGl b) (fun _ => iprop(ow (F := F) c (oQ c) ∗ (done (F := F) c 30 ∗ done (F := F) c 31) ∗ (at_ m c (s32 kM) (sh 6) ∗ at_ m c (s32 vM) (sh 6)) ∗ gotGl m c)) := by
  unfold stGl preGl gotGl
  by_cases h : c = 0
  · rw [dif_pos (hb.mpr h)]
    simp only [if_pos h]
    subst h
    simp only [Prog.lift, Prog.bind_op, Prog.bind_ret, Prog.pure_eq_ret]
    unfold some_
    iintro ⟨#HC, HO, ⟨Ha30, Ha31⟩, ⟨Hs1, Hs2⟩, ⟨⟨%f, Hd1⟩, ⟨%f', Hd2⟩, Ht1, Ht2⟩⟩
    iapply (wp_copyTo m PS K (src := s32 kM) (dst := dG m6) (sR := (SemLoc.dma (dsem8 inb_S4_S1_2))) 0 30 rfl rfl (by decide) N32 rfl rfl (sh 6) _ f
      (by exact Entails.refl _)) $$ [Hs1 Hd1 Ht1]
    · unfold at_; iframe; iexact HC
    iintro Hc30
    iapply (wp_copyTo m PS K (src := s32 vM) (dst := dG m7) (sR := (SemLoc.dma (dsem8 inb_S4_S1_3))) 0 31 rfl rfl (by decide) N32 rfl rfl (sh 6) _ f'
      (by exact Entails.refl _)) $$ [Hs2 Hd2 Ht2]
    · unfold at_; iframe; iexact HC
    iintro Hc31
    iapply (wp_waitDma m PS K 0 30 (dsem8 inb_S4_S1_2) N32 (src := s32 kM) (dst := dG m6) rfl rfl (by decide) rfl rfl (above_Q 0 (by decide))) $$ [HO Ha30 Hc30]
    · iframe; iexact HC
    iintro ⟨HO, Ha30, Hg30⟩
    iapply (wp_waitDma m PS K 0 31 (dsem8 inb_S4_S1_3) N32 (src := s32 vM) (dst := dG m7) rfl rfl (by decide) rfl rfl (above_Q 0 (by decide))) $$ [HO Ha31 Hc31]
    · iframe; iexact HC
    iintro ⟨HO, Ha31, Hg31⟩
    rw [show done (F := F) 0 30 = at1 (F := F) 0 30 from if_pos rfl, show done (F := F) 0 31 = at1 (F := F) 0 31 from if_pos rfl]
    ihave Hg30 := (Entails.of_eq (show pay m PS 0 30 0 = iprop(hold 0 (dG m6) (landedM m 0 0 (dG m6) (s32 kM)) ∗ at_ m 0 (s32 kM) (sh 6)) from rfl)) $$ Hg30
    ihave Hg31 := (Entails.of_eq (show pay m PS 0 31 0 = iprop(hold 0 (dG m7) (landedM m 0 0 (dG m7) (s32 vM)) ∗ at_ m 0 (s32 vM) (sh 6)) from rfl)) $$ Hg31
    icases Hg30 with ⟨Hg30, Hs1⟩
    icases Hg31 with ⟨Hg31, Hs2⟩
    rw [wp_ret]; imodintro
    iframe
  · rw [dif_neg (fun h' => h (hb.mp h'))]
    simp only [if_neg h, Prog.pure_eq_ret]
    iintro ⟨#HC, HO, Ha, Hs, -⟩
    rw [wp_ret]; imodintro
    rw [show done (F := F) c 30 = at0 (F := F) c 30 from if_neg (fun h'' => h (Fin.ext h'')), show done (F := F) c 31 = at0 (F := F) c 31 from if_neg (fun h'' => h (Fin.ext h''))]
    iframe

theorem wp_stP (c : Dev nD) : iprop(Ctx m PS K ∗ ow (F := F) c (oPart c) ∗ partHas PS c ∗ dstP (F := F) c ∗ tkP (F := F) c)
    ⊢ wp frame (wpE (defs₀ (F := F)) 𝒱₀ (c : Thread nD τ) none) Set.univ (do stP8 c; stP9 c; stP10 c) (fun _ => iprop(ow (F := F) c (oExit c) ∗ sentP PS c)) := by
  rcases four c with rfl | rfl | rfl | rfl
  · unfold stP8 stP9 stP10 oPart dstP tkP sentP partHas
    rw [dif_neg (by decide), dif_neg (by decide), dif_neg (by decide), if_neg (by decide), if_neg (by decide), if_neg (by decide), if_neg (by decide), CellTallies_add_zero]
    simp only [Prog.lift, Prog.bind_op, Prog.bind_ret, Prog.pure_eq_ret]
    iintro ⟨#HC, HO, ⟨%X, %hX, Hp⟩, -, -⟩
    rw [wp_ret]; imodintro
    isplitl [HO]; · iexact HO
    iexists X; isplitr; · ipureintro; exact hX
    iexact Hp
  · unfold stP8 stP9 stP10 oPart dstP tkP sentP partHas
    rw [dif_pos ((cond8_iff 1).mpr rfl), dif_neg (by decide), dif_neg (by decide), if_pos (by decide), if_pos (by decide), if_pos (by decide), if_pos (by decide), show kP 1 = 25 from rfl, show pK (1 : Dev nD).val = p0 from rfl]
    simp only [Prog.lift, Prog.bind_op, Prog.bind_ret, Prog.pure_eq_ret]
    unfold some_
    iintro ⟨#HC, HO, ⟨%X, %hX, Hp⟩, ⟨%f, Hd⟩, ⟨Ht1, Ht2⟩⟩
    iapply (wp_sendTo m PS K (src := m10) (dst := p0) (sS := (SemLoc.dma (dsem6 inb_S16_S1_13))) (sR := (SemLoc.dma (dsem7 inb_S10_S1_7))) 1 (0) _ (dev17_eq 1 ((cond8_iff 1).mpr rfl)) 15 25 rfl rfl (by decide) (by decide) (by decide) (by decide) NP rfl rfl rfl (fullShare) _ f
      (by show _ ⊢ some_ (F := F) 1 m10; unfold some_ hold; iintro H; iexists X; iexact H) (by show _ ⊢ partAt m PS 1 p0; unfold partAt; iintro H; iexists X; isplitr; (ipureintro; exact hX); iexact H) _) $$ [HO Hp Hd Ht1 Ht2]
    · unfold hold; iframe; iexact HC
    iintro ⟨HO, Hc⟩
    rw [wp_ret]; imodintro
    iframe
  · unfold stP8 stP9 stP10 oPart dstP tkP sentP partHas
    rw [dif_neg (by decide), dif_pos ((cond9_iff 2).mpr rfl), dif_neg (by decide), if_pos (by decide), if_pos (by decide), if_pos (by decide), if_pos (by decide), show kP 2 = 26 from rfl, show pK (2 : Dev nD).val = p1 from rfl]
    simp only [Prog.lift, Prog.bind_op, Prog.bind_ret, Prog.pure_eq_ret]
    unfold some_
    iintro ⟨#HC, HO, ⟨%X, %hX, Hp⟩, ⟨%f, Hd⟩, ⟨Ht1, Ht2⟩⟩
    iapply (wp_sendTo m PS K (src := m10) (dst := p1) (sS := (SemLoc.dma (dsem6 inb_S16_S1_13))) (sR := (SemLoc.dma (dsem7 inb_S10_S1_8))) 2 (0) _ (dev18_eq 2 ((cond9_iff 2).mpr rfl)) 15 26 rfl rfl (by decide) (by decide) (by decide) (by decide) NP rfl rfl rfl (fullShare) _ f
      (by show _ ⊢ some_ (F := F) 2 m10; unfold some_ hold; iintro H; iexists X; iexact H) (by show _ ⊢ partAt m PS 2 p1; unfold partAt; iintro H; iexists X; isplitr; (ipureintro; exact hX); iexact H) _) $$ [HO Hp Hd Ht1 Ht2]
    · unfold hold; iframe; iexact HC
    iintro ⟨HO, Hc⟩
    rw [wp_ret]; imodintro
    iframe
  · unfold stP8 stP9 stP10 oPart dstP tkP sentP partHas
    rw [dif_neg (by decide), dif_neg (by decide), dif_pos ((cond10_iff 3).mpr rfl), if_pos (by decide), if_pos (by decide), if_pos (by decide), if_pos (by decide), show kP 3 = 27 from rfl, show pK (3 : Dev nD).val = p2 from rfl]
    simp only [Prog.lift, Prog.bind_op, Prog.bind_ret, Prog.pure_eq_ret]
    unfold some_
    iintro ⟨#HC, HO, ⟨%X, %hX, Hp⟩, ⟨%f, Hd⟩, ⟨Ht1, Ht2⟩⟩
    iapply (wp_sendTo m PS K (src := m10) (dst := p2) (sS := (SemLoc.dma (dsem6 inb_S16_S1_13))) (sR := (SemLoc.dma (dsem7 inb_S10_S1_9))) 3 (0) _ (dev19_eq 3 ((cond10_iff 3).mpr rfl)) 15 27 rfl rfl (by decide) (by decide) (by decide) (by decide) NP rfl rfl rfl (fullShare) _ f
      (by show _ ⊢ some_ (F := F) 3 m10; unfold some_ hold; iintro H; iexists X; iexact H) (by show _ ⊢ partAt m PS 3 p2; unfold partAt; iintro H; iexists X; isplitr; (ipureintro; exact hX); iexact H) _) $$ [HO Hp Hd Ht1 Ht2]
    · unfold hold; iframe; iexact HC
    iintro ⟨HO, Hc⟩
    rw [wp_ret]; imodintro
    iframe

end Cert.KernelIdeal.Mesh
-- ==== Proof.Lends.lean ====
/-
What the barrier hands out and in: every device lends its landing places to the devices that write them.
-/
module

public import proofs.«01_k».proof.Proof.Sends

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- The landing places a device hands out. -/
def outs (c : Dev nD) : sProp 𝕄 := iprop(some_ (F := F) c (dG m6) ∗ some_ (F := F) c (dL m6) ∗ some_ (F := F) c (dR m6)
  ∗ some_ (F := F) c (dG m7) ∗ some_ (F := F) c (dL m7) ∗ some_ (F := F) c (dR m7) ∗ some_ (F := F) c m9
  ∗ some_ (F := F) c p0 ∗ some_ (F := F) c p1 ∗ some_ (F := F) c p2)
/-- The ones it keeps, since nobody writes them. -/
def keeps (c : Dev nD) : sProp 𝕄 := iprop((if 0 < c.val then iprop(some_ (F := F) c p0 ∗ some_ (F := F) c p1 ∗ some_ (F := F) c p2)
    else iprop((some_ (F := F) c (dL m6) ∗ some_ (F := F) c (dL m7)) ∗ (some_ (F := F) c (dG m6) ∗ some_ (F := F) c (dG m7)) ∗ some_ (F := F) c m9))
  ∗ (if c.val < 3 then iprop(emp) else iprop(some_ (F := F) c (dR m6) ∗ some_ (F := F) c (dR m7))))

theorem emp_l (P : sProp 𝕄) : iprop(emp ∗ P) = P := eq_of_iff emp_sep
theorem emp_r (P : sProp 𝕄) : iprop(P ∗ emp) = P := (star_comm.comm _ _).trans (emp_l P)

theorem lends_in (c : Dev nD) : iprop(lend (F := F) (up 1 c) c ∗ lend (F := F) (up 2 c) c ∗ lend (F := F) (up 3 c) c)
    ⊢ iprop(dstL (F := F) c ∗ dstR (F := F) c ∗ dstG (F := F) c ∗ dstQ (F := F) c ∗ dstP (F := F) c) := by
  rcases four c with rfl | rfl | rfl | rfl <;>
    simp (decide := true) only [show up 1 0 = 1 from rfl, show up 2 0 = 2 from rfl, show up 3 0 = 3 from rfl, show up 1 1 = 2 from rfl, show up 2 1 = 3 from rfl, show up 3 1 = 0 from rfl,
      show up 1 2 = 3 from rfl, show up 2 2 = 0 from rfl, show up 3 2 = 1 from rfl, show up 1 3 = 0 from rfl, show up 2 3 = 1 from rfl, show up 3 3 = 2 from rfl,
      lend, lendR, lendL, lendG, lendP, dstL, dstR, dstG, dstQ, dstP, if_true, if_false, emp_l, emp_r] <;>
    exact Entails.of_eq (by ac_rfl)

theorem lends_out (c : Dev nD) : outs (F := F) c
    ⊢ iprop(lend (F := F) c (up 1 c) ∗ lend (F := F) c (up 2 c) ∗ lend (F := F) c (up 3 c) ∗ keeps (F := F) c) := by
  rcases four c with rfl | rfl | rfl | rfl <;>
    simp (decide := true) only [show up 1 0 = 1 from rfl, show up 2 0 = 2 from rfl, show up 3 0 = 3 from rfl, show up 1 1 = 2 from rfl, show up 2 1 = 3 from rfl, show up 3 1 = 0 from rfl,
      show up 1 2 = 3 from rfl, show up 2 2 = 0 from rfl, show up 3 2 = 1 from rfl, show up 1 3 = 0 from rfl, show up 2 3 = 1 from rfl, show up 3 3 = 2 from rfl,
      lend, lendR, lendL, lendG, lendP, outs, keeps, show pK (1 : Dev nD).val = p0 from rfl, show pK (2 : Dev nD).val = p1 from rfl, show pK (3 : Dev nD).val = p2 from rfl, if_true, if_false, emp_l, emp_r] <;>
    exact Entails.of_eq (by ac_rfl)

end Cert.KernelIdeal.Mesh
-- ==== Proof.Opening.lean ====
/-
The barrier, and the copies that leave before the query product.
-/
module

public import proofs.«01_k».proof.Proof.Lends

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (PS : Dev nD → (cc0_scratch4 : Ref sig .tc).ty.Contents (Elt F) → Prop)
variable (K : Dev nD × Fin 32 → ℕ)

/-- A device's own number as the program computes it. -/
abbrev v2w (c : Dev nD) : BitVec 32 := Scalar.remsi (Scalar.divsi (Dev.word c) 1#32) 4#32
theorem pay_bar (p d : Dev nD) : pay m PS p 0 d = lend (F := F) d p := rfl
set_option maxHeartbeats 1000000 in
theorem wp_part28 (c : Dev nD) :
    iprop(Ctx m PS K ∗ ow (F := F) c (O₀ c) ∗ tk (F := F) (up 1 c) 0 c ∗ tk (F := F) (up 2 c) 0 c ∗ lend (F := F) c (up 1 c) ∗ lend (F := F) c (up 2 c))
    ⊢ wp frame (wpE (defs₀ (F := F)) 𝒱₀ (c : Thread nD τ) none) Set.univ (bufs k0_part28) (fun r => iprop(⌜r = ⟨c, v2w c, barA, Scalar.addi (v2w c) 3#32, 4#32, Scalar.cmpi .eq 4#32 0#32⟩⌝
        ∗ ow (F := F) c (oL c + tallyAt (kcell (up 3 c, 0)) () 1))) := by
  unfold bufs; rw [k0_part28_eq_skeleton]
  unfold k0_part28_skel O₀
  simp only [semSignalWord, semWaitWord, Prog.lift, Prog.bind_op, Prog.bind_ret, Prog.pure_eq_ret, wp_deviceId]
  iintro ⟨#HC, HO, HT1, HT2, HL1, HL2⟩
  iapply (wp_sig m PS K c (up 1 c) _ (dev1_eq c) 0 barS rfl (by decide) (ne_up c).1 _ (by decide) (oL c + tallyAt (kcell (up 3 c, 0)) () 1 + tallyAt (kcell (up 2 c, 0)) () 1)) $$ [HO HT1 HL1]
  · iframe; isplitr; · iexact HC
    rw [pay_bar]; iexact HL1
  iintro HO
  iapply (wp_sig m PS K c (up 2 c) _ (dev2_eq c) 0 barS rfl (by decide) (ne_up c).2.1 _ (by decide) (oL c + tallyAt (kcell (up 3 c, 0)) () 1)) $$ [HO HT2 HL2]
  · iframe; isplitr; · iexact HC
    rw [pay_bar]; iexact HL2
  iintro HO
  rw [wp_ret]; imodintro
  isplitr; · ipureintro; rfl
  iexact HO

set_option maxHeartbeats 2000000 in
theorem wp_part29 (c : Dev nD) :
    iprop(Ctx m PS K ∗ ow (F := F) c (oL c + tallyAt (kcell (up 3 c, 0)) () 1) ∗ tk (F := F) (up 3 c) 0 c ∗ lend (F := F) c (up 3 c)
      ∗ at0 (F := F) c 0 ∗ cr (F := F) c 0 3 ∗ (srcL m c ∗ tkL (F := F) c) ∗ (srcR m c ∗ tkR (F := F) c) ∗ (srcG m c ∗ tkG (F := F) c)
      ∗ at_ m c (sAll kM) (sh 5) ∗ some_ (F := F) c (dM m6) ∗ tk (F := F) c 28 0)
    ⊢ wp frame (wpE (defs₀ (F := F)) 𝒱₀ (c : Thread nD τ) none) Set.univ (bufs k0_part29 c (v2w c) barA (Scalar.addi (v2w c) 3#32) 4#32 (Scalar.cmpi .eq 4#32 0#32))
      (fun _ => iprop(ow (F := F) c (oQ c) ∗ at1 (F := F) c 0 ∗ sentL m c ∗ sentR m c ∗ sentG m c ∗ cr (F := F) c 28 NA ∗ dstQ (F := F) c ∗ dstP (F := F) c)) := by
  rw [part29_eq]
  simp only [semSignalWord, semWaitWord, Prog.lift, Prog.bind_op, Prog.bind_ret, Prog.pure_eq_ret]
  iintro ⟨#HC, HO, HT, HL, HA, Hcr, ⟨HsL, HtL⟩, ⟨HsR, HtR⟩, ⟨HsG, HtG⟩, HsA, HdM, HtM⟩
  iapply (wp_sig m PS K c (up 3 c) _ (dev3_eq c) 0 barS rfl (by decide) (ne_up c).2.2 _ (by decide) (oL c)) $$ [HO HT HL]
  · iframe; isplitr; · iexact HC
    rw [pay_bar]; iexact HL
  iintro HO
  iapply (wp_waitReg m PS K c 0 _ rfl (by decide) _ (wpE_semWait_eq 𝒱₀ (c : Thread nD τ) none Set.univ) (by decide) (above_L c (by decide))) $$ [HO HA Hcr]
  · iframe; iexact HC
  iintro ⟨HO, HA, Hp1, Hp2, Hp3⟩
  ihave Hd := (lends_in (F := F) c) $$ [Hp1 Hp2 Hp3]
  · rw [← pay_bar m PS, ← pay_bar m PS, ← pay_bar m PS]; iframe
  icases Hd with ⟨HdL, HdR, HdG, HdQ, HdP⟩
  iapply (wp_seq c (stL c) _ (fun _ => iprop(ow (F := F) c (oR c) ∗ sentL m c)) _)
  isplitl [HO HsL HdL HtL]
  · iapply (wp_stL m PS K c); iframe; iexact HC
  iintro %_ ⟨HO, HsL⟩
  iapply (wp_seq c (stR c) _ (fun _ => iprop(ow (F := F) c (oG c) ∗ sentR m c)) _)
  isplitl [HO HsR HdR HtR]
  · iapply (wp_stR m PS K c); iframe; iexact HC
  iintro %_ ⟨HO, HsR⟩
  iapply (wp_seq c (stG c) _ (fun _ => iprop(ow (F := F) c (oQ c) ∗ sentG m c)) _)
  isplitl [HO HsG HdG HtG]
  · iapply (wp_stG m PS K c); iframe; iexact HC
  iintro %_ ⟨HO, HsG⟩
  ihave HdM := (Entails.of_eq (show some_ (F := F) c (dM m6) = iprop(∃ f, hold c (dM m6) f) from rfl)) $$ HdM
  icases HdM with ⟨%f, HdM⟩
  iapply (wp_copyTo m PS K (src := sAll kM) (dst := dM m6) (sR := SemLoc.dma (dsem8 inb_S4_S1_0)) c 28 rfl (by exact trivial) (by decide) NA rfl rfl (sh 5) _ f
    (by exact Entails.refl _)) $$ [HsA HdM HtM]
  · unfold at_ hold; iframe; iexact HC
  iintro Hc
  rw [wp_ret]; imodintro
  iframe

/-- The last piece of a program. -/
theorem wp_fin {β : Type} (c : Dev nD) (p : Prog (TpuEff nD τ sig (Elt F) Λ₀ .tc) β) (R Q : β → sProp 𝕄) :
    iprop(wp frame (wpE (defs₀ (F := F)) 𝒱₀ (c : Thread nD τ) none) Set.univ p R ∗ (∀ a, R a -∗ Q a)) ⊢ wp frame (wpE (defs₀ (F := F)) 𝒱₀ (c : Thread nD τ) none) Set.univ p Q := wp_wand_r _ _ _

theorem isZ_iff (c : Dev nD) : isZ (v2w c) = 1#1 ↔ c = 0 := by revert c; decide
theorem isP_iff (c : Dev nD) : isP (v2w c) = 1#1 ↔ 0 < c.val := by revert c; decide
theorem isN_iff (c : Dev nD) : isN (v2w c) = 1#1 ↔ c.val < 3 := by revert c; decide

/-- What is stored: the whole buffer, the queries. -/
theorem pts_q (c : Dev nD) (f : (cc0_scratch2 : Ref sig .tc).ty.Contents (Elt F)) :
    ((((c : Thread nD τ).loc cc0_scratch2) ↦{fullShare} ((m8.access (Rect.unit (s := S2048x1024) ![0, 0] S2048x1024.size inb_S2048x1024_S2048x1024_0_0) : View sig .tc _ _ _).write (Elt F) f
      (k0_pay109 ((Memref.whole cc0_stg0_0 : Memref sig .tc _ _ _).view.readAt (Elt F) (Rect.unit (s := S1x2048x1024) ![0, 0, 0] S1x2048x1024.size inb_S1x2048x1024_S1x2048x1024_0_0_0).toLoadRect (xs m c))
        ((Memref.whole cc0_stg1_0 : Memref sig .tc _ _ _).view.readAt (Elt F) (Rect.unit (s := S1024x1024) ![0, 0] S1024x1024.size inb_S1024x1024_S1024x1024_0_0).toLoadRect (wq m c))) Finset.univ)) : sProp 𝕄)
      = (((c : Thread nD τ).loc cc0_scratch2) ↦{fullShare} qsc m c) := by
  have h1 := Memref.readAt_unit_zero (Elt F) cc0_stg0_0 (off := ![0, 0, 0]) (by decide) inb_S1x2048x1024_S1x2048x1024_0_0_0 (xs m c)
  have h2 := Memref.readAt_unit_zero (Elt F) cc0_stg1_0 (off := ![0, 0]) (by decide) inb_S1024x1024_S1024x1024_0_0 (wq m c)
  exact congrArg (fun w => ((((c : Thread nD τ).loc cc0_scratch2) ↦{fullShare} w) : sProp 𝕄))
    ((Memref.write_access_unit_zero_univ (Elt F) cc0_scratch2 (off := ![0, 0]) (by decide) inb_S2048x1024_S2048x1024_0_0 f _).trans (congrArg₂ k0_pay109 h1 h2))

set_option maxHeartbeats 2000000 in
theorem wp_part30 (c : Dev nD) :
    iprop(Ctx m PS K ∗ ow (F := F) c (oQ c) ∗ (at_ m c (sAll vM) (sh 5) ∗ some_ (F := F) c (dM m7) ∗ tk (F := F) c 29 0)
      ∗ ((at0 (F := F) c 30 ∗ at0 (F := F) c 31) ∗ (at_ m c (s32 kM) (sh 6) ∗ at_ m c (s32 vM) (sh 6)) ∗ preGl (F := F) c)
      ∗ (((c : Thread nD τ).loc cc0_stg0_0) ↦{fullShare} xs m c) ∗ (((c : Thread nD τ).loc cc0_stg1_0) ↦{fullShare} wq m c)
      ∗ (∃ f : (cc0_scratch2 : Ref sig .tc).ty.Contents (Elt F), ((c : Thread nD τ).loc cc0_scratch2) ↦{fullShare} f)
      ∗ (dstQ (F := F) c ∗ tkQ (F := F) c)
      ∗ ((at0 (F := F) c 18 ∗ at0 (F := F) c 19 ∗ at0 (F := F) c 22 ∗ at0 (F := F) c 23 ∗ at0 (F := F) c 24) ∗ crRx (F := F) c)
      ∗ ((at0 (F := F) c 20 ∗ at0 (F := F) c 21) ∗ crRy (F := F) c))
    ⊢ wp frame (wpE (defs₀ (F := F)) 𝒱₀ (c : Thread nD τ) none) Set.univ (bufs k0_part30 c (v2w c))
      (fun _ => iprop(ow (F := F) c (oPart c) ∗ cr (F := F) c 29 NA
      ∗ ((done (F := F) c 30 ∗ done (F := F) c 31) ∗ (at_ m c (s32 kM) (sh 6) ∗ at_ m c (s32 vM) (sh 6)) ∗ gotGl m c)
      ∗ (((c : Thread nD τ).loc cc0_stg0_0) ↦{fullShare} xs m c) ∗ (((c : Thread nD τ).loc cc0_stg1_0) ↦{fullShare} wq m c)
      ∗ (sentQ m c ∗ qRest c (qsc m c) ∗ (((c : Thread nD τ).loc cc0_scratch2) ↦{shRest 3} qsc m c))
      ∗ ((done (F := F) c 18 ∗ done (F := F) c 19 ∗ done (F := F) c 22 ∗ done (F := F) c 23 ∗ done (F := F) c 24) ∗ gotRx m PS c)
      ∗ ((done (F := F) c 20 ∗ done (F := F) c 21) ∗ gotRy m PS c))) := by
  rw [part30_eq]
  simp only [Prog.lift, Prog.bind_op, Prog.bind_ret, Prog.pure_eq_ret]
  iintro ⟨#HC, HO, ⟨HsA, HdM, HtM⟩, ⟨HA3, Hs32, HGl⟩, Hx, Hw, ⟨%fq, Hq⟩, ⟨HdQ, HtQ⟩, ⟨HAx, Hcx⟩, ⟨HAy, Hcy⟩⟩
  ihave HdM := (Entails.of_eq (show some_ (F := F) c (dM m7) = iprop(∃ f, hold c (dM m7) f) from rfl)) $$ HdM
  icases HdM with ⟨%f, HdM⟩
  iapply (wp_copyTo m PS K (src := sAll vM) (dst := dM m7) (sR := SemLoc.dma (dsem8 inb_S4_S1_1)) c 29 rfl (by exact trivial) (by decide) NA rfl rfl (sh 5) _ f
    (by exact Entails.refl _)) $$ [HsA HdM HtM]
  · unfold at_ hold; iframe; iexact HC
  iintro Hc
  iapply (wp_seq c (stGl (isZ (v2w c))) _ (fun _ => iprop(ow (F := F) c (oQ c) ∗ (done (F := F) c 30 ∗ done (F := F) c 31) ∗ (at_ m c (s32 kM) (sh 6) ∗ at_ m c (s32 vM) (sh 6)) ∗ gotGl m c)) _)
  isplitl [HO HA3 Hs32 HGl]
  · iapply (wp_stGl m PS K c _ (isZ_iff c)); iframe; iexact HC
  iintro %_ ⟨HO, HA3, Hs32, HGl⟩
  iapply (wp_load 𝒱₀ (c : Thread nD τ) none Set.univ (m := Memref.whole cc0_stg0_0) (Finset.subset_univ _)) $$ Hx
  iintro Hx
  iapply (wp_load 𝒱₀ (c : Thread nD τ) none Set.univ (m := Memref.whole cc0_stg1_0) (Finset.subset_univ _)) $$ Hw
  iintro Hw
  iapply (wp_load 𝒱₀ (c : Thread nD τ) none Set.univ (m := Memref.whole cc0_scratch2) (Finset.subset_univ _)) $$ Hq
  iintro Hq
  iapply (wp_store 𝒱₀ (c : Thread nD τ) none Set.univ (m := Memref.whole cc0_scratch2) (r := Rect.unit (s := S2048x1024) ![0, 0] S2048x1024.size inb_S2048x1024_S2048x1024_0_0) (Mk := Finset.univ) (Finset.subset_univ _)) $$ Hq
  iintro Hq
  ihave Hq := (Entails.of_eq ((pts_q m c fq).trans (q_parts (F := F) c (qsc m c)))) $$ Hq
  icases Hq with ⟨Hq0, Hq1, Hq2, HqR, Hq⟩
  iapply (wp_seq c (stQ c) _ (fun _ => iprop(ow (F := F) c (oPart c) ∗ sentQ m c)) _)
  isplitl [HO Hq0 Hq1 Hq2 HdQ HtQ]
  · iapply (wp_stQ m PS K c); unfold srcQ; iframe; iexact HC
  iintro %_ ⟨HO, HsQ⟩
  iapply (wp_seq c (stRx (isP (v2w c))) _ (fun _ => iprop(ow (F := F) c (oPart c) ∗ (done (F := F) c 18 ∗ done (F := F) c 19 ∗ done (F := F) c 22 ∗ done (F := F) c 23 ∗ done (F := F) c 24) ∗ gotRx m PS c)) _)
  isplitl [HO HAx Hcx]
  · iapply (wp_stRx m PS K c _ (isP_iff c)); iframe; iexact HC
  iintro %_ ⟨HO, HAx, Hgx⟩
  iapply (wp_fin c (stRy (isN (v2w c))) (fun _ => iprop(ow (F := F) c (oPart c) ∗ (done (F := F) c 20 ∗ done (F := F) c 21) ∗ gotRy m PS c)) _)
  isplitl [HO HAy Hcy]
  · iapply (wp_stRy m PS K c _ (isN_iff c)); iframe; iexact HC
  iintro %_ ⟨HO, HAy, Hgy⟩
  iframe

end Cert.KernelIdeal.Mesh
-- ==== Proof.Compute.lean ====
/-
The program's computations by name, and the body as a sequence of them and the transfers' stretches.
-/
module

public import proofs.«01_k».proof.Proof.Opening

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The first head's partial sums, once the device's own keys and values are in place. -/
def heads31 (v2 : BitVec 32) : Prog (TpuEff nD τ sig (Elt F) Λ₀ .tc) (Σ' (v92 : BitVec 1) (v104 : FVec F S32x1 .f32), FVec F S32x1 .f32) := do
  let v92 : BitVec 1 := Scalar.cmpi .eq v2 0#32
  let v93 : Vec F S32x128 .f32 ← Prog.lift (.load (Memref.whole cc0_scratch2) (Rect.unit (s := S2048x1024) ![0, 0] S32x128.size inb_S2048x1024_S32x128_0_0).toLoadRect (View.loadsAt_vmem h_S32x128))
  let v94 : Vec F S32x128 .f32 ← Prog.lift (.load (Memref.whole cc0_scratch3) (Rect.unit (s := S32x1024) ![0, 0] S32x128.size inb_S32x1024_S32x128_0_0).toLoadRect (View.loadsAt_vmem h_S32x128))
  let v96 : Vec F S2048x1x128 .f32 ← Prog.lift (.load (Memref.whole cc0_scratch0) (Rect.unit (s := S2336x8x128) ![160, 0, 0] S2048x1x128.size inb_S2336x8x128_S2048x1x128_160_0_0).toLoadRect (View.loadsAt_vmem h_S2048x1x128))
  let v98 : Vec F S2048x1x128 .f32 ← Prog.lift (.load (Memref.whole cc0_scratch1) (Rect.unit (s := S2336x8x128) ![160, 0, 0] S2048x1x128.size inb_S2336x8x128_S2048x1x128_160_0_0).toLoadRect (View.loadsAt_vmem h_S2048x1x128))
  let v111 : Vec F S32x128 .f32 ← Prog.lift (.load (Memref.whole cc0_scratch4) (Rect.unit (s := S32x1040) ![0, 0] S32x128.size inb_S32x1040_S32x128_0_0).toLoadRect (View.loadsAt_vmem h_S32x128))
  Prog.lift (.store (Memref.whole cc0_scratch4) (Rect.unit (s := S32x1040) ![0, 0] S32x128.size inb_S32x1040_S32x128_0_0) (k0_pay114 v2 v93 v94 v96 v98) Finset.univ (View.stores_vmem_bits_univ h_S32x128 rfl) (.inl rfl))
  pure ⟨v92, k0_pay111 v2 v93 v94 v96, k0_pay113 v2 v93 v94 v96⟩

/-- Every head's partial sums over the device's own keys. -/
def heads (v2 : BitVec 32) : Prog (TpuEff nD τ sig (Elt F) Λ₀ .tc) (Σ' (v298 : FVec F S32x1 .f32), FVec F S32x1 .f32) := do
  let ⟨v92, v104, v109⟩ : Σ' (v92 : BitVec 1) (v104 : FVec F S32x1 .f32), FVec F S32x1 .f32 ← heads31 v2
  let v146 : FVec F S32x1 .f32 ← bufs k0_part32 v92 v104 v109
  let v176 : Vec F S32x128 .f32 ← bufs k0_part33 v92 v146
  let ⟨v203, v205, v207⟩ : Σ' (v203 : Vec F S32x128 .f32) (v205 : FVec F S2048x128 .f32), FVec F S2048x128 .f32 ← bufs k0_part34 v92 v176
  let ⟨v234, v237, v239, v240⟩ : Σ' (v234 : FVec F S2048x128 .f32) (v237 : FVec F S32x2048 .f32) (v239 : FVec F S32x1 .f32), FVec F S32x2048 .f32 ← bufs k0_part35 v92 v203 v205 v207
  let ⟨v266, v271, v272⟩ : Σ' (v266 : FVec F S32x1 .f32) (v271 : FVec F S32x1 .f32), FVec F S32x128 .f32 ← bufs k0_part36 v92 v234 v237 v239 v240
  let ⟨v298, v305⟩ : Σ' (v298 : FVec F S32x1 .f32), FVec F S32x1 .f32 ← bufs k0_part37 v92 v266 v271 v272
  Prog.lift (.store (Memref.whole cc0_scratch4) (Rect.unit (s := S32x1040) ![0, 1031] S32x1.size inb_S32x1040_S32x1_0_1031) v305 Finset.univ (View.stores_vmem_bits_univ h_S32x1 rfl) (.inl rfl))
  let v306 : Vec F S32x1 .f32 ← Prog.lift (.load (Memref.whole cc0_scratch4) (Rect.unit (s := S32x1040) ![0, 1039] S32x1.size inb_S32x1040_S32x1_0_1039).toLoadRect (View.loadsAt_vmem h_S32x1))
  Prog.lift (.store (Memref.whole cc0_scratch4) (Rect.unit (s := S32x1040) ![0, 1039] S32x1.size inb_S32x1040_S32x1_0_1039) (k0_pay167 v298) Finset.univ (View.stores_vmem_bits_univ h_S32x1 rfl) (.inl rfl))
  pure ⟨v298, v305⟩

/-- The first head's partial sums as the first device reads them. -/
def comb13 : Prog (TpuEff nD τ sig (Elt F) Λ₀ .tc) (Σ' (v396 : Vec F S32x1 .f32) (v397 : Vec F S32x1 .f32) (v398 : Vec F S32x128 .f32) (v400 : FVec F S32x1 .f32), Vec F S1x32x1 .f32) := do
  let v396 : Vec F S32x1 .f32 ← Prog.lift (.load (Memref.whole cc0_scratch4) (Rect.unit (s := S32x1040) ![0, 1024] S32x1.size inb_S32x1040_S32x1_0_1024).toLoadRect (View.loadsAt_vmem h_S32x1))
  let v397 : Vec F S32x1 .f32 ← Prog.lift (.load (Memref.whole cc0_scratch4) (Rect.unit (s := S32x1040) ![0, 1032] S32x1.size inb_S32x1040_S32x1_0_1032).toLoadRect (View.loadsAt_vmem h_S32x1))
  let v398 : Vec F S32x128 .f32 ← Prog.lift (.load (Memref.whole cc0_scratch4) (Rect.unit (s := S32x1040) ![0, 0] S32x128.size inb_S32x1040_S32x128_0_0).toLoadRect (View.loadsAt_vmem h_S32x128))
  let v399 : Vec F S1x32x1 .f32 ← Prog.lift (.load (Memref.whole cc0_scratch5) (Rect.unit (s := S3x32x1040) ![0, 0, 1024] S1x32x1.size inb_S3x32x1040_S1x32x1_0_0_1024).toLoadRect (View.loadsAt_vmem h_S1x32x1))
  let v401 : Vec F S1x32x1 .f32 ← Prog.lift (.load (Memref.whole cc0_scratch5) (Rect.unit (s := S3x32x1040) ![0, 0, 1032] S1x32x1.size inb_S3x32x1040_S1x32x1_0_0_1032).toLoadRect (View.loadsAt_vmem h_S1x32x1))
  pure ⟨v396, v397, v398, k0_pay16 v399, v401⟩

/-- The first device's rows: the four devices' partial sums combined, head by head. -/
def comb (v2 : BitVec 32) : Prog (TpuEff nD τ sig (Elt F) Λ₀ .tc) PUnit := do
  let ⟨v396, v397, v398, v400, v401⟩ : Σ' (v396 : Vec F S32x1 .f32) (v397 : Vec F S32x1 .f32) (v398 : Vec F S32x128 .f32) (v400 : FVec F S32x1 .f32), Vec F S1x32x1 .f32 ← comb13
  let ⟨v410, v412, v414, v416, v419, v432, v435, v437, v438⟩ : Σ' (v410 : FVec F S32x128 .f32) (v412 : FVec F S32x1 .f32) (v414 : FVec F S32x1 .f32) (v416 : FVec F S32x128 .f32) (v419 : FVec F S32x1 .f32) (v432 : FVec F S32x1 .f32) (v435 : FVec F S32x128 .f32) (v437 : FVec F S32x1 .f32), FVec F S32x1 .f32 ← bufs k0_part14 v396 v397 v398 v400 v401
  let ⟨v455, v456, v457, v459, v461, v463, v465, v467, v469⟩ : Σ' (v455 : Vec F S32x1 .f32) (v456 : Vec F S32x1 .f32) (v457 : Vec F S32x128 .f32) (v459 : FVec F S32x1 .f32) (v461 : FVec F S32x1 .f32) (v463 : FVec F S32x128 .f32) (v465 : FVec F S32x1 .f32) (v467 : FVec F S32x1 .f32), FVec F S32x128 .f32 ← bufs k0_part15 v410 v412 v414 v416 v419 v432 v435 v437 v438
  bufs k0_part16 v455 v456 v457 v459 v461 v463 v465 v467 v469
  let ⟨v515, v516, v518, v520, v522, v524, v526, v528, v530, v532, v534, v537, v538, v539, v540⟩ : Σ' (v515 : Vec F S32x1 .f32) (v516 : Vec F S32x128 .f32) (v518 : FVec F S32x1 .f32) (v520 : FVec F S32x1 .f32) (v522 : FVec F S32x128 .f32) (v524 : FVec F S32x1 .f32) (v526 : FVec F S32x1 .f32) (v528 : FVec F S32x128 .f32) (v530 : FVec F S32x1 .f32) (v532 : FVec F S32x1 .f32) (v534 : FVec F S32x128 .f32) (v537 : FVec F S32x1 .f32) (v538 : FVec F S32x1 .f32) (v539 : FVec F S32x128 .f32), FVec F S32x1 .f32 ← bufs k0_part17
  let ⟨v573, v574, v575, v577, v579, v581⟩ : Σ' (v573 : Vec F S32x1 .f32) (v574 : Vec F S32x1 .f32) (v575 : Vec F S32x128 .f32) (v577 : FVec F S32x1 .f32) (v579 : FVec F S32x1 .f32), FVec F S32x128 .f32 ← bufs k0_part18 v515 v516 v518 v520 v522 v524 v526 v528 v530 v532 v534 v537 v538 v539 v540
  let ⟨v591, v593, v616, v619, v621⟩ : Σ' (v591 : FVec F S32x1 .f32) (v593 : FVec F S32x128 .f32) (v616 : FVec F S32x1 .f32) (v619 : FVec F S32x128 .f32), FVec F S32x1 .f32 ← bufs k0_part19 v573 v574 v575 v577 v579 v581
  let ⟨v632, v633, v634, v636, v638, v640, v642, v644, v646, v648⟩ : Σ' (v632 : Vec F S32x1 .f32) (v633 : Vec F S32x1 .f32) (v634 : Vec F S32x128 .f32) (v636 : FVec F S32x1 .f32) (v638 : FVec F S32x1 .f32) (v640 : FVec F S32x128 .f32) (v642 : FVec F S32x1 .f32) (v644 : FVec F S32x1 .f32) (v646 : FVec F S32x128 .f32), FVec F S32x1 .f32 ← bufs k0_part20 v591 v593 v616 v619 v621
  let ⟨v691, v692⟩ : Σ' (v691 : Vec F S32x1 .f32), Vec F S32x1 .f32 ← bufs k0_part21 v632 v633 v634 v636 v638 v640 v642 v644 v646 v648
  let ⟨v695, v697, v699, v701, v703, v705, v707, v709, v711, v714, v720, v723⟩ : Σ' (v695 : FVec F S32x1 .f32) (v697 : FVec F S32x1 .f32) (v699 : FVec F S32x128 .f32) (v701 : FVec F S32x1 .f32) (v703 : FVec F S32x1 .f32) (v705 : FVec F S32x128 .f32) (v707 : FVec F S32x1 .f32) (v709 : FVec F S32x1 .f32) (v711 : FVec F S32x128 .f32) (v714 : FVec F S32x1 .f32) (v720 : FVec F S32x1 .f32), FVec F S32x128 .f32 ← bufs k0_part22 v691 v692
  let ⟨v750, v751, v752, v754, v756, v758, v760⟩ : Σ' (v750 : Vec F S32x1 .f32) (v751 : Vec F S32x1 .f32) (v752 : Vec F S32x128 .f32) (v754 : FVec F S32x1 .f32) (v756 : FVec F S32x1 .f32) (v758 : FVec F S32x128 .f32), FVec F S32x1 .f32 ← bufs k0_part23 v695 v697 v699 v701 v703 v705 v707 v709 v711 v714 v720 v723
  let ⟨v803, v804⟩ : Σ' (v803 : FVec F S32x128 .f32), FVec F S32x128 .f32 ← bufs k0_part24 v750 v751 v752 v754 v756 v758 v760
  let ⟨v809, v810, v811, v813, v815, v817, v819, v821, v823, v825, v827⟩ : Σ' (v809 : Vec F S32x1 .f32) (v810 : Vec F S32x1 .f32) (v811 : Vec F S32x128 .f32) (v813 : FVec F S32x1 .f32) (v815 : FVec F S32x1 .f32) (v817 : FVec F S32x128 .f32) (v819 : FVec F S32x1 .f32) (v821 : FVec F S32x1 .f32) (v823 : FVec F S32x128 .f32) (v825 : FVec F S32x1 .f32), FVec F S32x1 .f32 ← bufs k0_part25 v803 v804
  let v828 : Vec F S1x32x128 .f32 ← Prog.lift (.load (Memref.whole cc0_scratch5) (Rect.unit (s := S3x32x1040) ![2, 0, 896] S1x32x128.size inb_S3x32x1040_S1x32x128_2_0_896).toLoadRect (View.loadsAt_vmem h_S1x32x128))
  let v865 : Vec F S1x32x128 .f32 ← Prog.lift (.load (Memref.whole cc0_stg3_0) (Rect.unit (s := S1x2048x1024) ![0, 0, 896] S1x32x128.size inb_S1x2048x1024_S1x32x128_0_0_896).toLoadRect (View.loadsAt_vmem h_S1x32x128))
  Prog.lift (.store (Memref.whole cc0_stg3_0) (Rect.unit (s := S1x2048x1024) ![0, 0, 896] S1x32x128.size inb_S1x2048x1024_S1x32x128_0_0_896) (k0_pay169 v809 v810 v811 v813 v815 v817 v819 v821 v823 v825 v827 v828) Finset.univ (View.stores_vmem_bits_univ h_S1x32x128 rfl) (.inl rfl))
  pure ⟨⟩

/-- The waits for the three other devices' partial sums, then the combination. -/
def stC (v2 : BitVec 32) (b : BitVec 1) : Prog (TpuEff nD τ sig (Elt F) Λ₀ .tc) PUnit :=
  if h : b = 1#1 then do
    Prog.lift (.waitDma2 (dsem7 inb_S10_S1_7) (m10) (p0) (Memref.isWhole_whole _).wordExact ((View.wordExact_bits rfl).reshape _ _))
    Prog.lift (.waitDma2 (dsem7 inb_S10_S1_8) (m10) (p1) (Memref.isWhole_whole _).wordExact ((View.wordExact_bits rfl).reshape _ _))
    Prog.lift (.waitDma2 (dsem7 inb_S10_S1_9) (m10) (p2) (Memref.isWhole_whole _).wordExact ((View.wordExact_bits rfl).reshape _ _))
    comb v2
  else pure ⟨⟩

/-- The product with the output's weights. -/
def fin : Prog (TpuEff nD τ sig (Elt F) Λ₀ .tc) PUnit := do
  let v322 : Vec F S1x2048x1024 .f32 ← Prog.lift (.load (Memref.whole cc0_stg3_0) (Rect.unit (s := S1x2048x1024) ![0, 0, 0] S1x2048x1024.size inb_S1x2048x1024_S1x2048x1024_0_0_0).toLoadRect (View.loadsAt_vmem h_S1x2048x1024))
  let v324 : Vec F S1024x1024 .f32 ← Prog.lift (.load (Memref.whole cc0_stg2_0) (Rect.unit (s := S1024x1024) ![0, 0] S1024x1024.size inb_S1024x1024_S1024x1024_0_0).toLoadRect (View.loadsAt_vmem h_S1024x1024))
  let v327 : Vec F S1x2048x1024 .f32 ← Prog.lift (.load (Memref.whole cc0_stg3_0) (Rect.unit (s := S1x2048x1024) ![0, 0, 0] S1x2048x1024.size inb_S1x2048x1024_S1x2048x1024_0_0_0).toLoadRect (View.loadsAt_vmem h_S1x2048x1024))
  Prog.lift (.store (Memref.whole cc0_stg3_0) (Rect.unit (s := S1x2048x1024) ![0, 0, 0] S1x2048x1024.size inb_S1x2048x1024_S1x2048x1024_0_0_0) (k0_pay170 v322 v324) Finset.univ (View.stores_vmem_bits_univ h_S1x2048x1024 rfl) (.inl rfl))

theorem part31_eq (v2 : BitVec 32) : bufs (k0_part31 (F := F)) v2 = (do
    Prog.lift (.waitDma2 (dsem8 inb_S4_S1_0) (sAll kM) (dM m6) ((View.wordExact_bits rfl).reshape _ _) (View.wordExact_bits rfl))
    Prog.lift (.waitDma2 (dsem8 inb_S4_S1_1) (sAll vM) (dM m7) ((View.wordExact_bits rfl).reshape _ _) (View.wordExact_bits rfl))
    heads31 v2) := by
  unfold bufs; rw [k0_part31_eq_skeleton]; rfl

theorem part38_eq (d0 : Dev nD) (v2 : BitVec 32) (v298 v305 : FVec F S32x1 .f32) : bufs (k0_part38 (F := F)) d0 v2 v298 v305 = (do
    Prog.lift (.store (Memref.whole cc0_scratch4) (Rect.unit (s := S32x1040) ![0, 1031] S32x1.size inb_S32x1040_S32x1_0_1031) v305 Finset.univ (View.stores_vmem_bits_univ h_S32x1 rfl) (.inl rfl))
    let v306 : Vec F S32x1 .f32 ← Prog.lift (.load (Memref.whole cc0_scratch4) (Rect.unit (s := S32x1040) ![0, 1039] S32x1.size inb_S32x1040_S32x1_0_1039).toLoadRect (View.loadsAt_vmem h_S32x1))
    Prog.lift (.store (Memref.whole cc0_scratch4) (Rect.unit (s := S32x1040) ![0, 1039] S32x1.size inb_S32x1040_S32x1_0_1039) (k0_pay167 v298) Finset.univ (View.stores_vmem_bits_univ h_S32x1 rfl) (.inl rfl))
    stP8 d0; stP9 d0; stP10 d0
    Scf.Loop.for k0_t1_loop k0_t1_ok ⟨⟩ (bufs k0_t1_body d0 v2 v298 v305)
    stC v2 (isZ v2)
    fin
    pure (isP v2)) := by
  unfold bufs; rw [k0_part38_eq_skeleton]; unfold k0_part38_skel stP8 stP9 stP10 stC comb
  simp only [k0_part13_eq_skeleton]
  by_cases h1 : k0_cond8 d0 = 1#1 <;> by_cases h2 : k0_cond9 d0 = 1#1 <;> by_cases h3 : k0_cond10 d0 = 1#1 <;> by_cases h4 : isZ v2 = 1#1 <;>
    simp only [h1, h2, h3, h4, dif_pos, dif_neg, not_false_eq_true] <;> rfl

theorem body_eq : bufs (cc0_body (F := F)) = (do
    let ⟨d0, v2, v3, v30, c4, v31⟩ : Σ' (d0 : Dev nD) (v2 : BitVec 32) (v3 : Sems sig S_) (v30 : BitVec 32) (c4 : BitVec 32), BitVec 1 ← bufs k0_part28
    bufs k0_part29 d0 v2 v3 v30 c4 v31
    bufs k0_part30 d0 v2
    Prog.lift (.waitDma2 (dsem8 inb_S4_S1_0) (sAll kM) (dM m6) ((View.wordExact_bits rfl).reshape _ _) (View.wordExact_bits rfl))
    Prog.lift (.waitDma2 (dsem8 inb_S4_S1_1) (sAll vM) (dM m7) ((View.wordExact_bits rfl).reshape _ _) (View.wordExact_bits rfl))
    let ⟨v298, v305⟩ : Σ' (v298 : FVec F S32x1 .f32), FVec F S32x1 .f32 ← heads v2
    stP8 d0; stP9 d0; stP10 d0
    Scf.Loop.for k0_t1_loop k0_t1_ok ⟨⟩ (bufs k0_t1_body d0 v2 v298 v305)
    stC v2 (isZ v2)
    fin
    bufs k0_part39 d0 v2 (isP v2)
    semSignalWord (⟨k0_dev21 d0, k0_dev21_lt d0⟩ : Dev nD) cc0_scratch9.sem 1#32
    semSignalWord (⟨k0_dev22 d0, k0_dev22_lt d0⟩ : Dev nD) cc0_scratch9.sem 1#32
    semWaitWord cc0_scratch9.sem 3#32
    pure ⟨⟩) := by
  have e31 := part31_eq (F := F)
  have e38 := part38_eq (F := F)
  unfold bufs at e31 e38 ⊢
  rw [cc0_body_eq_skeleton]; unfold cc0_body_skel heads bufs
  simp only [e31, e38, bind_assoc, pure_bind]

end Cert.KernelIdeal.Mesh
-- ==== Proof.HeadsRun.lean ====
/-
The partial sums' stretch, run: what it leaves in the buffer that holds them.
-/
module

public import proofs.«01_k».proof.Proof.Compute

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Tactic

/-- What the stretch reads and writes. -/
abbrev HeadsRes (c : Dev nD) (f6 : B6 F) (f7 : B7 F) (f8 : (cc0_scratch2 : Ref sig .tc).ty.Contents (Elt F)) (f9 : (cc0_scratch3 : Ref sig .tc).ty.Contents (Elt F)) (f10 : (cc0_scratch4 : Ref sig .tc).ty.Contents (Elt F)) : sProp 𝕄 :=
  iprop(((Memref.whole cc0_scratch0).view.loc (c : Thread nD τ) ↦[(Memref.whole cc0_scratch0).view.set]{fullShare} f6) ∗ ((Memref.whole cc0_scratch1).view.loc (c : Thread nD τ) ↦[(Memref.whole cc0_scratch1).view.set]{fullShare} f7)
    ∗ ((Memref.whole cc0_scratch2).view.loc (c : Thread nD τ) ↦[(Memref.whole cc0_scratch2).view.set]{shRest 3} f8) ∗ ((Memref.whole cc0_scratch3).view.loc (c : Thread nD τ) ↦[(Memref.whole cc0_scratch3).view.set]{fullShare} f9)
    ∗ ((Memref.whole cc0_scratch4).view.loc (c : Thread nD τ) ↦[(Memref.whole cc0_scratch4).view.set]{fullShare} f10))

set_option maxHeartbeats 8000000 in
@[irreducible] def headsRun (c : Dev nD) (v2 : BitVec 32) (f6 : B6 F) (f7 : B7 F) (f8 : (cc0_scratch2 : Ref sig .tc).ty.Contents (Elt F)) (f9 : (cc0_scratch3 : Ref sig .tc).ty.Contents (Elt F)) :
    { L : List (View.Piece (Elt F) S32x1040 .f32) // ∀ (f10 : (cc0_scratch4 : Ref sig .tc).ty.Contents (Elt F)),
      HeadsRes (F := F) c f6 f7 f8 f9 f10
      ⊢ wp frame (wpE (defs₀ (F := F)) 𝒱₀ (c : Thread nD τ) none) Set.univ (heads (F := F) v2) (fun _ => HeadsRes (F := F) c f6 f7 f8 f9 ((Memref.whole cc0_scratch4).view.writes (Elt F) f10 L)) } := by
  refine ⟨?_, fun f10 => ?run⟩
  case run =>
    unfold heads heads31 bufs
    iintro ⟨H6, H7, H8, H9, H10⟩
    sl_exec
    sl_step
    sl_close

end Cert.KernelIdeal.Mesh
-- ==== Proof.LoopRun.lean ====
/-
The loop over blocks of queries, run: the pieces each trip writes into the output's buffer, and the loop by its invariant.
-/
module

public import proofs.«01_k».proof.Proof.HeadsRun

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Tactic

/-- What a trip reads and writes. -/
abbrev TripRes (c : Dev nD) (f6 : B6 F) (f7 : B7 F) (f8 : (cc0_scratch2 : Ref sig .tc).ty.Contents (Elt F)) (f5 : (cc0_stg3_0 : Ref sig .tc).ty.Contents (Elt F)) : sProp 𝕄 :=
  iprop(((Memref.whole cc0_scratch0).view.loc (c : Thread nD τ) ↦[(Memref.whole cc0_scratch0).view.set]{fullShare} f6) ∗ ((Memref.whole cc0_scratch1).view.loc (c : Thread nD τ) ↦[(Memref.whole cc0_scratch1).view.set]{fullShare} f7) ∗ ((Memref.whole cc0_scratch2).view.loc (c : Thread nD τ) ↦[(Memref.whole cc0_scratch2).view.set]{shRest 3} f8) ∗ ((Memref.whole cc0_stg3_0).view.loc (c : Thread nD τ) ↦[(Memref.whole cc0_stg3_0).view.set]{fullShare} f5))

set_option maxHeartbeats 8000000 in
@[irreducible] def tripRun (c : Dev nD) (v2 : BitVec 32) (v298 v305 : FVec F S32x1 .f32) (f6 : B6 F) (f7 : B7 F) (f8 : (cc0_scratch2 : Ref sig .tc).ty.Contents (Elt F)) (k : Fin k0_t1_loop.trips) :
    { L : List (View.Piece (Elt F) S1x2048x1024 .f32) // ∀ (f5 : (cc0_stg3_0 : Ref sig .tc).ty.Contents (Elt F)),
      TripRes (F := F) c f6 f7 f8 f5
      ⊢ wp frame (wpE (defs₀ (F := F)) 𝒱₀ (c : Thread nD τ) none) Set.univ (bufs (k0_t1_body (F := F)) c v2 v298 v305 k PUnit.unit) (fun _ => TripRes (F := F) c f6 f7 f8 ((Memref.whole cc0_stg3_0).view.writes (Elt F) f5 L)) } := by
  have hk : k.val < 8 := Nat.lt_of_lt_of_le k.isLt k0_t1_abs.2.1
  refine ⟨?_, fun f5 => ?run⟩
  case run =>
    unfold bufs k0_t1_body
    iintro ⟨H6, H7, H8, H5⟩
    sl_exec
    sl_step
    sl_close

/-- The pieces of the trips before trip `k`, the last first. -/
def loopPieces (c : Dev nD) (v2 : BitVec 32) (v298 v305 : FVec F S32x1 .f32) (f6 : B6 F) (f7 : B7 F) (f8 : (cc0_scratch2 : Ref sig .tc).ty.Contents (Elt F)) : ℕ → List (View.Piece (Elt F) S1x2048x1024 .f32)
  | 0 => []
  | k + 1 => (if h : k < k0_t1_loop.trips then (tripRun (F := F) c v2 v298 v305 f6 f7 f8 ⟨k, h⟩).1 else []) ++ loopPieces c v2 v298 v305 f6 f7 f8 k

theorem loopPieces_succ (c : Dev nD) (v2 : BitVec 32) (v298 v305 : FVec F S32x1 .f32) (f6 : B6 F) (f7 : B7 F) (f8 : (cc0_scratch2 : Ref sig .tc).ty.Contents (Elt F)) (k : Fin k0_t1_loop.trips) :
    loopPieces (F := F) c v2 v298 v305 f6 f7 f8 (k.val + 1) = (tripRun (F := F) c v2 v298 v305 f6 f7 f8 k).1 ++ loopPieces (F := F) c v2 v298 v305 f6 f7 f8 k.val := by
  rw [loopPieces, dif_pos k.isLt]

theorem wp_loop (c : Dev nD) (v2 : BitVec 32) (v298 v305 : FVec F S32x1 .f32) (f6 : B6 F) (f7 : B7 F) (f8 : (cc0_scratch2 : Ref sig .tc).ty.Contents (Elt F)) (f5 : (cc0_stg3_0 : Ref sig .tc).ty.Contents (Elt F)) :
    TripRes (F := F) c f6 f7 f8 f5
      ⊢ wp frame (wpE (defs₀ (F := F)) 𝒱₀ (c : Thread nD τ) none) Set.univ (Scf.Loop.for k0_t1_loop k0_t1_ok ⟨⟩ (bufs (k0_t1_body (F := F)) c v2 v298 v305))
        (fun _ => TripRes (F := F) c f6 f7 f8 ((Memref.whole cc0_stg3_0).view.writes (Elt F) f5 (loopPieces (F := F) c v2 v298 v305 f6 f7 f8 k0_t1_loop.trips))) := by
  have hb : ∀ (k : Fin (Scf.trips k0_t1_loop.lb k0_t1_loop.ub k0_t1_loop.st)) (acc : Unit),
      TripRes (F := F) c f6 f7 f8 ((Memref.whole cc0_stg3_0).view.writes (Elt F) f5 (loopPieces (F := F) c v2 v298 v305 f6 f7 f8 k.val))
      ⊢ wp frame (wpE (defs₀ (F := F)) 𝒱₀ (c : Thread nD τ) none) Set.univ (bufs (k0_t1_body (F := F)) c v2 v298 v305 k acc)
        (fun _ => TripRes (F := F) c f6 f7 f8 ((Memref.whole cc0_stg3_0).view.writes (Elt F) f5 (loopPieces (F := F) c v2 v298 v305 f6 f7 f8 (k.val + 1)))) := by
    intro k acc
    have h := (tripRun (F := F) c v2 v298 v305 f6 f7 f8 k).2 ((Memref.whole cc0_stg3_0).view.writes (Elt F) f5 (loopPieces (F := F) c v2 v298 v305 f6 f7 f8 k.val))
    rw [loopPieces_succ (F := F) c v2 v298 v305 f6 f7 f8 k, View.writes_append]
    exact h
  iintro H
  iapply (Scf.wp_for Idealize.ShloMosaic.frame (wpE (defs₀ (F := F)) 𝒱₀ (c : Thread nD τ) none) Set.univ k0_t1_loop.lb k0_t1_loop.ub k0_t1_loop.st k0_t1_ok PUnit.unit _
    (fun k _ => TripRes (F := F) c f6 f7 f8 ((Memref.whole cc0_stg3_0).view.writes (Elt F) f5 (loopPieces (F := F) c v2 v298 v305 f6 f7 f8 k))) hb)
  isplitl [H]
  · iexact H
  iintro %_ H
  iexact H

end Cert.KernelIdeal.Mesh
-- ==== Proof.CombRun.lean ====
/-
The first device's combination of the partial sums, run; and the product with the output's weights.
-/
module

public import proofs.«01_k».proof.Proof.LoopRun

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Tactic

variable (m : (ℓ : Loc nD τ sig) → Buf (Elt F) ℓ)

/-- What the combination reads and writes. -/
abbrev CombRes (c : Dev nD) (f10 : (cc0_scratch4 : Ref sig .tc).ty.Contents (Elt F)) (f11 : B11 F) (f5 : (cc0_stg3_0 : Ref sig .tc).ty.Contents (Elt F)) : sProp 𝕄 :=
  iprop(((Memref.whole cc0_scratch4).view.loc (c : Thread nD τ) ↦[(Memref.whole cc0_scratch4).view.set]{fullShare} f10) ∗ ((Memref.whole cc0_scratch5).view.loc (c : Thread nD τ) ↦[(Memref.whole cc0_scratch5).view.set]{fullShare} f11) ∗ ((Memref.whole cc0_stg3_0).view.loc (c : Thread nD τ) ↦[(Memref.whole cc0_stg3_0).view.set]{fullShare} f5))

set_option maxHeartbeats 8000000 in
@[irreducible] def combRun (c : Dev nD) (v2 : BitVec 32) (f10 : (cc0_scratch4 : Ref sig .tc).ty.Contents (Elt F)) (f11 : B11 F) :
    { L : List (View.Piece (Elt F) S1x2048x1024 .f32) // ∀ (f5 : (cc0_stg3_0 : Ref sig .tc).ty.Contents (Elt F)),
      CombRes (F := F) c f10 f11 f5
      ⊢ wp frame (wpE (defs₀ (F := F)) 𝒱₀ (c : Thread nD τ) none) Set.univ (comb (F := F) v2) (fun _ => CombRes (F := F) c f10 f11 ((Memref.whole cc0_stg3_0).view.writes (Elt F) f5 L)) } := by
  refine ⟨?_, fun f5 => ?run⟩
  case run =>
    unfold comb comb13 bufs
    iintro ⟨H10, H11, H5⟩
    sl_exec
    sl_step
    sl_close

/-- What the last store leaves: the whole buffer, the product. -/
theorem pts_out (c : Dev nD) (f g : (cc0_stg3_0 : Ref sig .tc).ty.Contents (Elt F)) :
    ((((c : Thread nD τ).loc cc0_stg3_0) ↦{fullShare} (((Memref.whole cc0_stg3_0 : Memref sig .tc _ _ _).access (Rect.unit (s := S1x2048x1024) ![0, 0, 0] S1x2048x1024.size inb_S1x2048x1024_S1x2048x1024_0_0_0) : View sig .tc _ _ _).write (Elt F) g
      (k0_pay170 ((Memref.whole cc0_stg3_0 : Memref sig .tc _ _ _).view.readAt (Elt F) (Rect.unit (s := S1x2048x1024) ![0, 0, 0] S1x2048x1024.size inb_S1x2048x1024_S1x2048x1024_0_0_0).toLoadRect f)
        ((Memref.whole cc0_stg2_0 : Memref sig .tc _ _ _).view.readAt (Elt F) (Rect.unit (s := S1024x1024) ![0, 0] S1024x1024.size inb_S1024x1024_S1024x1024_0_0).toLoadRect (wo m c))) Finset.univ)) : sProp 𝕄)
      = (((c : Thread nD τ).loc cc0_stg3_0) ↦{fullShare} k0_pay170 f (wo m c)) := by
  have h1 := Memref.readAt_unit_zero (Elt F) cc0_stg3_0 (off := ![0, 0, 0]) (by decide) inb_S1x2048x1024_S1x2048x1024_0_0_0 f
  have h2 := Memref.readAt_unit_zero (Elt F) cc0_stg2_0 (off := ![0, 0]) (by decide) inb_S1024x1024_S1024x1024_0_0 (wo m c)
  exact congrArg (fun w => ((((c : Thread nD τ).loc cc0_stg3_0) ↦{fullShare} w) : sProp 𝕄))
    ((Memref.write_access_unit_zero_univ (Elt F) cc0_stg3_0 (off := ![0, 0, 0]) (by decide) inb_S1x2048x1024_S1x2048x1024_0_0_0 g _).trans (congrArg₂ k0_pay170 h1 h2))

theorem wp_fin_out (c : Dev nD) (f5 : (cc0_stg3_0 : Ref sig .tc).ty.Contents (Elt F)) :
    iprop(((((c : Thread nD τ).loc cc0_stg3_0) ↦{fullShare} f5) : sProp 𝕄) ∗ (((c : Thread nD τ).loc cc0_stg2_0) ↦{fullShare} wo m c))
      ⊢ wp frame (wpE (defs₀ (F := F)) 𝒱₀ (c : Thread nD τ) none) Set.univ (fin (F := F)) (fun _ => iprop(((((c : Thread nD τ).loc cc0_stg3_0) ↦{fullShare} (k0_pay170 f5 (wo m c) : (cc0_stg3_0 : Ref sig .tc).ty.Contents (Elt F))) : sProp 𝕄) ∗ (((c : Thread nD τ).loc cc0_stg2_0) ↦{fullShare} wo m c))) := by
  unfold fin
  simp only [Prog.lift, Prog.bind_op, Prog.bind_ret, Prog.pure_eq_ret]
  iintro ⟨H5, H4⟩
  iapply (wp_load 𝒱₀ (c : Thread nD τ) none Set.univ (m := Memref.whole cc0_stg3_0) (Finset.subset_univ _)) $$ H5
  iintro H5
  iapply (wp_load 𝒱₀ (c : Thread nD τ) none Set.univ (m := Memref.whole cc0_stg2_0) (Finset.subset_univ _)) $$ H4
  iintro H4
  iapply (wp_load 𝒱₀ (c : Thread nD τ) none Set.univ (m := Memref.whole cc0_stg3_0) (Finset.subset_univ _)) $$ H5
  iintro H5
  iapply (wp_store 𝒱₀ (c : Thread nD τ) none Set.univ (m := Memref.whole cc0_stg3_0) (r := Rect.unit (s := S1x2048x1024) ![0, 0, 0] S1x2048x1024.size inb_S1x2048x1024_S1x2048x1024_0_0_0) (Mk := Finset.univ) (Finset.subset_univ _)) $$ H5
  iintro H5
  ihave H5 := (Entails.of_eq (pts_out m c f5 f5)) $$ H5
  rw [wp_ret]; imodintro
  iframe

end Cert.KernelIdeal.Mesh
-- ==== Proof.Gather.lean ====
/-
The keys and values a device computes with, gathered from what landed and from what stays undetermined; the first device's combination behind its waits.
-/
module

public import proofs.«01_k».proof.Proof.CombRun

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (PS : Dev nD → (cc0_scratch4 : Ref sig .tc).ty.Contents (Elt F) → Prop)
variable (K : Dev nD × Fin 32 → ℕ)

theorem scratch_hold (c : Dev nD) (b : Ref sig .tc) (f : b.ty.Contents (Elt F)) :
    (((Memref.whole b).view.loc (c : Thread nD τ) ↦[(Memref.whole b).view.set]{fullShare} f) : sProp 𝕄) = (((c : Thread nD τ).loc b) ↦{fullShare} f) := by
  rw [View.set_whole]

/-- The keys: the first device's first rows, the left neighbour's last, the device's own, the right neighbour's first; a missing neighbour's place holds anything. -/
def KC (c : Dev nD) (f : B6 F) : Prop := ∃ l r : B6 F, f = cat4 (landedM m c 0 (dG m6) (s32 kM) : B6 F) (if 0 < c.val then (landedM m c (up 3 c) (dL m6) (sHi kM) : B6 F) else l)
  (landedM m c c (dM m6) (sAll kM) : B6 F) (if c.val < 3 then (landedM m c (up 1 c) (dR m6) (sLo kM) : B6 F) else r)
/-- The values, likewise. -/
def VC (c : Dev nD) (f : B7 F) : Prop := ∃ l r : B7 F, f = cat4 (landedM m c 0 (dG m7) (s32 vM) : B7 F) (if 0 < c.val then (landedM m c (up 3 c) (dL m7) (sHi vM) : B7 F) else l)
  (landedM m c c (dM m7) (sAll vM) : B7 F) (if c.val < 3 then (landedM m c (up 1 c) (dR m7) (sLo vM) : B7 F) else r)
/-- The first device's first queries, on the others. -/
def QC (c : Dev nD) (f : (cc0_scratch3 : Ref sig .tc).ty.Contents (Elt F)) : Prop := 0 < c.val → f = (landed m c 0 m9 q32 (qsc m 0) : (cc0_scratch3 : Ref sig .tc).ty.Contents (Elt F))

def keepsP (c : Dev nD) : sProp 𝕄 := if 0 < c.val then iprop(some_ (F := F) c p0 ∗ some_ (F := F) c p1 ∗ some_ (F := F) c p2) else iprop(emp)

theorem pay_r18 (c : Dev nD) : pay m PS c 18 0 = hold c (dL m6) (landedM m c (up 3 c) (dL m6) (sHi kM)) := rfl
theorem pay_r19 (c : Dev nD) : pay m PS c 19 0 = hold c (dL m7) (landedM m c (up 3 c) (dL m7) (sHi vM)) := rfl
theorem pay_r20 (c : Dev nD) : pay m PS c 20 0 = hold c (dR m6) (landedM m c (up 1 c) (dR m6) (sLo kM)) := rfl
theorem pay_r21 (c : Dev nD) : pay m PS c 21 0 = hold c (dR m7) (landedM m c (up 1 c) (dR m7) (sLo vM)) := rfl
theorem pay_r22 (c : Dev nD) : pay m PS c 22 0 = hold c (dG m6) (landedM m c 0 (dG m6) (s32 kM)) := rfl
theorem pay_r23 (c : Dev nD) : pay m PS c 23 0 = hold c (dG m7) (landedM m c 0 (dG m7) (s32 vM)) := rfl
theorem pay_r24 (c : Dev nD) : pay m PS c 24 0 = hold c m9 (landed m c 0 m9 q32 (qsc m 0)) := rfl

/-- What a device keeps, without the first rows' places the first device copies to itself. -/
def keepsH (c : Dev nD) : sProp 𝕄 := iprop((if 0 < c.val then iprop(some_ (F := F) c p0 ∗ some_ (F := F) c p1 ∗ some_ (F := F) c p2)
    else iprop((some_ (F := F) c (dL m6) ∗ some_ (F := F) c (dL m7)) ∗ some_ (F := F) c m9))
  ∗ (if c.val < 3 then iprop(emp) else iprop(some_ (F := F) c (dR m6) ∗ some_ (F := F) c (dR m7))))
def tkGl (c : Dev nD) : sProp 𝕄 := if c = 0 then iprop(tk (F := F) 0 30 0 ∗ tk (F := F) 0 31 0) else iprop(emp)
theorem keeps_split (c : Dev nD) : iprop(keeps (F := F) c ∗ tkGl (F := F) c) ⊢ iprop(keepsH (F := F) c ∗ preGl (F := F) c) := by
  rcases four c with rfl | rfl | rfl | rfl <;> simp (decide := true) only [keeps, tkGl, keepsH, preGl, if_true, if_false, emp_l, emp_r] <;> exact Entails.of_eq (by ac_rfl)

theorem gather (c : Dev nD) : iprop(keepsH (F := F) c ∗ gotGl m c ∗ gotRx m PS c ∗ gotRy m PS c ∗ hold c (dM m6) (landedM m c c (dM m6) (sAll kM)) ∗ hold c (dM m7) (landedM m c c (dM m7) (sAll vM)))
    ⊢ iprop(∃ (f6 : B6 F) (f7 : B7 F) (f9 : (cc0_scratch3 : Ref sig .tc).ty.Contents (Elt F)), ⌜KC m c f6 ∧ VC m c f7 ∧ QC m c f9⌝
        ∗ (((c : Thread nD τ).loc cc0_scratch0) ↦{fullShare} f6) ∗ (((c : Thread nD τ).loc cc0_scratch1) ↦{fullShare} f7) ∗ (((c : Thread nD τ).loc cc0_scratch3) ↦{fullShare} f9) ∗ keepsP (F := F) c) := by
  have k6 := fun c g l o r => Entails.of_eq (kcat_parts (F := F) c g l o r).symm
  have k7 := fun c g l o r => Entails.of_eq (vcat_parts (F := F) c g l o r).symm
  have k9 : ∀ (c : Dev nD) (f : (cc0_scratch3 : Ref sig .tc).ty.Contents (Elt F)), hold c m9 f ⊢ (((((c : Thread nD τ).loc cc0_scratch3) ↦{fullShare} f)) : sProp 𝕄) := fun c f => Entails.of_eq (scratch_hold c cc0_scratch3 f)
  by_cases h0 : 0 < c.val
  · have hc0 : ¬ c = 0 := by rintro rfl; exact absurd h0 (by decide)
    unfold keepsH gotGl gotRx gotRy keepsP
    simp only [if_pos h0, if_neg hc0, pay_r18, pay_r19, pay_r20, pay_r21, pay_r22, pay_r23, pay_r24]
    by_cases h3 : c.val < 3
    · simp only [if_pos h3]
      iintro ⟨⟨HP, -⟩, -, ⟨HL6, HL7, HG6, HG7, H9⟩, ⟨HR6, HR7⟩, HM6, HM7⟩
      iexists (cat4 (landedM m c 0 (dG m6) (s32 kM) : B6 F) (landedM m c (up 3 c) (dL m6) (sHi kM) : B6 F) (landedM m c c (dM m6) (sAll kM) : B6 F) (landedM m c (up 1 c) (dR m6) (sLo kM) : B6 F))
      iexists (cat4 (landedM m c 0 (dG m7) (s32 vM) : B7 F) (landedM m c (up 3 c) (dL m7) (sHi vM) : B7 F) (landedM m c c (dM m7) (sAll vM) : B7 F) (landedM m c (up 1 c) (dR m7) (sLo vM) : B7 F))
      iexists (landed m c 0 m9 q32 (qsc m 0))
      isplitr
      · ipureintro
        refine ⟨⟨m ((c : Thread nD τ).loc cc0_scratch0), m ((c : Thread nD τ).loc cc0_scratch0), ?_⟩, ⟨m ((c : Thread nD τ).loc cc0_scratch1), m ((c : Thread nD τ).loc cc0_scratch1), ?_⟩, fun _ => rfl⟩ <;> rw [if_pos h0, if_pos h3]
      isplitl [HG6 HL6 HM6 HR6]
      · iapply (k6 c _ _ _ _)
        isplitl [HG6]; · iexact HG6
        isplitl [HL6]; · iexact HL6
        isplitl [HM6]; · iexact HM6
        iexact HR6
      isplitl [HG7 HL7 HM7 HR7]
      · iapply (k7 c _ _ _ _)
        isplitl [HG7]; · iexact HG7
        isplitl [HL7]; · iexact HL7
        isplitl [HM7]; · iexact HM7
        iexact HR7
      isplitl [H9]; · iapply (k9 c _); iexact H9
      iexact HP
    · simp only [if_neg h3]
      unfold some_
      iintro ⟨⟨HP, ⟨%r6, HR6⟩, ⟨%r7, HR7⟩⟩, -, ⟨HL6, HL7, HG6, HG7, H9⟩, -, HM6, HM7⟩
      iexists (cat4 (landedM m c 0 (dG m6) (s32 kM) : B6 F) (landedM m c (up 3 c) (dL m6) (sHi kM) : B6 F) (landedM m c c (dM m6) (sAll kM) : B6 F) (r6 : B6 F))
      iexists (cat4 (landedM m c 0 (dG m7) (s32 vM) : B7 F) (landedM m c (up 3 c) (dL m7) (sHi vM) : B7 F) (landedM m c c (dM m7) (sAll vM) : B7 F) (r7 : B7 F))
      iexists (landed m c 0 m9 q32 (qsc m 0))
      isplitr
      · ipureintro
        refine ⟨⟨m ((c : Thread nD τ).loc cc0_scratch0), r6, ?_⟩, ⟨m ((c : Thread nD τ).loc cc0_scratch1), r7, ?_⟩, fun _ => rfl⟩ <;> rw [if_pos h0, if_neg h3]
      isplitl [HG6 HL6 HM6 HR6]
      · iapply (k6 c _ _ _ _)
        isplitl [HG6]; · iexact HG6
        isplitl [HL6]; · iexact HL6
        isplitl [HM6]; · iexact HM6
        iexact HR6
      isplitl [HG7 HL7 HM7 HR7]
      · iapply (k7 c _ _ _ _)
        isplitl [HG7]; · iexact HG7
        isplitl [HL7]; · iexact HL7
        isplitl [HM7]; · iexact HM7
        iexact HR7
      isplitl [H9]; · iapply (k9 c _); iexact H9
      iexact HP
  · have hc0 : c = 0 := Fin.ext (by show c.val = 0; omega)
    subst hc0
    unfold keepsH gotGl gotRx gotRy keepsP
    simp only [pay_r20, pay_r21, if_neg h0, if_true, show ((0 : Dev nD).val < 3) from by decide]
    unfold some_
    iintro ⟨⟨⟨⟨⟨%l6, HL6⟩, ⟨%l7, HL7⟩⟩, ⟨%f9, H9⟩⟩, -⟩, ⟨HG6, HG7⟩, -, ⟨HR6, HR7⟩, HM6, HM7⟩
    iexists (cat4 (landedM m 0 0 (dG m6) (s32 kM) : B6 F) (l6 : B6 F) (landedM m 0 0 (dM m6) (sAll kM) : B6 F) (landedM m 0 (up 1 0) (dR m6) (sLo kM) : B6 F))
    iexists (cat4 (landedM m 0 0 (dG m7) (s32 vM) : B7 F) (l7 : B7 F) (landedM m 0 0 (dM m7) (sAll vM) : B7 F) (landedM m 0 (up 1 0) (dR m7) (sLo vM) : B7 F))
    iexists f9
    isplitr
    · ipureintro
      refine ⟨⟨l6, m (((0 : Dev nD) : Thread nD τ).loc cc0_scratch0), ?_⟩, ⟨l7, m (((0 : Dev nD) : Thread nD τ).loc cc0_scratch1), ?_⟩, fun h => absurd h h0⟩ <;> rw [if_neg h0, if_pos (by decide)]
    isplitl [HG6 HL6 HM6 HR6]
    · iapply (k6 0 _ _ _ _)
      isplitl [HG6]; · iexact HG6
      isplitl [HL6]; · iexact HL6
      isplitl [HM6]; · iexact HM6
      iexact HR6
    isplitl [HG7 HL7 HM7 HR7]
    · iapply (k7 0 _ _ _ _)
      isplitl [HG7]; · iexact HG7
      isplitl [HL7]; · iexact HL7
      isplitl [HM7]; · iexact HM7
      iexact HR7
    isplitl [H9]; · iapply (k9 0 _); iexact H9
    iempintro

end Cert.KernelIdeal.Mesh
-- ==== Proof.CombWait.lean ====
/-
The first device's combination behind the arrival of the other devices' partial sums.
-/
module

public import proofs.«01_k».proof.Proof.Gather

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (PS : Dev nD → (cc0_scratch4 : Ref sig .tc).ty.Contents (Elt F) → Prop)
variable (K : Dev nD × Fin 32 → ℕ)

theorem hold_b (c : Dev nD) (b : Ref sig .tc) (f : b.ty.Contents (Elt F)) :
    (hold c (Memref.whole b) f : sProp 𝕄) = ((Memref.whole b).view.loc (c : Thread nD τ) ↦[(Memref.whole b).view.set]{fullShare} f) := rfl

/-- What the output's buffer holds after the combination. -/
def COMB (c : Dev nD) (g g' : (cc0_stg3_0 : Ref sig .tc).ty.Contents (Elt F)) : Prop :=
  (0 < c.val → g' = g) ∧ (c = 0 → ∃ X0 X1 X2 X3 : (cc0_scratch4 : Ref sig .tc).ty.Contents (Elt F), PS 0 X0 ∧ PS 1 X1 ∧ PS 2 X2 ∧ PS 3 X3
    ∧ g' = (Memref.whole cc0_stg3_0).view.writes (Elt F) g (combRun (F := F) c (v2w c) X0 (cat3 (landed m 0 1 p0 m10 X1 : B11 F) (landed m 0 2 p1 m10 X2 : B11 F) (landed m 0 3 p2 m10 X3 : B11 F))).1)

theorem not_on25 : ∀ c : Dev nD, c ≠ 0 → ¬ on c 25 := by decide
theorem not_on26 : ∀ c : Dev nD, c ≠ 0 → ¬ on c 26 := by decide
theorem not_on27 : ∀ c : Dev nD, c ≠ 0 → ¬ on c 27 := by decide
def crC (c : Dev nD) : sProp 𝕄 := if c = 0 then iprop(cr (F := F) 0 25 NP ∗ cr (F := F) 0 26 NP ∗ cr (F := F) 0 27 NP) else iprop(emp)

set_option maxHeartbeats 1000000 in
theorem wp_stC (c : Dev nD) (g : (cc0_stg3_0 : Ref sig .tc).ty.Contents (Elt F)) :
    iprop(Ctx m PS K ∗ ow (F := F) c (oExit c) ∗ (at0 (F := F) c 25 ∗ at0 (F := F) c 26 ∗ at0 (F := F) c 27) ∗ crC (F := F) c ∗ sentP PS c ∗ keepsP (F := F) c ∗ hold c (Memref.whole cc0_stg3_0) g)
    ⊢ wp frame (wpE (defs₀ (F := F)) 𝒱₀ (c : Thread nD τ) none) Set.univ (stC (F := F) (v2w c) (isZ (v2w c))) (fun _ => iprop(ow (F := F) c (oExit c) ∗ (done (F := F) c 25 ∗ done (F := F) c 26 ∗ done (F := F) c 27) ∗ sentP PS c
        ∗ (∃ f : B11 F, ((c : Thread nD τ).loc cc0_scratch5) ↦{fullShare} f) ∗ (∃ g', ⌜COMB m PS c g g'⌝ ∗ hold c (Memref.whole cc0_stg3_0) g'))) := by
  have k11 := fun c a b d => Entails.of_eq (prec_parts (F := F) c a b d).symm
  by_cases h : c = 0
  · subst h
    unfold stC crC sentP keepsP
    rw [dif_pos ((isZ_iff 0).mpr rfl), if_pos rfl, if_neg (by decide), if_neg (by decide)]
    simp only [Prog.lift, Prog.bind_op, Prog.bind_ret]
    iintro ⟨#HC, HO, ⟨Ha25, Ha26, Ha27⟩, ⟨Hc25, Hc26, Hc27⟩, HP, -, Hg⟩
    iapply (wp_waitDma m PS K 0 25 (dsem7 inb_S10_S1_7) NP (src := m10) (dst := p0) rfl (by decide) (by decide) rfl rfl (above_exit 0 (by decide))) $$ [HO Ha25 Hc25]
    · iframe; iexact HC
    iintro ⟨HO, Ha25, Hg25⟩
    iapply (wp_waitDma m PS K 0 26 (dsem7 inb_S10_S1_8) NP (src := m10) (dst := p1) rfl (by decide) (by decide) rfl rfl (above_exit 0 (by decide))) $$ [HO Ha26 Hc26]
    · iframe; iexact HC
    iintro ⟨HO, Ha26, Hg26⟩
    iapply (wp_waitDma m PS K 0 27 (dsem7 inb_S10_S1_9) NP (src := m10) (dst := p2) rfl (by decide) (by decide) rfl rfl (above_exit 0 (by decide))) $$ [HO Ha27 Hc27]
    · iframe; iexact HC
    iintro ⟨HO, Ha27, Hg27⟩
    ihave Hg25 := (Entails.of_eq (show pay m PS 0 25 0 = iprop(∃ X, ⌜PS 1 X⌝ ∗ hold 0 p0 (landed m 0 1 p0 m10 X)) from rfl)) $$ Hg25
    ihave Hg26 := (Entails.of_eq (show pay m PS 0 26 0 = iprop(∃ X, ⌜PS 2 X⌝ ∗ hold 0 p1 (landed m 0 2 p1 m10 X)) from rfl)) $$ Hg26
    ihave Hg27 := (Entails.of_eq (show pay m PS 0 27 0 = iprop(∃ X, ⌜PS 3 X⌝ ∗ hold 0 p2 (landed m 0 3 p2 m10 X)) from rfl)) $$ Hg27
    ihave HP := (Entails.of_eq (show partHas PS 0 = iprop(∃ X, ⌜PS 0 X⌝ ∗ hold (F := F) 0 m10 X) from rfl)) $$ HP
    icases Hg25 with ⟨%X1, %h1, Hg25⟩
    icases Hg26 with ⟨%X2, %h2, Hg26⟩
    icases Hg27 with ⟨%X3, %h3, Hg27⟩
    icases HP with ⟨%X0, %h0, HP⟩
    ihave H11 := (k11 0 (landed m 0 1 p0 m10 X1 : B11 F) (landed m 0 2 p1 m10 X2 : B11 F) (landed m 0 3 p2 m10 X3 : B11 F)) $$ [Hg25 Hg26 Hg27]
    · isplitl [Hg25]; · iexact Hg25
      isplitl [Hg26]; · iexact Hg26
      iexact Hg27
    ihave H11 := (Entails.of_eq (scratch_hold (F := F) 0 cc0_scratch5 (cat3 (landed m 0 1 p0 m10 X1 : B11 F) (landed m 0 2 p1 m10 X2 : B11 F) (landed m 0 3 p2 m10 X3 : B11 F))).symm) $$ H11
    iapply (wp_fin (F := F) 0 (comb (v2w 0)) _ _)
    isplitl [HP H11 Hg]
    · iapply ((combRun (F := F) 0 (v2w 0) X0 (cat3 (landed m 0 1 p0 m10 X1 : B11 F) (landed m 0 2 p1 m10 X2 : B11 F) (landed m 0 3 p2 m10 X3 : B11 F))).2 g)
      isplitl [HP]; · iapply (Entails.of_eq (hold_b (F := F) 0 cc0_scratch4 X0)); iexact HP
      isplitl [H11]; · iexact H11
      iapply (Entails.of_eq (hold_b (F := F) 0 cc0_stg3_0 g)); iexact Hg
    iintro %_ ⟨HP, H11, Hg⟩
    rw [show done (F := F) 0 25 = at1 (F := F) 0 25 from if_pos (by decide), show done (F := F) 0 26 = at1 (F := F) 0 26 from if_pos (by decide), show done (F := F) 0 27 = at1 (F := F) 0 27 from if_pos (by decide)]
    isplitl [HO]; · iexact HO
    isplitl [Ha25 Ha26 Ha27]; · iframe
    isplitl [HP]
    · unfold partHas; iexists X0; isplitr; · ipureintro; exact h0
      iapply (Entails.of_eq (hold_b (F := F) 0 cc0_scratch4 X0).symm); iexact HP
    isplitl [H11]
    · iexists (cat3 (landed m 0 1 p0 m10 X1 : B11 F) (landed m 0 2 p1 m10 X2 : B11 F) (landed m 0 3 p2 m10 X3 : B11 F))
      iapply (Entails.of_eq (scratch_hold (F := F) 0 cc0_scratch5 _)); iexact H11
    iexists _
    isplitr [Hg]
    · ipureintro; exact ⟨fun h => absurd h (by decide), fun _ => ⟨X0, X1, X2, X3, h0, h1, h2, h3, rfl⟩⟩
    iapply (Entails.of_eq (hold_b (F := F) 0 cc0_stg3_0 _).symm); iexact Hg
  · have h0 : 0 < c.val := Nat.pos_of_ne_zero (fun e => h (Fin.ext e))
    unfold stC crC sentP keepsP some_
    rw [dif_neg (fun h' => h ((isZ_iff c).mp h')), if_neg h, if_pos h0, if_pos h0]
    simp only [Prog.pure_eq_ret]
    iintro ⟨#HC, HO, ⟨Ha25, Ha26, Ha27⟩, -, HP, ⟨⟨%a, Hp0⟩, ⟨%b, Hp1⟩, ⟨%d, Hp2⟩⟩, Hg⟩
    rw [wp_ret]; imodintro
    have n25 := not_on25 c h
    have n26 := not_on26 c h
    have n27 := not_on27 c h
    rw [show done (F := F) c 25 = at0 (F := F) c 25 from if_neg n25, show done (F := F) c 26 = at0 (F := F) c 26 from if_neg n26, show done (F := F) c 27 = at0 (F := F) c 27 from if_neg n27]
    isplitl [HO]; · iexact HO
    isplitl [Ha25 Ha26 Ha27]; · iframe
    isplitl [HP]; · iexact HP
    isplitl [Hp0 Hp1 Hp2]
    · iexists (cat3 (a : B11 F) (b : B11 F) (d : B11 F))
      iapply (k11 c _ _ _)
      isplitl [Hp0]; · iexact Hp0
      isplitl [Hp1]; · iexact Hp1
      iexact Hp2
    iexists g
    isplitr [Hg]
    · ipureintro; exact ⟨fun _ => rfl, fun h' => absurd h' h⟩
    iexact Hg

end Cert.KernelIdeal.Mesh
-- ==== Proof.Body.lean ====
/-
The whole program on one device: what it starts with and what it leaves.
-/
module

public import proofs.«01_k».proof.Proof.CombWait

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (PS : Dev nD → (cc0_scratch4 : Ref sig .tc).ty.Contents (Elt F) → Prop)
variable (K : Dev nD × Fin 32 → ℕ)

theorem du_off (c : Dev nD) (k : Fin 32) (h : ¬ on c k) (hk : 2 ≤ k.val) : du c k = ∅ := by unfold du; rw [if_neg (by omega), if_neg h]
theorem close_done (c : Dev nD) (j : Fin 32) (hj : 2 ≤ j.val) : iprop(Ctx m PS K ∗ done (F := F) c j) ⊢ iprop(|={Set.univ}=> semVal (kcell (c, j)) 0) := by
  unfold done
  by_cases h : on c j
  · rw [if_pos h]; exact close1 m PS K c j
  · rw [if_neg h]; exact close0 m PS K c j (du_off c j h hj)

/-- A device's positions at the cells, in the order the program uses them. -/
def poss (c : Dev nD) : sProp 𝕄 := iprop(at0 (F := F) c 0 ∗ at0 (F := F) c 1 ∗ (at0 (F := F) c 2 ∗ at0 (F := F) c 3 ∗ at0 (F := F) c 15) ∗ (at0 (F := F) c 4 ∗ at0 (F := F) c 5)
  ∗ (at0 (F := F) c 6 ∗ at0 (F := F) c 9 ∗ at0 (F := F) c 12 ∗ at0 (F := F) c 7 ∗ at0 (F := F) c 10 ∗ at0 (F := F) c 13 ∗ at0 (F := F) c 8 ∗ at0 (F := F) c 11 ∗ at0 (F := F) c 14)
  ∗ (at0 (F := F) c 16 ∗ at0 (F := F) c 17) ∗ (at0 (F := F) c 18 ∗ at0 (F := F) c 19 ∗ at0 (F := F) c 22 ∗ at0 (F := F) c 23 ∗ at0 (F := F) c 24) ∗ (at0 (F := F) c 20 ∗ at0 (F := F) c 21)
  ∗ (at0 (F := F) c 25 ∗ at0 (F := F) c 26 ∗ at0 (F := F) c 27) ∗ (at0 (F := F) c 28 ∗ at0 (F := F) c 29) ∗ (at0 (F := F) c 30 ∗ at0 (F := F) c 31))
/-- The same cells, after their waits. -/
def dones (c : Dev nD) : sProp 𝕄 := iprop(at1 (F := F) c 0 ∗ at1 (F := F) c 1 ∗ (done (F := F) c 2 ∗ done (F := F) c 3 ∗ done (F := F) c 15) ∗ (done (F := F) c 4 ∗ done (F := F) c 5)
  ∗ (done (F := F) c 6 ∗ done (F := F) c 9 ∗ done (F := F) c 12 ∗ done (F := F) c 7 ∗ done (F := F) c 10 ∗ done (F := F) c 13 ∗ done (F := F) c 8 ∗ done (F := F) c 11 ∗ done (F := F) c 14)
  ∗ (done (F := F) c 16 ∗ done (F := F) c 17) ∗ (done (F := F) c 18 ∗ done (F := F) c 19 ∗ done (F := F) c 22 ∗ done (F := F) c 23 ∗ done (F := F) c 24) ∗ (done (F := F) c 20 ∗ done (F := F) c 21)
  ∗ (done (F := F) c 25 ∗ done (F := F) c 26 ∗ done (F := F) c 27) ∗ (done (F := F) c 28 ∗ done (F := F) c 29) ∗ (done (F := F) c 30 ∗ done (F := F) c 31))

/-- A sum over the cells, one by one. -/
theorem bigSep_fin32 (Φ : Fin 32 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

def fin_ (c : Dev nD) (k : Fin 32) : sProp 𝕄 := if k.val < 2 then at1 (F := F) c k else done (F := F) c k
theorem dones_eq (c : Dev nD) : dones (F := F) c = bigSep Finset.univ (fin_ (F := F) c) := by
  rw [bigSep_fin32]
  simp (decide := true) only [fin_, if_true, if_false]
  unfold dones
  ac_rfl
theorem poss_eq (c : Dev nD) : poss (F := F) c = bigSep Finset.univ (fun k => at0 (F := F) c k) := by
  rw [bigSep_fin32]
  unfold poss
  ac_rfl

theorem close_all (c : Dev nD) : iprop(Ctx m PS K ∗ dones (F := F) c) ⊢ iprop(|={Set.univ}=> bigSep Finset.univ fun k : Fin 32 => semVal (kcell (c, k)) 0) := by
  rw [dones_eq]
  refine (sep_mono_left (BI.bigSep_of_persistent Finset.univ (Ctx m PS K))).trans (by
    rw [← bigSep_sep']
    refine (bigSep_mono fun k _ => ?_).trans (bigSep_fupd _ _)
    unfold fin_
    by_cases h : k.val < 2
    · rw [if_pos h]; exact close1 m PS K c k
    · rw [if_neg h]; exact close_done m PS K c k (by omega))

/-- The tokens of the credits a device makes. -/
def toks (c : Dev nD) : sProp 𝕄 := iprop((tk (F := F) (up 1 c) 0 c ∗ tk (F := F) (up 2 c) 0 c ∗ tk (F := F) (up 3 c) 0 c) ∗ (tk (F := F) (up 1 c) 1 c ∗ tk (F := F) (up 2 c) 1 c ∗ tk (F := F) (up 3 c) 1 c)
  ∗ tkL (F := F) c ∗ tkR (F := F) c ∗ tkG (F := F) c ∗ tkQ (F := F) c ∗ tkP (F := F) c ∗ (tk (F := F) c 28 0 ∗ tk (F := F) c 29 0) ∗ tkGl (F := F) c)
/-- The credits it waits for that others make. -/
def crs (c : Dev nD) : sProp 𝕄 := iprop(cr (F := F) c 0 3 ∗ cr (F := F) c 1 3 ∗ crRx (F := F) c ∗ crRy (F := F) c ∗ crC (F := F) c)
def kv (c : Dev nD) : sProp 𝕄 := iprop((((c : Thread nD τ).loc main_arg2) ↦{fullShare} m ((c : Thread nD τ).loc main_arg2)) ∗ (((c : Thread nD τ).loc main_arg3) ↦{fullShare} m ((c : Thread nD τ).loc main_arg3)))
def scr (c : Dev nD) : sProp 𝕄 := iprop((∃ f : (cc0_scratch0 : Ref sig .tc).ty.Contents (Elt F), (((c : Thread nD τ).loc cc0_scratch0) ↦{fullShare} f)) ∗ (∃ f : (cc0_scratch1 : Ref sig .tc).ty.Contents (Elt F), (((c : Thread nD τ).loc cc0_scratch1) ↦{fullShare} f)) ∗ (∃ f : (cc0_scratch2 : Ref sig .tc).ty.Contents (Elt F), (((c : Thread nD τ).loc cc0_scratch2) ↦{fullShare} f)) ∗ (∃ f : (cc0_scratch3 : Ref sig .tc).ty.Contents (Elt F), (((c : Thread nD τ).loc cc0_scratch3) ↦{fullShare} f)) ∗ (∃ f : (cc0_scratch4 : Ref sig .tc).ty.Contents (Elt F), (((c : Thread nD τ).loc cc0_scratch4) ↦{fullShare} f)) ∗ (∃ f : (cc0_scratch5 : Ref sig .tc).ty.Contents (Elt F), (((c : Thread nD τ).loc cc0_scratch5) ↦{fullShare} f)))
def ins (c : Dev nD) : sProp 𝕄 := iprop((((c : Thread nD τ).loc cc0_stg0_0) ↦{fullShare} xs m c) ∗ (((c : Thread nD τ).loc cc0_stg1_0) ↦{fullShare} wq m c) ∗ (((c : Thread nD τ).loc cc0_stg2_0) ↦{fullShare} wo m c))

/-- What the output's buffer may hold in the end. -/
def OUT (c : Dev nD) (f : (cc0_stg3_0 : Ref sig .tc).ty.Contents (Elt F)) : Prop :=
  ∃ (f6 : B6 F) (f7 : B7 F) (v298 v305 : FVec F S32x1 .f32) (f5 g : (cc0_stg3_0 : Ref sig .tc).ty.Contents (Elt F)), KC m c f6 ∧ VC m c f7
    ∧ COMB m PS c ((Memref.whole cc0_stg3_0).view.writes (Elt F) f5 (loopPieces (F := F) c (v2w c) v298 v305 f6 f7 (qsc m c) k0_t1_loop.trips)) g ∧ f = k0_pay170 g (wo m c)

theorem scr_out (c : Dev nD) : iprop((∃ f : (cc0_scratch0 : Ref sig .tc).ty.Contents (Elt F), (((c : Thread nD τ).loc cc0_scratch0) ↦{fullShare} f)) ∗ (∃ f : (cc0_scratch1 : Ref sig .tc).ty.Contents (Elt F), (((c : Thread nD τ).loc cc0_scratch1) ↦{fullShare} f)) ∗ (∃ f : (cc0_scratch3 : Ref sig .tc).ty.Contents (Elt F), (((c : Thread nD τ).loc cc0_scratch3) ↦{fullShare} f)) ∗ (∃ f : (cc0_scratch5 : Ref sig .tc).ty.Contents (Elt F), (((c : Thread nD τ).loc cc0_scratch5) ↦{fullShare} f))) ⊢ iprop(outs (F := F) c ∗ some_ (F := F) c (dM m6) ∗ some_ (F := F) c (dM m7)) := by
  have k6 : ∀ f : B6 F, ((((c : Thread nD τ).loc cc0_scratch0) ↦{fullShare} f) : sProp 𝕄) = iprop(hold c (dG m6) f ∗ hold c (dL m6) f ∗ hold c (dM m6) f ∗ hold c (dR m6) f) := fun f => (congrArg (fun g : B6 F => ((((c : Thread nD τ).loc cc0_scratch0) ↦{fullShare} g) : sProp 𝕄)) (cat4_same f).symm).trans (kcat_parts (F := F) c f f f f)
  have k7 : ∀ f : B7 F, ((((c : Thread nD τ).loc cc0_scratch1) ↦{fullShare} f) : sProp 𝕄) = iprop(hold c (dG m7) f ∗ hold c (dL m7) f ∗ hold c (dM m7) f ∗ hold c (dR m7) f) := fun f => (congrArg (fun g : B7 F => ((((c : Thread nD τ).loc cc0_scratch1) ↦{fullShare} g) : sProp 𝕄)) (cat4_same f).symm).trans (vcat_parts (F := F) c f f f f)
  have k11 : ∀ f : B11 F, ((((c : Thread nD τ).loc cc0_scratch5) ↦{fullShare} f) : sProp 𝕄) = iprop(hold c p0 f ∗ hold c p1 f ∗ hold c p2 f) := fun f => (congrArg (fun g : B11 F => ((((c : Thread nD τ).loc cc0_scratch5) ↦{fullShare} g) : sProp 𝕄)) (cat3_same f).symm).trans (prec_parts (F := F) c f f f)
  unfold outs some_
  iintro ⟨⟨%f6, H6⟩, ⟨%f7, H7⟩, ⟨%f9, H9⟩, ⟨%f11, H11⟩⟩
  ihave H6 := (Entails.of_eq (k6 f6)) $$ H6
  ihave H7 := (Entails.of_eq (k7 f7)) $$ H7
  ihave H11 := (Entails.of_eq (k11 f11)) $$ H11
  ihave H9 := (Entails.of_eq (scratch_hold (F := F) c cc0_scratch3 f9).symm) $$ H9
  icases H6 with ⟨HG6, HL6, HM6, HR6⟩
  icases H7 with ⟨HG7, HL7, HM7, HR7⟩
  icases H11 with ⟨Hp0, Hp1, Hp2⟩
  isplitr [HM6 HM7]
  · isplitl [HG6]; · iexists f6; iexact HG6
    isplitl [HL6]; · iexists f6; iexact HL6
    isplitl [HR6]; · iexists f6; iexact HR6
    isplitl [HG7]; · iexists f7; iexact HG7
    isplitl [HL7]; · iexists f7; iexact HL7
    isplitl [HR7]; · iexists f7; iexact HR7
    isplitl [H9]; · iexists f9; iapply (Entails.of_eq (hold_b (F := F) c cc0_scratch3 f9).symm); iexact H9
    isplitl [Hp0]; · iexists f11; iexact Hp0
    isplitl [Hp1]; · iexists f11; iexact Hp1
    iexists f11; iexact Hp2
  isplitl [HM6]; · iexists f6; iexact HM6
  iexists f7; iexact HM7

theorem kv_split (c : Dev nD) : kv m c = iprop(srcL m c ∗ srcR m c ∗ srcG m c ∗ (at_ m c (sAll kM) (sh 5) ∗ at_ m c (sAll vM) (sh 5)) ∗ (at_ m c (s32 kM) (sh 6) ∗ at_ m c (s32 vM) (sh 6)) ∗ (kvRest m c kM ∗ kvRest m c vM)) := by
  unfold kv srcL srcR srcG
  have h2 := kv_parts m c kM
  have h3 := kv_parts m c vM
  refine (congrArg₂ (fun a b : sProp 𝕄 => iprop(a ∗ b)) h2 h3).trans ?_
  ac_rfl

end Cert.KernelIdeal.Mesh
-- ==== Proof.Whole.lean ====
/-
The whole program, run on one device.
-/
module

public import proofs.«01_k».proof.Proof.Body

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (PS : Dev nD → (cc0_scratch4 : Ref sig .tc).ty.Contents (Elt F) → Prop)
variable (K : Dev nD × Fin 32 → ℕ)

theorem pay_own (c : Dev nD) : pay m PS c 28 0 = iprop(hold c (dM m6) (landedM m c c (dM m6) (sAll kM)) ∗ at_ m c (sAll kM) (sh 5)) := rfl
theorem pay_own' (c : Dev nD) : pay m PS c 29 0 = iprop(hold c (dM m7) (landedM m c c (dM m7) (sAll vM)) ∗ at_ m c (sAll vM) (sh 5)) := rfl
theorem above_zero (n : ℕ) : Above n (0 : CellTallies nD τ sig Unit) := .zero n
theorem done28 (c : Dev nD) : done (F := F) c 28 = at1 (F := F) c 28 := if_pos trivial
theorem done29 (c : Dev nD) : done (F := F) c 29 = at1 (F := F) c 29 := if_pos trivial
theorem done16 (c : Dev nD) : done (F := F) c 16 = at0 (F := F) c 16 := if_neg (fun h => h)
theorem done17 (c : Dev nD) : done (F := F) c 17 = at0 (F := F) c 17 := if_neg (fun h => h)

theorem pay_exit (p d : Dev nD) : pay m PS p 1 d = iprop(emp) := rfl
theorem scratch_share (c : Dev nD) (b : Ref sig .tc) (q : PosShare TreeShare) (f : b.ty.Contents (Elt F)) :
    (((Memref.whole b).view.loc (c : Thread nD τ) ↦[(Memref.whole b).view.set]{q} f) : sProp 𝕄) = (((c : Thread nD τ).loc b) ↦{q} f) := by
  rw [View.set_whole]
theorem part_intro (c : Dev nD) (X : (cc0_scratch4 : Ref sig .tc).ty.Contents (Elt F)) (h : PS c X) :
    ((Memref.whole cc0_scratch4).view.loc (c : Thread nD τ) ↦[(Memref.whole cc0_scratch4).view.set]{fullShare} X) ⊢ partHas PS c := by
  unfold partHas
  iintro H
  iexists X
  isplitr; · ipureintro; exact h
  iapply (Entails.of_eq (hold_b (F := F) c cc0_scratch4 X).symm); iexact H
theorem assocP {β : Type} (d0 : Dev nD) (k : Prog (TpuEff nD τ sig (Elt F) Λ₀ .tc) β) : ((do stP8 d0; stP9 d0; stP10 d0) >>= fun _ => k) = (do stP8 d0; stP9 d0; stP10 d0; k) := by
  simp only [bind_assoc]
theorem q_join (c : Dev nD) : iprop(srcQ m c ∗ qRest c (qsc m c) ∗ (((c : Thread nD τ).loc cc0_scratch2) ↦{shRest 3} qsc m c)) = ((((c : Thread nD τ).loc cc0_scratch2) ↦{fullShare} qsc m c) : sProp 𝕄) := by
  rw [q_parts]; unfold srcQ; ac_rfl
theorem some_scratch (c : Dev nD) : some_ (F := F) c m10 ⊢ iprop(∃ f : (cc0_scratch4 : Ref sig .tc).ty.Contents (Elt F), (((c : Thread nD τ).loc cc0_scratch4) ↦{fullShare} f)) := by
  unfold some_
  iintro ⟨%f, H⟩
  iexists f
  iapply (Entails.of_eq ((hold_b (F := F) c cc0_scratch4 f).trans (scratch_hold (F := F) c cc0_scratch4 f))); iexact H

/-- What the heads' stretch must leave for the claim on the partial sums. -/
def PSok : Prop := ∀ (c : Dev nD) (f6 : B6 F) (f7 : B7 F) (f9 : (cc0_scratch3 : Ref sig .tc).ty.Contents (Elt F)) (f10 : (cc0_scratch4 : Ref sig .tc).ty.Contents (Elt F)),
  KC m c f6 → VC m c f7 → QC m c f9 → PS c ((Memref.whole cc0_scratch4).view.writes (Elt F) f10 (headsRun (F := F) c (v2w c) f6 f7 (qsc m c) f9).1)

set_option maxHeartbeats 8000000 in
theorem wp_body (hPS : PSok m PS) (c : Dev nD) :
    iprop(Ctx m PS K ∗ ow (F := F) c (O₀ c) ∗ toks (F := F) c ∗ poss (F := F) c ∗ crs (F := F) c ∗ kv m c ∗ scr (F := F) c ∗ ins m c ∗ (∃ f : (cc0_stg3_0 : Ref sig .tc).ty.Contents (Elt F), (((c : Thread nD τ).loc cc0_stg3_0) ↦{fullShare} f)))
    ⊢ wp frame (wpE (defs₀ (F := F)) 𝒱₀ (c : Thread nD τ) none) Set.univ (bufs (cc0_body (F := F))) (fun _ => iprop(ow (F := F) c 0 ∗ (bigSep Finset.univ fun k : Fin 32 => semVal (kcell (c, k)) 0) ∗ kv m c ∗ scr (F := F) c ∗ ins m c
        ∗ (∃ f : (cc0_stg3_0 : Ref sig .tc).ty.Contents (Elt F), ⌜OUT m PS c f⌝ ∗ (((c : Thread nD τ).loc cc0_stg3_0) ↦{fullShare} f)))) := by
  rw [body_eq, kv_split]
  unfold toks poss crs scr ins
  iintro ⟨#HC, HO, ⟨⟨Ht1, Ht2, Ht3⟩, ⟨Hu1, Hu2, Hu3⟩, HtL, HtR, HtG, HtQ, HtP, ⟨Ht28, Ht29⟩, HtGl⟩,
    ⟨Ha0, Ha1, HaX, HaY, HaZ, ⟨Ha16, Ha17⟩, HaRx, HaRy, HaC, ⟨Ha28, Ha29⟩, HaGl⟩, ⟨Hc0, Hc1, HcRx, HcRy, HcC⟩,
    ⟨HsL, HsR, HsG, ⟨HsA, HsA'⟩, Hs32, Hkv⟩, ⟨H6, H7, H8, H9, ⟨%f10, H10⟩, H11⟩, ⟨Hx, Hwq, Hwo⟩, ⟨%f5, H5⟩⟩
  ihave Hs := (scr_out (F := F) c) $$ [H6 H7 H9 H11]
  · iframe
  icases Hs with ⟨Hs, HM6, HM7⟩
  ihave Hs := (lends_out (F := F) c) $$ Hs
  icases Hs with ⟨HL1, HL2, HL3, HKp⟩
  ihave HKp := (keeps_split (F := F) c) $$ [HKp HtGl]
  · iframe
  icases HKp with ⟨HKp, HpGl⟩
  iapply (wp_seq c _ _ _ _)
  isplitl [HO Ht1 Ht2 HL1 HL2]
  · iapply (wp_part28 m PS K c); iframe; iexact HC
  iintro %a ⟨%ha, HO⟩
  subst ha
  iapply (wp_seq c _ _ _ _)
  isplitl [HO Ht3 HL3 Ha0 Hc0 HsL HtL HsR HtR HsG HtG HsA HM6 Ht28]
  · iapply (wp_part29 m PS K c); iframe; iexact HC
  iintro %_ ⟨HO, Ha0, HsL, HsR, HsG, Hc28, HdQ, HdP⟩
  iapply (wp_seq c _ _ _ _)
  isplitl [HO HsA' HM7 Ht29 HaGl Hs32 HpGl Hx Hwq H8 HdQ HtQ HaRx HcRx HaRy HcRy]
  · iapply (wp_part30 m PS K c); iframe; iexact HC
  iintro %_ ⟨HO, Hc29, ⟨HaGl, Hs32, HgGl⟩, Hx, Hwq, ⟨HsQ, HqR, H8⟩, ⟨HaRx, HgRx⟩, ⟨HaRy, HgRy⟩⟩
  simp only [Prog.lift, Prog.bind_op, Prog.bind_ret]
  iapply (wp_waitDma m PS K c 28 (dsem8 inb_S4_S1_0) NA (src := sAll kM) (dst := dM m6) rfl trivial (by decide) rfl rfl (above_part c (by decide))) $$ [HO Ha28 Hc28]
  · iframe; iexact HC
  iintro ⟨HO, Ha28, Hg28⟩
  iapply (wp_waitDma m PS K c 29 (dsem8 inb_S4_S1_1) NA (src := sAll vM) (dst := dM m7) rfl trivial (by decide) rfl rfl (above_part c (by decide))) $$ [HO Ha29 Hc29]
  · iframe; iexact HC
  iintro ⟨HO, Ha29, Hg29⟩
  ihave Hg28 := (Entails.of_eq (pay_own m PS c)) $$ Hg28
  ihave Hg29 := (Entails.of_eq (pay_own' m PS c)) $$ Hg29
  icases Hg28 with ⟨HM6, HsA⟩
  icases Hg29 with ⟨HM7, HsA'⟩
  ihave Hg := (gather m PS c) $$ [HKp HgGl HgRx HgRy HM6 HM7]
  · iframe
  icases Hg with ⟨%f6, %f7, %f9, %hf, H6, H7, H9, HKp⟩
  ihave H6 := (Entails.of_eq (scratch_hold (F := F) c cc0_scratch0 f6).symm) $$ H6
  ihave H7 := (Entails.of_eq (scratch_hold (F := F) c cc0_scratch1 f7).symm) $$ H7
  ihave H8 := (Entails.of_eq (scratch_share (F := F) c cc0_scratch2 (shRest 3) (qsc m c)).symm) $$ H8
  ihave H9 := (Entails.of_eq (scratch_hold (F := F) c cc0_scratch3 f9).symm) $$ H9
  ihave H10 := (Entails.of_eq (scratch_hold (F := F) c cc0_scratch4 f10).symm) $$ H10
  iapply (wp_seq c _ _ _ _)
  isplitl [H6 H7 H8 H9 H10]
  · iapply ((headsRun (F := F) c (v2w c) f6 f7 (qsc m c) f9).2 f10); unfold HeadsRes; iframe
  iintro %a ⟨H6, H7, H8, H9, H10⟩
  obtain ⟨v298, v305⟩ := a
  ihave HP := (part_intro (F := F) PS c _ (hPS c f6 f7 f9 f10 hf.1 hf.2.1 hf.2.2)) $$ H10
  rw [← assocP]
  iapply (wp_seq c _ _ _ _)
  isplitl [HO HP HdP HtP]
  · iapply (wp_stP m PS K c); iframe; iexact HC
  iintro %_ ⟨HO, HP⟩
  ihave H5 := (Entails.of_eq (scratch_hold (F := F) c cc0_stg3_0 f5).symm) $$ H5
  iapply (wp_seq c _ _ _ _)
  isplitl [H6 H7 H8 H5]
  · iapply (wp_loop (F := F) c (v2w c) v298 v305 f6 f7 (qsc m c) f5); unfold TripRes; iframe
  iintro %_ ⟨H6, H7, H8, H5⟩
  ihave H5 := (Entails.of_eq (hold_b (F := F) c cc0_stg3_0 _).symm) $$ H5
  iapply (wp_seq c _ _ _ _)
  isplitl [HO HaC HcC HP HKp H5]
  · iapply (wp_stC m PS K c); iframe; iexact HC
  iintro %_ ⟨HO, HaC, HP, H11, ⟨%g, %hg, H5⟩⟩
  ihave H5 := (Entails.of_eq ((hold_b (F := F) c cc0_stg3_0 g).trans (scratch_hold (F := F) c cc0_stg3_0 g))) $$ H5
  iapply (wp_seq c _ _ _ _)
  isplitl [H5 Hwo]
  · iapply (wp_fin_out m c g); iframe
  iintro %_ ⟨H5, Hwo⟩
  rw [part39_eq]
  simp only [bind_assoc, pure_bind]
  iapply (wp_seq c _ _ _ _)
  isplitl [HO HaX HsL HP]
  · iapply (wp_stEx m PS K c _ (isP_iff c)); iframe; iexact HC
  iintro %_ ⟨HO, HaX, HsL, H10⟩
  iapply (wp_seq c _ _ _ _)
  isplitl [HO HaY HsR]
  · iapply (wp_stEy m PS K c _ (isN_iff c)); iframe; iexact HC
  iintro %_ ⟨HO, HaY, HsR⟩
  iapply (wp_seq c _ _ _ _)
  isplitl [HO HaZ HsG HsQ]
  · iapply (wp_stEz m PS K c _ (isZ_iff c)); iframe; iexact HC
  iintro %_ ⟨HO, HaZ, HsG, HsQ⟩
  unfold oExit
  simp only [semSignalWord, semWaitWord, Prog.lift, Prog.bind_op, Prog.bind_ret, Prog.pure_eq_ret]
  iapply (wp_sig m PS K c (up 1 c) _ (dev20_eq c) 1 exitS rfl (by decide) (ne_up c).1 _ (by decide) (0 + tallyAt (kcell (up 3 c, 1)) () 1 + tallyAt (kcell (up 2 c, 1)) () 1)) $$ [HO Hu1]
  · iframe; isplitr; · iexact HC
    iapply (Entails.of_eq (pay_exit m PS _ _).symm); iempintro
  iintro HO
  iapply (wp_sig m PS K c (up 2 c) _ (dev21_eq c) 1 exitS rfl (by decide) (ne_up c).2.1 _ (by decide) (0 + tallyAt (kcell (up 3 c, 1)) () 1)) $$ [HO Hu2]
  · iframe; isplitr; · iexact HC
    iapply (Entails.of_eq (pay_exit m PS _ _).symm); iempintro
  iintro HO
  iapply (wp_sig m PS K c (up 3 c) _ (dev22_eq c) 1 exitS rfl (by decide) (ne_up c).2.2 _ (by decide) 0) $$ [HO Hu3]
  · iframe; isplitr; · iexact HC
    iapply (Entails.of_eq (pay_exit m PS _ _).symm); iempintro
  iintro HO
  iapply (wp_waitReg m PS K c 1 _ rfl (by decide) _ (wpE_semWait_eq 𝒱₀ (c : Thread nD τ) none Set.univ) (by decide) (above_zero _)) $$ [HO Ha1 Hc1]
  · iframe; iexact HC
  iintro ⟨HO, Ha1, -, -, -⟩
  imod (close_all m PS K c) $$ [Ha0 Ha1 HaX HaY HaZ Ha16 Ha17 HaRx HaRy HaC Ha28 Ha29 HaGl] with Hz
  · unfold dones
    rw [done28, done29, done16, done17]
    iframe; iexact HC
  rw [wp_ret]; imodintro
  isplitl [HO]; · iexact HO
  isplitl [Hz]; · iexact Hz
  isplitl [HsL HsR HsG HsA HsA' Hs32 Hkv]; · iframe
  isplitl [H6 H7 H8 H9 H10 H11 HqR HsQ]
  · isplitl [H6]; · iexists f6; iapply (Entails.of_eq (scratch_hold (F := F) c cc0_scratch0 f6)); iexact H6
    isplitl [H7]; · iexists f7; iapply (Entails.of_eq (scratch_hold (F := F) c cc0_scratch1 f7)); iexact H7
    isplitl [H8 HqR HsQ]
    · iexists (qsc m c)
      iapply (Entails.of_eq (q_join m c))
      isplitl [HsQ]; · iexact HsQ
      isplitl [HqR]; · iexact HqR
      iapply (Entails.of_eq (scratch_share (F := F) c cc0_scratch2 (shRest 3) (qsc m c))); iexact H8
    isplitl [H9]; · iexists f9; iapply (Entails.of_eq (scratch_hold (F := F) c cc0_scratch3 f9)); iexact H9
    isplitl [H10]; · iapply (some_scratch (F := F) c); iexact H10
    iexact H11
  isplitl [Hx Hwq Hwo]; · iframe
  iexists _
  isplitr [H5]
  · ipureintro; exact ⟨f6, f7, v298, v305, f5, g, hf.1, hf.2.1, hg, rfl⟩
  iexact H5

end Cert.KernelIdeal.Mesh
-- ==== Proof.Obligation.lean ====
/-
The kernel's one point as the pipeline's body: what it starts from, what it leaves, and the obligation.
-/
module

public import proofs.«01_k».proof.Proof.Whole
public import Idealize.ShloMosaic.Lib.Pipeline.DatRel

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Pipeline (RDat)

variable (m : (ℓ : Loc nD τ sig) → Buf (Elt F) ℓ)
variable (PS : Dev nD → (cc0_scratch4 : Ref sig .tc).ty.Contents (Elt F) → Prop)

/-- What a device's body starts from. -/
def start (c : Dev nD) : sProp 𝕄 := iprop((∃ K, Ctx m PS K) ∗ toks (F := F) c ∗ poss (F := F) c ∗ crs (F := F) c ∗ kv m c)
def Φ₀ (c : Dev nD) : sProp 𝕄 := iprop(start m PS c ∗ scr (F := F) c)
def Φ₁ (c : Dev nD) : sProp 𝕄 := iprop((bigSep Finset.univ fun k : Fin 32 => semVal (kcell (c, k)) 0) ∗ kv m c ∗ scr (F := F) c)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => wq m c
    | ⟨2, _⟩ => wo m c
    | ⟨3, _⟩ => m ((c : Thread nD τ).loc cc0_stg3_0)
  Φ t := match t with
    | ⟨0, _⟩ => Φ₀ m PS c
    | ⟨_ + 1, _⟩ => Φ₁ m c
  q _ := fullShare
  owed t := match t with
    | ⟨0, _⟩ => O₀ c
    | ⟨_ + 1, _⟩ => 0

/-- The output's window is held to a predicate; the others are named. -/
abbrev fgt : Fin cfg0.W → Bool := fun w => decide (w.val = 3)
def Rl (c : Dev nD) (w : Fin cfg0.W) (t : Fin cfg0.N) (X : (cfg0.win w).block.Idx → Elt F (cfg0.win w).elt) : Prop :=
  match w, X with
  | ⟨3, _⟩, X => OUT m PS c X
  | _, _ => True

def rdats (p : Fin 1) (c : Dev nD) : RDat τ (Elt F) Unit ℕ UU ℕ cfg0 c := (dats m PS p c).toRRel fgt (Rl m PS c)

theorem before_0 (c : Dev nD) (d) : (dats m PS 0 c).before (0 : Fin 4) t₀ d = xs m c :=
  ((dats m PS 0 c).before_in_eq_fetched 0 rfl (fun _ => rfl) (fun _ _ _ => rfl) (fun t => by rw [fin_N t]; rfl) t₀ d).trans rfl
theorem before_1 (c : Dev nD) (d) : (dats m PS 0 c).before (1 : Fin 4) t₀ d = wq m c :=
  ((dats m PS 0 c).before_in_eq_fetched 1 rfl (fun _ => rfl) (fun _ _ _ => rfl) (fun t => by rw [fin_N t]; rfl) t₀ d).trans rfl
theorem before_2 (c : Dev nD) (d) : (dats m PS 0 c).before (2 : Fin 4) t₀ d = wo m c :=
  ((dats m PS 0 c).before_in_eq_fetched 2 rfl (fun _ => rfl) (fun _ _ _ => rfl) (fun t => by rw [fin_N t]; rfl) t₀ d).trans rfl

theorem owns_b (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
theorem owns_iff (c : Dev nD) (b : Ref sig .tc) (X : b.ty.Contents (Elt F)) :
    (owns (Ix := Unit) (Name := ℕ) (U := UU) (Lvl := ℕ) (c : Thread nD τ) (Memref.whole b) fullShare X : sProp 𝕄) = (((c : Thread nD τ).loc b) ↦{fullShare} X) := by
  rw [owns_b]
  refine eq_of_iff ⟨?_, ?_⟩
  · iintro ⟨%f, %hf, H⟩; subst hf; iexact H
  · iintro H; iexists X; isplitr; · ipureintro; rfl
    iexact H

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

abbrev stg (c : Dev nD) (b : Ref sig .tc) (X : b.ty.Contents (Elt F)) : sProp 𝕄 :=
  owns (Ix := Unit) (Name := ℕ) (U := UU) (Lvl := ℕ) (c : Thread nD τ) (Memref.whole b) fullShare X

def bodyPre (c : Dev nD) : sProp 𝕄 :=
  iprop(Φ₀ m PS c ∗ (dats m PS 0 c).owesAt () t₀.castSucc
    ∗ (∃ d, stg c cc0_stg0_0 ((dats m PS 0 c).before (0 : Fin 4) t₀ d))
    ∗ (∃ d, stg c cc0_stg1_0 ((dats m PS 0 c).before (1 : Fin 4) t₀ d))
    ∗ (∃ d, stg c cc0_stg2_0 ((dats m PS 0 c).before (2 : Fin 4) t₀ d))
    ∗ (∃ Y, ⌜((dats m PS 0 c).toRRel fgt (Rl m PS c)).Finds (3 : Fin 4) t₀ Y⌝ ∗ stg c cc0_stg3_0 Y))
def bodyPost (c : Dev nD) : sProp 𝕄 :=
  iprop(Φ₁ m c ∗ (dats m PS 0 c).owesAt () t₀.succ ∗ stg c cc0_stg0_0 (xs m c) ∗ stg c cc0_stg1_0 (wq m c) ∗ stg c cc0_stg2_0 (wo m c)
    ∗ (∃ X, ⌜Rl m PS c (3 : Fin 4) t₀ X⌝ ∗ stg c cc0_stg3_0 X))

set_option maxHeartbeats 1000000 in
theorem wp_point (hPS : PSok m PS) (c : Dev nD) : bodyPre m PS c ⊢ wp frame (wpE (defs₀ (F := F)) 𝒱₀ (c : Thread nD τ) none) Set.univ (bufs (cc0_body (F := F))) (fun _ => bodyPost m PS c) := by
  unfold bodyPre bodyPost Φ₀ start Φ₁
  simp only [before_0, before_1, before_2, owns_iff]
  unfold Dat.owesAt Pipeline.owesWithin
  rw [show (dats m PS 0 c).owed t₀.castSucc = O₀ c from rfl, show (dats m PS 0 c).owed t₀.succ = 0 from rfl]
  iintro ⟨⟨⟨⟨%K, HC⟩, Ht, Hp, Hc, Hkv⟩, Hs⟩, ⟨%W, -, HO⟩, ⟨%d0, H0⟩, ⟨%d1, H1⟩, ⟨%d2, H2⟩, ⟨%Y, -, H3⟩⟩
  iapply (wp_fin (F := F) c _ _ _)
  isplitl
  · iapply (wp_body m PS K hPS c)
    unfold ow ins
    isplitl [HC]; · iexact HC
    isplitl [HO]; · iexists W; iexact HO
    isplitl [Ht]; · iexact Ht
    isplitl [Hp]; · iexact Hp
    isplitl [Hc]; · iexact Hc
    isplitl [Hkv]; · iexact Hkv
    isplitl [Hs]; · iexact Hs
    isplitl [H0 H1 H2]; · iframe
    iexists Y; iexact H3
  unfold ow ins
  iintro %_ ⟨⟨%W', HO⟩, Hz, Hkv, Hs, ⟨H0, H1, H2⟩, ⟨%f, %hf, H3⟩⟩
  isplitl [Hz Hkv Hs]; · iframe
  isplitl [HO]
  · iexists W'
    isplitr; · ipureintro; exact fun _ _ => Or.inl trivial
    iexact HO
  isplitl [H0]; · iexact H0
  isplitl [H1]; · iexact H1
  isplitl [H2]; · iexact H2
  iexists f
  isplitr; · ipureintro; exact hf
  iexact H3

set_option maxRecDepth 16384 in
/-- The pipeline's body obligation. -/
theorem body_obligation (hPS : PSok m PS) (c : Dev nD) : Pipeline.BodyObligationRel (dats m PS 0 c) (defs₀ (F := F)) 𝒱₀ () Set.univ fgt (Rl m PS c) := fun t => by
  rw [fin_N t]
  rw [bigSep_W, bigSep_W]
  show bodyPre m PS c ⊢ wp frame (wpE (defs₀ (F := F)) 𝒱₀ (c : Thread nD τ) none) Set.univ (bufs (cc0_body (F := F))) (fun _ => bodyPost m PS c)
  exact wp_point m PS hPS c

end Cert.KernelIdeal.Mesh
-- ==== Proof.Deal.lean ====
/-
The launch's duty tokens and credits, dealt to the devices that use them.
-/
module

public import proofs.«01_k».proof.Proof.Obligation

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Pipeline (RDat)

theorem bigSepL_one {I : Type} (a : I) (Φ : I → sProp 𝕄) : bigSepL [a] Φ = Φ a := rfl
theorem bigSepL_two {I : Type} (a b : I) (l : List I) (Φ : I → sProp 𝕄) : bigSepL (a :: b :: l) Φ = iprop(Φ a ∗ bigSepL (b :: l) Φ) := rfl

theorem sep_assoc_eq (P Q R : sProp 𝕄) : iprop((P ∗ Q) ∗ R) = iprop(P ∗ Q ∗ R) := eq_of_iff Laws.sep_assoc

/-! The duty tokens that a device pays with, out of one token for every cell and duty. -/

/-- The tokens that a device pays with: (whose cell, which cell, which duty). -/
def tokL (c : Dev nD) : List (Dev nD × Fin 32 × Fin 4) := match c.val with
  | 0 => [(1, 0, 0), (2, 0, 0), (3, 0, 0), (1, 1, 0), (2, 1, 0), (3, 1, 0), (1, 18, 0), (0, 4, 0), (1, 19, 0), (0, 5, 0), (1, 22, 0), (0, 6, 0), (1, 23, 0), (0, 9, 0), (2, 22, 0), (0, 7, 0), (2, 23, 0), (0, 10, 0), (3, 22, 0), (0, 8, 0), (3, 23, 0), (0, 11, 0), (1, 24, 0), (0, 12, 0), (2, 24, 0), (0, 13, 0), (3, 24, 0), (0, 14, 0), (0, 28, 0), (0, 29, 0), (0, 30, 0), (0, 31, 0)]
  | 1 => [(2, 0, 1), (3, 0, 1), (0, 0, 1), (2, 1, 1), (3, 1, 1), (0, 1, 1), (0, 20, 0), (1, 2, 0), (0, 21, 0), (1, 3, 0), (2, 18, 0), (1, 4, 0), (2, 19, 0), (1, 5, 0), (0, 25, 0), (1, 15, 0), (1, 28, 0), (1, 29, 0)]
  | 2 => [(3, 0, 2), (0, 0, 2), (1, 0, 2), (3, 1, 2), (0, 1, 2), (1, 1, 2), (1, 20, 0), (2, 2, 0), (1, 21, 0), (2, 3, 0), (3, 18, 0), (2, 4, 0), (3, 19, 0), (2, 5, 0), (0, 26, 0), (2, 15, 0), (2, 28, 0), (2, 29, 0)]
  | _ => [(0, 0, 3), (1, 0, 3), (2, 0, 3), (0, 1, 3), (1, 1, 3), (2, 1, 3), (2, 20, 0), (3, 2, 0), (2, 21, 0), (3, 3, 0), (0, 27, 0), (3, 15, 0), (3, 28, 0), (3, 29, 0)]

theorem tokL_nodup (c : Dev nD) : (tokL c).Nodup := by revert c; decide +kernel
theorem tokL_disjoint (a b : Dev nD) (h : a ≠ b) : Disjoint (tokL a).toFinset (tokL b).toFinset := by revert a b; decide +kernel
abbrev tkx (x : Dev nD × Fin 32 × Fin 4) : sProp 𝕄 := tk x.1 x.2.1 x.2.2

theorem up_facts : (up 1 0 : Dev nD) = 1 ∧ (up 2 0 : Dev nD) = 2 ∧ (up 3 0 : Dev nD) = 3 ∧ (up 1 1 : Dev nD) = 2 ∧ (up 2 1 : Dev nD) = 3 ∧ (up 3 1 : Dev nD) = 0
    ∧ (up 1 2 : Dev nD) = 3 ∧ (up 2 2 : Dev nD) = 0 ∧ (up 3 2 : Dev nD) = 1 ∧ (up 1 3 : Dev nD) = 0 ∧ (up 2 3 : Dev nD) = 1 ∧ (up 3 3 : Dev nD) = 2 := by decide
theorem kP_facts : kP 1 = 25 ∧ kP 2 = 26 ∧ kP 3 = 27 := by decide

theorem tokL_0 : bigSep (tokL 0).toFinset (tkx (F := F)) = toks (F := F) 0 := by
  rw [bigSep_eq_bigSepL_of_eq _ rfl (tokL_nodup 0)]
  show bigSepL [(1, 0, 0), (2, 0, 0), (3, 0, 0), (1, 1, 0), (2, 1, 0), (3, 1, 0), (1, 18, 0), (0, 4, 0), (1, 19, 0), (0, 5, 0), (1, 22, 0), (0, 6, 0), (1, 23, 0), (0, 9, 0), (2, 22, 0), (0, 7, 0), (2, 23, 0), (0, 10, 0), (3, 22, 0), (0, 8, 0), (3, 23, 0), (0, 11, 0), (1, 24, 0), (0, 12, 0), (2, 24, 0), (0, 13, 0), (3, 24, 0), (0, 14, 0), (0, 28, 0), (0, 29, 0), (0, 30, 0), (0, 31, 0)] (tkx (F := F)) = _
  obtain ⟨u1, u2, u3, u4, u5, u6, u7, u8, u9, u10, u11, u12⟩ := up_facts
  obtain ⟨p1, p2, p3⟩ := kP_facts
  unfold toks tkL tkR tkG tkQ tkP tkGl tkx
  simp (decide := true) only [bigSepL_two, bigSepL_one, sep_assoc_eq, if_true, if_false, emp_l, emp_r, u1, u2, u3, u4, u5, u6, u7, u8, u9, u10, u11, u12, p1, p2, p3]

theorem tokL_1 : bigSep (tokL 1).toFinset (tkx (F := F)) = toks (F := F) 1 := by
  rw [bigSep_eq_bigSepL_of_eq _ rfl (tokL_nodup 1)]
  show bigSepL [(2, 0, 1), (3, 0, 1), (0, 0, 1), (2, 1, 1), (3, 1, 1), (0, 1, 1), (0, 20, 0), (1, 2, 0), (0, 21, 0), (1, 3, 0), (2, 18, 0), (1, 4, 0), (2, 19, 0), (1, 5, 0), (0, 25, 0), (1, 15, 0), (1, 28, 0), (1, 29, 0)] (tkx (F := F)) = _
  obtain ⟨u1, u2, u3, u4, u5, u6, u7, u8, u9, u10, u11, u12⟩ := up_facts
  obtain ⟨p1, p2, p3⟩ := kP_facts
  unfold toks tkL tkR tkG tkQ tkP tkGl tkx
  simp (decide := true) only [bigSepL_two, bigSepL_one, sep_assoc_eq, if_true, if_false, emp_l, emp_r, u1, u2, u3, u4, u5, u6, u7, u8, u9, u10, u11, u12, p1, p2, p3]

theorem tokL_2 : bigSep (tokL 2).toFinset (tkx (F := F)) = toks (F := F) 2 := by
  rw [bigSep_eq_bigSepL_of_eq _ rfl (tokL_nodup 2)]
  show bigSepL [(3, 0, 2), (0, 0, 2), (1, 0, 2), (3, 1, 2), (0, 1, 2), (1, 1, 2), (1, 20, 0), (2, 2, 0), (1, 21, 0), (2, 3, 0), (3, 18, 0), (2, 4, 0), (3, 19, 0), (2, 5, 0), (0, 26, 0), (2, 15, 0), (2, 28, 0), (2, 29, 0)] (tkx (F := F)) = _
  obtain ⟨u1, u2, u3, u4, u5, u6, u7, u8, u9, u10, u11, u12⟩ := up_facts
  obtain ⟨p1, p2, p3⟩ := kP_facts
  unfold toks tkL tkR tkG tkQ tkP tkGl tkx
  simp (decide := true) only [bigSepL_two, bigSepL_one, sep_assoc_eq, if_true, if_false, emp_l, emp_r, u1, u2, u3, u4, u5, u6, u7, u8, u9, u10, u11, u12, p1, p2, p3]

theorem tokL_3 : bigSep (tokL 3).toFinset (tkx (F := F)) = toks (F := F) 3 := by
  rw [bigSep_eq_bigSepL_of_eq _ rfl (tokL_nodup 3)]
  show bigSepL [(0, 0, 3), (1, 0, 3), (2, 0, 3), (0, 1, 3), (1, 1, 3), (2, 1, 3), (2, 20, 0), (3, 2, 0), (2, 21, 0), (3, 3, 0), (0, 27, 0), (3, 15, 0), (3, 28, 0), (3, 29, 0)] (tkx (F := F)) = _
  obtain ⟨u1, u2, u3, u4, u5, u6, u7, u8, u9, u10, u11, u12⟩ := up_facts
  obtain ⟨p1, p2, p3⟩ := kP_facts
  unfold toks tkL tkR tkG tkQ tkP tkGl tkx
  simp (decide := true) only [bigSepL_two, bigSepL_one, sep_assoc_eq, if_true, if_false, emp_l, emp_r, u1, u2, u3, u4, u5, u6, u7, u8, u9, u10, u11, u12, p1, p2, p3]

theorem tokL_eq (c : Dev nD) : bigSep (tokL c).toFinset (tkx (F := F)) = toks (F := F) c := by
  rcases four c with rfl | rfl | rfl | rfl
  exacts [tokL_0, tokL_1, tokL_2, tokL_3]

theorem bigSep_dev (Φ : Dev nD → sProp 𝕄) : bigSep Finset.univ Φ = iprop(Φ 0 ∗ Φ 1 ∗ Φ 2 ∗ Φ 3) := bigSep_univ_eq_bigSepL [0, 1, 2, 3] (by decide) (by decide) Φ

/-- One token for every cell and duty has every device's. -/
theorem deal : bigSep Finset.univ (tkx (F := F)) ⊢ bigSep Finset.univ (fun c : Dev nD => toks (F := F) c) := by
  refine (bigSep_subset (Finset.subset_univ ((tokL 0).toFinset ∪ ((tokL 1).toFinset ∪ ((tokL 2).toFinset ∪ (tokL 3).toFinset))))).trans ?_
  rw [bigSep_union (by simp only [Finset.disjoint_union_right]; exact ⟨tokL_disjoint 0 1 (by decide), tokL_disjoint 0 2 (by decide), tokL_disjoint 0 3 (by decide)⟩),
    bigSep_union (by simp only [Finset.disjoint_union_right]; exact ⟨tokL_disjoint 1 2 (by decide), tokL_disjoint 1 3 (by decide)⟩),
    bigSep_union (tokL_disjoint 2 3 (by decide)), tokL_eq, tokL_eq, tokL_eq, tokL_eq, bigSep_dev]
  exact Entails.refl _

/-! The credits. -/

/-- What device `d` owes a cell at the start. -/
def own (d : Dev nD) (b : Dev nD × Fin 32) : ℕ :=
  let e (a : Dev nD × Fin 32) (n : ℕ) : ℕ := if b = a then n else 0
  let x := 0 + e (up 3 d, 1) 1 + e (up 2 d, 1) 1 + e (up 1 d, 1) 1
  let x := x + if 0 < d.val then e (0, kP d) NP else 0
  let x := if d = 0 then x + e (3, 24) NQ + e (2, 24) NQ + e (1, 24) NQ else x
  let x := if d = 0 then x + e (3, 23) N32 + e (3, 22) N32 + e (2, 23) N32 + e (2, 22) N32 + e (1, 23) N32 + e (1, 22) N32 else x
  let x := if d.val < 3 then x + e (up 1 d, 19) N128 + e (up 1 d, 18) N128 else x
  let x := if 0 < d.val then x + e (up 3 d, 21) N128 + e (up 3 d, 20) N128 else x
  x + e (up 3 d, 0) 1 + e (up 2 d, 0) 1 + e (up 1 d, 0) 1

theorem tally_k (a b : Dev nD × Fin 32) (n : ℕ) : (tallyAt (kcell a) () n : CellTallies nD τ sig Unit) (kcell b) () = if b = a then n else 0 := by
  rw [tallyAt_apply]
  by_cases h : b = a
  · subst h; rw [if_pos ⟨rfl, rfl⟩, if_pos rfl]
  · rw [if_neg (fun hh => h (kcell_injective hh.1)), if_neg h]

theorem own_eq (d : Dev nD) (b : Dev nD × Fin 32) : O₀ d (kcell b) () = own d b := by
  rcases four d with rfl | rfl | rfl | rfl <;> unfold O₀ oL oR oG oQ oPart oExit own <;>
    simp (decide := true) only [if_true, if_false, Pi.add_apply, Finsupp.add_apply, tally_k, Pi.zero_apply, Finsupp.zero_apply]

/-- All that a cell is owed. -/
def tot (c : Dev nD) (k : Fin 32) : ℕ := ∑ d : Dev nD, own d (c, k)

theorem launch_k (c : Dev nD) (k : Fin 32) :
    tallyOn (kcell (c, k)) (launchCredit (Pipeline.owing O₀) 0 (kcell (c, k))) = (tallyAt (kcell (c, k)) () (tot c k) : CellTallies nD τ sig Unit) := by
  unfold tallyAt; refine congrArg _ (Finsupp.ext fun u => ?_); cases u
  rw [Pipeline.launchCredit_owing, Finsupp.single_eq_same]
  exact Finset.sum_congr rfl fun d _ => own_eq d (c, k)

theorem csem_injective : Function.Injective csem := fun a b h => Option.some.inj ((kOf_csem a).symm.trans ((congrArg kOf h).trans (kOf_csem b)))

theorem launchCred_k (c : Dev nD) : (Pipeline.launchCred O₀ c : sProp 𝕄) ⊢ bigSep Finset.univ (fun k : Fin 32 => cr (F := F) c k (tot c k)) := by
  unfold Pipeline.launchCred
  refine (bigSep_subset (Finset.subset_univ (Finset.univ.map ⟨csem, csem_injective⟩))).trans ?_
  rw [bigSep_map]
  refine bigSep_mono fun k _ => ?_
  unfold cr
  rw [← launch_k]
  exact Entails.refl _

theorem crs_0 : bigSep ([0, 1, 20, 21, 25, 26, 27] : List (Fin 32)).toFinset (fun k : Fin 32 => cr (F := F) 0 k (tot 0 k)) = crs (F := F) 0 := by
  rw [bigSep_eq_bigSepL_of_eq _ rfl (by decide)]
  unfold crs crRx crRy crC
  simp (decide := true) only [bigSepL_two, bigSepL_one, sep_assoc_eq, if_true, if_false, emp_l, emp_r, show tot 0 0 = 3 from by decide +kernel, show tot 0 1 = 3 from by decide +kernel, show tot 0 20 = N128 from by decide +kernel, show tot 0 21 = N128 from by decide +kernel, show tot 0 25 = NP from by decide +kernel, show tot 0 26 = NP from by decide +kernel, show tot 0 27 = NP from by decide +kernel]

theorem crs_1 : bigSep ([0, 1, 18, 19, 22, 23, 24, 20, 21] : List (Fin 32)).toFinset (fun k : Fin 32 => cr (F := F) 1 k (tot 1 k)) = crs (F := F) 1 := by
  rw [bigSep_eq_bigSepL_of_eq _ rfl (by decide)]
  unfold crs crRx crRy crC
  simp (decide := true) only [bigSepL_two, bigSepL_one, sep_assoc_eq, if_true, if_false, emp_l, emp_r, show tot 1 0 = 3 from by decide +kernel, show tot 1 1 = 3 from by decide +kernel, show tot 1 18 = N128 from by decide +kernel, show tot 1 19 = N128 from by decide +kernel, show tot 1 22 = N32 from by decide +kernel, show tot 1 23 = N32 from by decide +kernel, show tot 1 24 = NQ from by decide +kernel, show tot 1 20 = N128 from by decide +kernel, show tot 1 21 = N128 from by decide +kernel]

theorem crs_2 : bigSep ([0, 1, 18, 19, 22, 23, 24, 20, 21] : List (Fin 32)).toFinset (fun k : Fin 32 => cr (F := F) 2 k (tot 2 k)) = crs (F := F) 2 := by
  rw [bigSep_eq_bigSepL_of_eq _ rfl (by decide)]
  unfold crs crRx crRy crC
  simp (decide := true) only [bigSepL_two, bigSepL_one, sep_assoc_eq, if_true, if_false, emp_l, emp_r, show tot 2 0 = 3 from by decide +kernel, show tot 2 1 = 3 from by decide +kernel, show tot 2 18 = N128 from by decide +kernel, show tot 2 19 = N128 from by decide +kernel, show tot 2 22 = N32 from by decide +kernel, show tot 2 23 = N32 from by decide +kernel, show tot 2 24 = NQ from by decide +kernel, show tot 2 20 = N128 from by decide +kernel, show tot 2 21 = N128 from by decide +kernel]

theorem crs_3 : bigSep ([0, 1, 18, 19, 22, 23, 24] : List (Fin 32)).toFinset (fun k : Fin 32 => cr (F := F) 3 k (tot 3 k)) = crs (F := F) 3 := by
  rw [bigSep_eq_bigSepL_of_eq _ rfl (by decide)]
  unfold crs crRx crRy crC
  simp (decide := true) only [bigSepL_two, bigSepL_one, sep_assoc_eq, if_true, if_false, emp_l, emp_r, show tot 3 0 = 3 from by decide +kernel, show tot 3 1 = 3 from by decide +kernel, show tot 3 18 = N128 from by decide +kernel, show tot 3 19 = N128 from by decide +kernel, show tot 3 22 = N32 from by decide +kernel, show tot 3 23 = N32 from by decide +kernel, show tot 3 24 = NQ from by decide +kernel]

/-- The launch's credits have those that a device waits for. -/
theorem creds (c : Dev nD) : (Pipeline.launchCred O₀ c : sProp 𝕄) ⊢ crs (F := F) c := by
  refine (launchCred_k c).trans ?_
  rcases four c with rfl | rfl | rfl | rfl
  · rw [← crs_0]; exact bigSep_subset (Finset.subset_univ _)
  · rw [← crs_1]; exact bigSep_subset (Finset.subset_univ _)
  · rw [← crs_2]; exact bigSep_subset (Finset.subset_univ _)
  · rw [← crs_3]; exact bigSep_subset (Finset.subset_univ _)

end Cert.KernelIdeal.Mesh
-- ==== Proof.Launch.lean ====
/-
The launch: what the launch deals each device, the cells' invariants, and the run of the whole program.
-/
module

public import proofs.«01_k».proof.Proof.Deal
public import Idealize.ShloMosaic.Lib.Pipeline.ArrRel
public import Idealize.ShloMosaic.Lib.Pipeline.CollectiveSegs

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Pipeline (RDat)

variable (m : (ℓ : Loc nD τ sig) → Buf (Elt F) ℓ) (ρ : Dev nD → PrngReg)
variable (PS : Dev nD → (cc0_scratch4 : Ref sig .tc).ty.Contents (Elt F) → Prop)

/-- The kernel's own semaphores: all its cells but the barrier's. -/
def osem : Fin 31 → SemLoc sig := fun k => csem k.succ

theorem osem_facts : Pipeline.OwnSemFacts cfg0.spec osem where
  isScoped := by decide
  inj := fun a b h => Fin.succ_injective _ (csem_injective h)
  disj := by decide

theorem share_eq (c : Dev nD) (w : Fin cfg0.W) : (rdats m PS 0 c).share w = fullShare := by
  show (dats m PS 0 c).share w = fullShare
  unfold Dat.share; split <;> rfl

def meshCells : Finset (GSem nD τ sig) := Finset.univ.map ⟨kcell, kcell_injective⟩

abbrev tokOf (x : Dev nD × Fin 32 × Fin 4) : GSem nD τ sig × ℕ × Fin 4 := (kcell (x.1, x.2.1), 0, x.2.2)
theorem tokOf_injective : Function.Injective tokOf := by
  rintro ⟨c, k, d⟩ ⟨c', k', d'⟩ h
  have h1 := kcell_injective (congrArg (fun x : GSem nD τ sig × ℕ × Fin 4 => x.1) h)
  have h2 : d = d' := congrArg (fun x : GSem nD τ sig × ℕ × Fin 4 => x.2.2) h
  rw [show c = c' from congrArg Prod.fst h1, show k = k' from congrArg Prod.snd h1, h2]
def meshToks : Finset (GSem nD τ sig × ℕ × Fin 4) := Finset.univ.map ⟨tokOf, tokOf_injective⟩

def u₀ : UU :=
  (initOf (Pipeline.cells cfgs cellOf_inj) (Pipeline.launchToks cfgs cellOf_inj), initOf meshCells meshToks)

/-- What the launch deals a device. -/
def G (c : Dev nD) : sProp 𝕄 :=
  iprop((bigSep Finset.univ fun k : Fin 32 => roundState ER (meshRd m PS) (kcell (c, k)) 0)
    ∗ (bigSep Finset.univ fun k : Fin 32 => at0 (F := F) c k) ∗ (bigSep Finset.univ fun k : Fin 32 => reached ER (kcell (c, k)) 0) ∗ toks (F := F) c)

def records (K : Dev nD × Fin 32 → ℕ) : sProp 𝕄 :=
  iprop((bigSep Finset.univ fun ck : Dev nD × Fin 32 => cellInv ER (meshRd m PS) (K ck) (kcell ck))
    ∗ bigSep Finset.univ fun ck : Dev nD × Fin 32 => reached ER (kcell ck) 0)
instance records_persistent (K : Dev nD × Fin 32 → ℕ) : BI.Persistent (records m PS K) := by unfold records; infer_instance

/-- What every device has once the invariants stand. -/
def G' (c : Dev nD) : sProp 𝕄 := iprop((∃ K, records m PS K) ∗ poss (F := F) c ∗ toks (F := F) c)

theorem fund_mesh : BI.own (ER (initOf meshCells meshToks)) ⊢ (|==> bigSep Finset.univ (G m PS) : sProp 𝕄) := by
  have hX (Φ : GSem nD τ sig → sProp 𝕄) : bigSep meshCells Φ = bigSep Finset.univ fun c : Dev nD => bigSep Finset.univ fun k : Fin 32 => Φ (kcell (c, k)) := by
    unfold meshCells; rw [bigSep_map, bigSep_univ_prod]; rfl
  have hT : bigSep meshToks (fun x => (dutyTok ER x.1 x.2.1 x.2.2 : sProp 𝕄)) = bigSep Finset.univ (tkx (F := F)) := by
    unfold meshToks; rw [bigSep_map]; rfl
  iintro HX
  imod (Rounds.fund ER (meshRd m PS) meshCells meshToks) $$ HX with ⟨Hst, Hr, Hat, Htok⟩
  imodintro
  ihave Hst' := (Entails.of_eq (hX fun g => roundState ER (meshRd m PS) g 0)) $$ Hst
  ihave Hat' := (Entails.of_eq (hX fun g => atPos ER g 0 ∅ 0)) $$ Hat
  ihave Hr' := (Entails.of_eq (hX fun g => reached ER g 0)) $$ Hr
  ihave Htok' := ((Entails.of_eq hT).trans deal) $$ Htok
  unfold G at0; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = bigSep Finset.univ (fun k : Fin 31 => semVal (kcell (c, k.succ)) 0) := rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems_eq (c : Dev nD) :
    (iprop(unscopedSems0 c ∗ Pipeline.ownSems0 (Ix := Unit) (Name := ℕ) (U := UU) (Lvl := ℕ) (Val := Elt F) (τ := τ) osem c) : sProp 𝕄)
      = bigSep Finset.univ fun k : Fin 32 => semVal (kcell (c, k)) 0 := by
  rw [ownSems0_eq, unscopedSems0_eq, bigSep_fin32, bigSep_univ_eq_bigSepL [0, 1, 2, 3, 4, 5, 6, 7, 8, 9, 10, 11, 12, 13, 14, 15, 16, 17, 18, 19, 20, 21, 22, 23, 24, 25, 26, 27, 28, 29, 30] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m PS c)
      ⊢ |={Set.univ}=> iprop((bigSep Finset.univ fun k => iprop(∃ κ : ℕ, cellInv ER (meshRd m PS) κ (kcell (c, k))))
          ∗ (bigSep Finset.univ fun k : Fin 32 => at0 (F := F) c k) ∗ (bigSep Finset.univ fun k : Fin 32 => reached ER (kcell (c, k)) 0) ∗ toks (F := F) c) := by
  unfold G
  iintro ⟨Hos, Hus, Hst, Hat, Hr, Htok⟩
  ihave Hv := (Entails.of_eq (sems_eq (F := F) c)) $$ [Hos Hus]
  · isplitl [Hus] <;> iassumption
  imod (show iprop((bigSep Finset.univ fun k : Fin 32 => semVal (kcell (c, k)) 0) ∗ bigSep Finset.univ fun k : Fin 32 => roundState ER (meshRd m PS) (kcell (c, k)) 0)
      ⊢ (|={Set.univ}=> bigSep Finset.univ fun k => iprop(∃ κ : ℕ, cellInv ER (meshRd m PS) κ (kcell (c, k))) : sProp 𝕄) from by
        rw [← bigSep_sep']
        exact (bigSep_mono fun k _ => (Rounds.body_intro ER (meshRd m PS) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 32 → ℕ) (c : Dev nD) :
    iprop(records m PS K ∗ ((bigSep Finset.univ fun k : Fin 32 => at0 (F := F) c k) ∗ toks (F := F) c)) ⊢ G' m PS c := by
  unfold G'
  rw [← poss_eq]
  iintro ⟨#HR, Hat, Ht⟩
  isplitr; · iexists K; iexact HR
  isplitl [Hat]; · iexact Hat
  iexact Ht

theorem regroup :
    (bigSep Finset.univ fun c : Dev nD => iprop((bigSep Finset.univ fun k => iprop(∃ κ : ℕ, cellInv ER (meshRd m PS) κ (kcell (c, k))))
          ∗ (bigSep Finset.univ fun k : Fin 32 => at0 (F := F) c k) ∗ (bigSep Finset.univ fun k : Fin 32 => reached ER (kcell (c, k)) 0) ∗ toks (F := F) c) : sProp 𝕄)
      ⊢ bigSep Finset.univ (G' m PS) := by
  rw [bigSep_sep', bigSep_sep', bigSep_sep', ← bigSep_univ_prod (fun ck : Dev nD × Fin 32 => iprop(∃ κ : ℕ, cellInv ER (meshRd m PS) κ (kcell ck))),
    ← bigSep_univ_prod (fun ck : Dev nD × Fin 32 => (reached ER (kcell ck) 0 : sProp 𝕄))]
  iintro ⟨HI, Hat, #HR, Htok⟩
  ihave HK := (BI.bigSep_exists_pi Finset.univ (fun (ck : Dev nD × Fin 32) (κ : ℕ) => (cellInv ER (meshRd m PS) κ (kcell ck) : sProp 𝕄))) $$ HI
  icases HK with ⟨%K, #HI⟩
  iapply (with_records (R := records m PS K) fun c _ => ghost_intro m PS K c)
  isplitr
  · unfold records; isplitl; · iexact HI
    iexact HR
  · iapply (Entails.of_eq (bigSep_sep' Finset.univ (fun c : Dev nD => bigSep Finset.univ fun k : Fin 32 => at0 (F := F) c k) (fun c => toks (F := F) c)).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m PS c) : sProp 𝕄)
    ⊢ |={Set.univ}=> bigSep Finset.univ (G' m PS) :=
  ((bigSep_mono fun c _ => core_alloc m PS c).trans (bigSep_fupd _ _)).trans (BI.fupd_mono (regroup m PS))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m PS c)
      ⊢ |={Set.univ}=> iprop(start m PS c ∗ emp) := by
  rw [Pipeline.unscopedRestP_none, show (Pipeline.unscopedRest cfg0.spec c (fun b => m ((c : Thread nD τ).loc b)) : sProp 𝕄) = kv m c from unscopedRest0_eq c (fun b => m ((c : Thread nD τ).loc b))]
  unfold start G' Ctx records
  iintro ⟨Hkv, Hlev, Hcr, -, ⟨%K, HI, HR⟩, Hp, Ht⟩
  ihave Hc := (creds (F := F) c) $$ Hcr
  imodintro
  isplitl
  · isplitl [HI HR Hlev]; · iexists K; iframe
    isplitl [Ht]; · iexact Ht
    isplitl [Hp]; · iexact Hp
    isplitl [Hc]; · iexact Hc
    iexact Hkv
  · iempintro

theorem phi0_intro (c : Dev nD) :
    iprop(start m PS c ∗ Pipeline.prefHeld Pipeline.Prefetch.none c (fun _ => fullShare.right) (fun k => k.elim0) ∗ Pipeline.scopedRest cfg0.spec c)
      ⊢ (rdats m PS 0 c).Φ 0 := by
  rw [show (rdats m PS 0 c).Φ 0 = Φ₀ m PS c from rfl, show (Pipeline.scopedRest cfg0.spec c : sProp 𝕄) = scr (F := F) c from scopedRest0_eq c]
  unfold Φ₀
  iintro ⟨Hs, -, Hr⟩
  iframe

theorem phi1_exit (c : Dev nD) :
    (rdats m PS 0 c).Φ (Fin.last cfg0.N) ⊢ iprop((unscopedSems0 c ∗ kv m c) ∗ Pipeline.ownSems0 osem c ∗ Pipeline.scopedRest cfg0.spec c) := by
  rw [show (rdats m PS 0 c).Φ (Fin.last cfg0.N) = Φ₁ m c from rfl, show (Pipeline.scopedRest cfg0.spec c : sProp 𝕄) = scr (F := F) c from scopedRest0_eq c]
  unfold Φ₁
  rw [← sems_eq]
  iintro ⟨⟨Hu, Ho⟩, Hkv, Hr⟩
  iframe

theorem lv_stage : ∀ (w : Fin cfg0.W) (s : Fin (cfg0.win w).nbuf), (match kOf (SemLoc.dma ((cfg0.win w).sem s) : SemLoc sig) with | some k => lvl k | none => 0) ≤ 0 := by decide
theorem waits (c : Dev nD) : (levAts L lv : sProp 𝕄) ⊢ RDat.cellsWaits cfgs (rdats m PS) () 0 c :=
  RDat.cellsWaits_intro cfgs (rdats m PS) () 0 c fun w s t => by
    refine mayWait_above c _ 0 (lv_stage w s) ?_
    rcases t with ⟨_ | _, ht⟩
    · exact above_O c (by decide)
    · exact Above.zero 0

theorem kv_read (c : Dev nD) (s' : Phys nD τ sig (Elt F)) :
    iprop(kv m c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  unfold kv
  iintro ⟨⟨H2, H3⟩, HSI⟩
  icombine HSI H2 gives %h2
  icombine HSI H3 gives %h3
  isplitr
  · ipureintro; exact ⟨Buf.eq_of_forall_mem_univ h2, Buf.eq_of_forall_mem_univ h3⟩
  iexact HSI

/-- What the run leaves of a device: the operands as launched, and a result that the kernel's schedule allows. -/
def Post : PUnit × MemSt nD τ sig (Elt F) → Prop := fun r => ∀ c : Dev nD,
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ OUT m PS c (r.2.mem ((c : Thread nD τ).loc main_v1))

theorem kept_in (c : Dev nD) (w : Fin cfg0.W) (h : (cfg0.win w).isOut = false) (f) (hf : (rdats m PS 0 c).ArrAt w cfg0.N f) :
    f = m ((cfg0.win w).arr.view.loc (c : Thread nD τ)) := by
  rw [RDat.ArrAt_in _ w h] at hf
  exact hf

theorem out_ok (c : Dev nD) (f) (hf : (rdats m PS 0 c).ArrAt (3 : Fin 4) cfg0.N f) : OUT m PS c f := by
  obtain ⟨X, hX, hG⟩ := RDat.ArrAt.emb_eq_of_wholeAt hf (t₀ := t₀) (by decide +kernel)
  have hX' : OUT m PS c X := Dat.toRRel_leaves (dats m PS 0 c) (w := (3 : Fin 4)) rfl hX
  have : f = X := funext fun j => hG j
  exact this ▸ hX'

set_option maxRecDepth 8000 in
/-- Every weakly fair execution of the program ends, with the operands as launched, every semaphore at zero and a
    result that the schedule allows. -/
theorem run_main (hPS : PSok m PS) : θ_run defs (onTc (τ := τ) (main (F := F))) ⟨m, fun _ => 0, ρ⟩ (fun r => Post m PS r ∧ r.2.sem = fun _ => 0) :=
  Pipeline.RDat.θ_run_region_owing_glob_pf (fun p => (cfgs p).toPCfg) (fun p => (cfgs p).toPCfg_adm) (rdats m PS) () cellOf_inj (0 : Fin 1)
    winFacts0.to₀ osem_facts (Pipeline.PreFacts.none _) EP defs₀ 𝒱₀ m ρ main
    (hmain := fun _ => rfl)
    (hbody := fun c => Pipeline.BodyObligationRel.toRRel _ (body_obligation m PS hPS c))
    (hne := block_pos0) (harr := arr_whole0) (hstage := stage_whole0) (hshare := share_eq m PS)
    (hdistinct := winFacts0.arr_inj)
    (O₀ := O₀) (howed₀ := fun _ => rfl) (howedN := fun _ => rfl)
    (L := L) (lv := lv) (hL := L_of_ne) (hwaits := waits m PS)
    (G := G m PS) (G' := G' m PS) (u₀ := u₀)
    (hu₀ := by
      unfold u₀
      iintro Hu
      ihave H := (ownU_pair _ _) $$ Hu
      icases H with ⟨HP, HX⟩
      imod (fund_mesh m PS) $$ HX with HG
      imodintro
      isplitl [HP] <;> iassumption)
    (hglob := glob m PS)
    (hA := fun _ _ => rfl) (hpf := fun _ k => k.elim0)
    (X := start m PS) (Y := fun c => iprop(unscopedSems0 c ∗ kv m c)) (Z := fun _ => iprop(emp))
    (hX := start_intro m ρ PS) (hin := phi0_intro m PS) (hout := phi1_exit m PS)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨⟨Hu, Hkv⟩, -, HSI⟩
      ihave H := (kv_read m c s') $$ [Hkv HSI]
      · isplitl [Hkv] <;> iassumption
      icases H with ⟨%hkv, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hkv⟩
      iexact HSI)
    (hQ := fun s h hs => ⟨fun c => ⟨kept_in m PS c 0 rfl _ ((h c).1 0), kept_in m PS c 1 rfl _ ((h c).1 1), (h c).2.2.2.1, (h c).2.2.2.2,
      kept_in m PS c 2 rfl _ ((h c).1 2), out_ok m PS c _ ((h c).1 3)⟩, sem_eq_zero hs fun c => (h c).2.2.1⟩)

end Cert.KernelIdeal.Mesh
-- ==== Proof.Frames.lean ====
/-
The frames: each program ends from any memory, with its arguments as they were and every semaphore at zero; and the
one named constant.
-/
module

public import proofs.«01_k».proof.Defs
public import proofs.«01_k».proof.Proof.Launch
public import proofs.«01_k».proof.Proof.Bits.Launch
public import proofs.«01_k».proof.Proof.Gen.ReferenceIdeal.Run
public import Idealize.ShloMosaic.Adequacy

@[expose] public section

noncomputable section

namespace Cert.Proof

open Idealize.ShloMosaic Idealize.SL.Sem

theorem frame_Kernel : Cert.quiescent_Kernel := fun m g _ =>
  (θ_run Cert.Kernel.defs _ _).mono (fun _ h => ⟨fun c => ⟨(h.1 c).1, (h.1 c).2.1, (h.1 c).2.2.1, (h.1 c).2.2.2.1, (h.1 c).2.2.2.2.1⟩, h.2⟩)
    (Cert.Kernel.Mesh.run_main (F := Bits) m g (fun _ _ => True) (fun _ _ _ _ _ _ _ _ => trivial))

theorem frame_KernelIdeal : Cert.quiescent_KernelIdeal := fun m g _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Mesh.run_main (F := Ideal) m g (fun _ _ => True) (fun _ _ _ _ _ _ _ _ => trivial))

theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  IdealRules.named_const.statement Cert.KernelIdeal.κ "mask" .f32 0xCE6E6B28#32 ⊥ rfl

end Cert.Proof
-- ==== Proof.Softmax.lean ====
/-
A softmax-weighted sum over the extended reals: its normal form, and the three ways in which the programs compute it.
-/
module

public import Idealize.ShloMosaic.Lib.Pointwise

@[expose] public section

set_option maxRecDepth 16384

noncomputable section

namespace Cert.Rows

open Idealize.ShloMosaic

/-- The softmax-weighted sum of `v` over the indices that `A` allows, the weights `exp (s j)`. -/
def ctx {ι : Type} [Fintype ι] (A : ι → Prop) [DecidablePred A] (s v : ι → EReal) : EReal :=
  Ideal.div (∑ j, if A j then Ideal.exp (s j) * v j else 0) (∑ j, if A j then Ideal.exp (s j) else 0)

theorem mul_sum_real {ι : Type} (S : Finset ι) (a : ℝ) (ha : 0 ≤ a) (f : ι → EReal) : (a : EReal) * ∑ j ∈ S, f j = ∑ j ∈ S, (a : EReal) * f j := by
  classical
  induction S using Finset.induction_on with
  | empty => simp
  | insert x S hx ih =>
    rw [Finset.sum_insert hx, Finset.sum_insert hx, ← ih]
    exact EReal.left_distrib_of_nonneg_of_ne_top (EReal.coe_nonneg.2 ha) (EReal.coe_ne_top a) _ _

theorem coe_sum {ι : Type} (S : Finset ι) (f : ι → ℝ) : ((∑ j ∈ S, f j : ℝ) : EReal) = ∑ j ∈ S, (f j : EReal) := by
  classical
  induction S using Finset.induction_on with
  | empty => simp
  | insert x S hx ih => rw [Finset.sum_insert hx, Finset.sum_insert hx, EReal.coe_add, ih]

/-- Real weights and a real, positive divisor: a common positive factor cancels. -/
theorem div_scaled (a : ℝ) (ha : 0 < a) (x : EReal) (W : ℝ) (hW : 0 < W) :
    Ideal.div ((a : EReal) * x) ((a * W : ℝ) : EReal) = Ideal.div x (W : EReal) := by
  have h1 : ((a * W : ℝ) : EReal) ≠ 0 := by exact_mod_cast (mul_pos ha hW).ne'
  have h2 : ((W : ℝ) : EReal) ≠ 0 := by exact_mod_cast hW.ne'
  unfold Ideal.div
  rw [if_neg h1, if_neg h2, ← EReal.coe_inv, ← EReal.coe_inv, mul_comm (a : EReal) x, mul_assoc, ← EReal.coe_mul]
  congr 2
  field_simp

/-- The normal form with every exponent lowered by one real number. -/
theorem ctx_shift {ι : Type} [Fintype ι] (A : ι → Prop) [DecidablePred A] (s : ι → ℝ) (v : ι → EReal) (μ : ℝ) (hA : ∃ j, A j) :
    ctx A (fun j => (s j : EReal)) v
      = Ideal.div (∑ j, if A j then Ideal.exp ((s j : EReal) - (μ : EReal)) * v j else 0) (∑ j, if A j then Ideal.exp ((s j : EReal) - (μ : EReal)) else 0) := by
  have e1 : ∀ j, Ideal.exp ((s j : EReal) - (μ : EReal)) = ((Real.exp (-μ) : ℝ) : EReal) * Ideal.exp (s j : EReal) := by
    intro j
    rw [← EReal.coe_sub, Ideal.exp_coe, Ideal.exp_coe, ← EReal.coe_mul, ← Real.exp_add]
    congr 2; ring
  have e2 : (∑ j, if A j then Ideal.exp ((s j : EReal) - (μ : EReal)) * v j else 0)
      = ((Real.exp (-μ) : ℝ) : EReal) * ∑ j, if A j then Ideal.exp (s j : EReal) * v j else 0 := by
    rw [mul_sum_real _ _ (Real.exp_pos _).le]
    refine Finset.sum_congr rfl fun j _ => ?_
    split
    · rw [e1, mul_assoc]
    · rw [mul_zero]
  have e3 : (∑ j, if A j then Ideal.exp ((s j : EReal)) else 0) = ((∑ j, if A j then Real.exp (s j) else 0 : ℝ) : EReal) := by
    rw [coe_sum]
    refine Finset.sum_congr rfl fun j _ => ?_
    split
    · rw [Ideal.exp_coe]
    · rfl
  have e4 : (∑ j, if A j then Ideal.exp ((s j : EReal) - (μ : EReal)) else 0)
      = ((Real.exp (-μ) * (∑ j, if A j then Real.exp (s j) else 0) : ℝ) : EReal) := by
    rw [EReal.coe_mul, ← e3, mul_sum_real _ _ (Real.exp_pos _).le]
    refine Finset.sum_congr rfl fun j _ => ?_
    split
    · rw [e1]
    · rw [mul_zero]
  have hW : 0 < ∑ j, if A j then Real.exp (s j) else 0 := by
    obtain ⟨j, hj⟩ := hA
    refine Finset.sum_pos' (fun i _ => ?_) ⟨j, Finset.mem_univ j, by rw [if_pos hj]; exact Real.exp_pos _⟩
    split
    · exact (Real.exp_pos _).le
    · exact le_rfl
  unfold ctx
  rw [e2, e4, e3, div_scaled _ (Real.exp_pos _) _ _ hW]

/-- The maximum of real scores, those disallowed read as minus infinity. -/
theorem max_real {ι : Type} [DecidableEq ι] (S : Finset ι) (A : ι → Prop) [DecidablePred A] (s : ι → ℝ) :
    (∀ j ∈ S, ¬ A j) ∧ S.fold max ⊥ (fun j => if A j then (s j : EReal) else ⊥) = ⊥
      ∨ ∃ μ : ℝ, S.fold max ⊥ (fun j => if A j then (s j : EReal) else ⊥) = (μ : EReal) := by
  induction S using Finset.induction_on with
  | empty => exact Or.inl ⟨fun _ h => absurd h (Finset.notMem_empty _), Finset.fold_empty⟩
  | insert x S hx ih =>
    rw [Finset.fold_insert hx]
    by_cases hA : A x
    · right
      rw [if_pos hA]
      rcases ih with ⟨_, h⟩ | ⟨μ, h⟩
      · exact ⟨s x, by rw [h, max_bot_right]⟩
      · exact ⟨max (s x) μ, by rw [h]; exact (EReal.coe_strictMono.monotone.map_max).symm⟩
    · rw [if_neg hA, max_bot_left]
      rcases ih with ⟨h', h⟩ | h
      · refine Or.inl ⟨fun j hj => ?_, h⟩
        rcases Finset.mem_insert.1 hj with rfl | hj
        · exact hA
        · exact h' j hj
      · exact Or.inr h

theorem max_real' {ι : Type} [Fintype ι] [DecidableEq ι] (A : ι → Prop) [DecidablePred A] (s : ι → ℝ) (hA : ∃ j, A j) :
    ∃ μ : ℝ, Finset.univ.fold max ⊥ (fun j => if A j then (s j : EReal) else ⊥) = (μ : EReal) := by
  rcases max_real Finset.univ A s with ⟨h, _⟩ | h
  · obtain ⟨j, hj⟩ := hA
    exact absurd hj (h j (Finset.mem_univ j))
  · exact h

theorem exp_masked (p : Prop) [Decidable p] (s μ : ℝ) :
    Ideal.exp ((if p then (s : EReal) else ⊥) - (μ : EReal)) = ((if p then Real.exp (s - μ) else 0 : ℝ) : EReal) := by
  split
  · rw [← EReal.coe_sub, Ideal.exp_coe]
  · rw [EReal.bot_sub]
    exact Ideal.exp_bot

/-- The reference's way: every weight divided by the sum of the weights, before the values are taken in. -/
theorem ctx_normalized {ι : Type} [Fintype ι] [DecidableEq ι] (A : ι → Prop) [DecidablePred A] (s : ι → ℝ) (v : ι → EReal) (hA : ∃ j, A j) (M : EReal)
    (hM : M = Finset.univ.fold max ⊥ (fun j => if A j then (s j : EReal) else ⊥)) :
    ∑ j, v j * Ideal.div (Ideal.exp ((if A j then (s j : EReal) else ⊥) - M)) (∑ j, Ideal.exp ((if A j then (s j : EReal) else ⊥) - M))
      = ctx A (fun j => (s j : EReal)) v := by
  obtain ⟨μ, hμ⟩ := max_real' A s hA
  rw [hM, hμ, ctx_shift A s v μ hA]
  set W : ℝ := ∑ j, if A j then Real.exp (s j - μ) else 0 with hWdef
  have hW : 0 < W := by
    obtain ⟨j, hj⟩ := hA
    refine Finset.sum_pos' (fun i _ => ?_) ⟨j, Finset.mem_univ j, by rw [if_pos hj]; exact Real.exp_pos _⟩
    split
    · exact (Real.exp_pos _).le
    · exact le_rfl
  have e3 : (∑ j, if A j then Ideal.exp ((s j : EReal) - (μ : EReal)) else 0) = (W : EReal) := by
    rw [hWdef, coe_sum]
    refine Finset.sum_congr rfl fun j _ => ?_
    split
    · rw [← EReal.coe_sub, Ideal.exp_coe]
    · rfl
  have e4 : (∑ j, Ideal.exp ((if A j then (s j : EReal) else ⊥) - (μ : EReal))) = (W : EReal) := by
    rw [hWdef, coe_sum]
    exact Finset.sum_congr rfl fun j _ => exp_masked _ _ _
  have h2 : (W : EReal) ≠ 0 := by exact_mod_cast hW.ne'
  rw [e3, e4]
  unfold Ideal.div
  simp only [if_neg h2]
  rw [← EReal.coe_inv, mul_comm _ ((W⁻¹ : ℝ) : EReal), mul_sum_real _ _ (inv_nonneg.2 hW.le)]
  refine Finset.sum_congr rfl fun j _ => ?_
  rw [exp_masked]
  split
  · rw [← EReal.coe_sub, Ideal.exp_coe]
    ac_rfl
  · rw [EReal.coe_zero, zero_mul, mul_zero, mul_zero]

/-- A sum over the allowed indices, taken in two parts that do not meet. -/
theorem cover_sum {ι κ γ M : Type} [AddCommMonoid M] [Fintype ι] [Fintype κ] [Fintype γ] [DecidableEq ι] (B : κ → Prop) (C : γ → Prop) (A : ι → Prop)
    [DecidablePred B] [DecidablePred C] [DecidablePred A] (f : κ → ι) (g : γ → ι)
    (hf : ∀ x y, B x → B y → f x = f y → x = y) (hg : ∀ x y, C x → C y → g x = g y → x = y) (hd : ∀ x y, B x → C y → f x ≠ g y)
    (hA : ∀ j, A j ↔ (∃ x, B x ∧ f x = j) ∨ ∃ y, C y ∧ g y = j) (F : ι → M) :
    (∑ x, if B x then F (f x) else 0) + (∑ y, if C y then F (g y) else 0) = ∑ j, if A j then F j else 0 := by
  rw [← Finset.sum_filter, ← Finset.sum_filter, ← Finset.sum_filter]
  rw [← Finset.sum_image (s := Finset.univ.filter B) (g := f) (f := F) (by
    intro x hx y hy h; exact hf x y (Finset.mem_filter.1 hx).2 (Finset.mem_filter.1 hy).2 h)]
  rw [← Finset.sum_image (s := Finset.univ.filter C) (g := g) (f := F) (by
    intro x hx y hy h; exact hg x y (Finset.mem_filter.1 hx).2 (Finset.mem_filter.1 hy).2 h)]
  rw [← Finset.sum_union]
  · refine Finset.sum_congr ?_ fun _ _ => rfl
    ext j
    simp [hA]
  · rw [Finset.disjoint_left]
    intro j h1 h2
    obtain ⟨x, hx, rfl⟩ := Finset.mem_image.1 h1
    obtain ⟨y, hy, h⟩ := Finset.mem_image.1 h2
    exact hd x y (Finset.mem_filter.1 hx).2 (Finset.mem_filter.1 hy).2 h.symm

/-- The loop's way: a window of keys and the global keys, each with a bias of zero or minus infinity. -/
theorem ctx_window {ι κ γ : Type} [Fintype ι] [Fintype κ] [Fintype γ] [DecidableEq ι] (B : κ → Prop) (C : γ → Prop) (A : ι → Prop)
    [DecidablePred B] [DecidablePred C] [DecidablePred A] (f : κ → ι) (g : γ → ι)
    (hf : ∀ x y, B x → B y → f x = f y → x = y) (hg : ∀ x y, C x → C y → g x = g y → x = y) (hd : ∀ x y, B x → C y → f x ≠ g y)
    (hA : ∀ j, A j ↔ (∃ x, B x ∧ f x = j) ∨ ∃ y, C y ∧ g y = j) (s v : ι → EReal) (sw vw bw : κ → EReal) (sg vg bg : γ → EReal)
    (hbw : ∀ x, bw x = if B x then 0 else ⊥) (hbg : ∀ y, bg y = if C y then 0 else ⊥)
    (hsw : ∀ x, B x → sw x = s (f x)) (hvw : ∀ x, B x → vw x = v (f x)) (hsg : ∀ y, C y → sg y = s (g y)) (hvg : ∀ y, C y → vg y = v (g y)) :
    Ideal.div ((∑ x, Ideal.exp (sw x + bw x) * vw x) + ∑ y, Ideal.exp (sg y + bg y) * vg y) ((∑ x, Ideal.exp (sw x + bw x)) + ∑ y, Ideal.exp (sg y + bg y))
      = ctx A s v := by
  have a1 : ∀ x, Ideal.exp (sw x + bw x) = if B x then Ideal.exp (s (f x)) else 0 := by
    intro x
    by_cases h : B x
    · rw [hbw, if_pos h, if_pos h, hsw x h, add_zero]
    · rw [hbw, if_neg h, if_neg h, EReal.add_bot]
      exact Ideal.exp_bot
  have a2 : ∀ y, Ideal.exp (sg y + bg y) = if C y then Ideal.exp (s (g y)) else 0 := by
    intro y
    by_cases h : C y
    · rw [hbg, if_pos h, if_pos h, hsg y h, add_zero]
    · rw [hbg, if_neg h, if_neg h, EReal.add_bot]
      exact Ideal.exp_bot
  have b1 : ∀ x, Ideal.exp (sw x + bw x) * vw x = if B x then Ideal.exp (s (f x)) * v (f x) else 0 := by
    intro x
    rw [a1]
    by_cases h : B x
    · rw [if_pos h, if_pos h, hvw x h]
    · rw [if_neg h, if_neg h, zero_mul]
  have b2 : ∀ y, Ideal.exp (sg y + bg y) * vg y = if C y then Ideal.exp (s (g y)) * v (g y) else 0 := by
    intro y
    rw [a2]
    by_cases h : C y
    · rw [if_pos h, if_pos h, hvg y h]
    · rw [if_neg h, if_neg h, zero_mul]
  unfold ctx
  simp only [b1, b2]
  simp only [a1, a2]
  rw [cover_sum B C A f g hf hg hd hA (fun j => Ideal.exp (s j) * v j), cover_sum B C A f g hf hg hd hA (fun j => Ideal.exp (s j))]

/-- A sum over all keys, block by block. -/
theorem sum_blocks {M : Type} [AddCommMonoid M] (F : Fin 8192 → M) :
    ∑ j, F j = (∑ j : Fin 2048, F ⟨j.val, by omega⟩) + (∑ j : Fin 2048, F ⟨2048 + j.val, by omega⟩) + (∑ j : Fin 2048, F ⟨4096 + j.val, by omega⟩)
      + ∑ j : Fin 2048, F ⟨6144 + j.val, by omega⟩ := by
  have h := Fin.sum_univ_add (a := 6144) (b := 2048) F
  have h2 := Fin.sum_univ_add (a := 4096) (b := 2048) (fun j => F (Fin.castAdd 2048 j))
  have h3 := Fin.sum_univ_add (a := 2048) (b := 2048) (fun j => F (Fin.castAdd 2048 (Fin.castAdd 2048 j)))
  refine h.trans ?_
  rw [h2, h3]
  rfl

/-- One device's share of a row that attends to every key: its maximum, its sum, its weighted sum. -/
theorem part_scale (s : Fin 2048 → ℝ) (v : Fin 2048 → EReal) (m μ : ℝ) :
    Ideal.exp ((m : EReal) - (μ : EReal)) * (∑ j, Ideal.exp ((s j : EReal) - (m : EReal)) * v j) = ∑ j, Ideal.exp ((s j : EReal) - (μ : EReal)) * v j := by
  rw [← EReal.coe_sub, Ideal.exp_coe, mul_sum_real _ _ (Real.exp_pos _).le]
  refine Finset.sum_congr rfl fun j _ => ?_
  rw [← EReal.coe_sub, ← EReal.coe_sub, Ideal.exp_coe, Ideal.exp_coe, ← mul_assoc, ← EReal.coe_mul, ← Real.exp_add]
  congr 3; ring

theorem part_scale' (s : Fin 2048 → ℝ) (m μ : ℝ) :
    Ideal.exp ((m : EReal) - (μ : EReal)) * (∑ j, Ideal.exp ((s j : EReal) - (m : EReal))) = ∑ j, Ideal.exp ((s j : EReal) - (μ : EReal)) := by
  have := part_scale s (fun _ => 1) m μ
  simpa only [mul_one] using this

/-- The combination's way: four devices' shares, joined under the greatest of the four maxima. -/
theorem ctx_combined (s : Fin 8192 → ℝ) (v : Fin 8192 → EReal) (m0 m1 m2 m3 : ℝ) (M : EReal) (hM : M = max (max (m0 : EReal) m1) (max (m2 : EReal) m3))
    (A : Fin 8192 → Prop) [DecidablePred A] (hA : ∀ j, A j) (k : Fin 4 → Fin 2048 → Fin 8192) (hk : ∀ t j, (k t j).val = 2048 * t.val + j.val) :
    Ideal.div (Ideal.exp (m0 - M) * (∑ j, Ideal.exp ((s (k 0 j) : EReal) - m0) * v (k 0 j)) + Ideal.exp (m1 - M) * (∑ j, Ideal.exp ((s (k 1 j) : EReal) - m1) * v (k 1 j))
        + Ideal.exp (m2 - M) * (∑ j, Ideal.exp ((s (k 2 j) : EReal) - m2) * v (k 2 j)) + Ideal.exp (m3 - M) * (∑ j, Ideal.exp ((s (k 3 j) : EReal) - m3) * v (k 3 j)))
      (Ideal.exp (m0 - M) * (∑ j, Ideal.exp ((s (k 0 j) : EReal) - m0)) + Ideal.exp (m1 - M) * (∑ j, Ideal.exp ((s (k 1 j) : EReal) - m1))
        + Ideal.exp (m2 - M) * (∑ j, Ideal.exp ((s (k 2 j) : EReal) - m2)) + Ideal.exp (m3 - M) * (∑ j, Ideal.exp ((s (k 3 j) : EReal) - m3)))
      = ctx A (fun j => (s j : EReal)) v := by
  have hμ : M = ((max (max m0 m1) (max m2 m3) : ℝ) : EReal) := by
    rw [hM, EReal.coe_strictMono.monotone.map_max, EReal.coe_strictMono.monotone.map_max, EReal.coe_strictMono.monotone.map_max]
  generalize max (max m0 m1) (max m2 m3) = μ at hμ
  subst hμ
  rw [ctx_shift A s v μ ⟨0, hA 0⟩]
  simp only [hA, if_true]
  rw [sum_blocks, sum_blocks]
  have k0 : ∀ j, k 0 j = ⟨j.val, by omega⟩ := fun j => Fin.ext (by rw [hk]; simp)
  have k1 : ∀ j, k 1 j = ⟨2048 + j.val, by omega⟩ := fun j => Fin.ext (by rw [hk]; simp)
  have k2 : ∀ j, k 2 j = ⟨4096 + j.val, by omega⟩ := fun j => Fin.ext (by rw [hk]; simp)
  have k3 : ∀ j, k 3 j = ⟨6144 + j.val, by omega⟩ := fun j => Fin.ext (by rw [hk]; simp)
  simp only [← k0, ← k1, ← k2, ← k3]
  rw [part_scale (fun j => s (k 0 j)) (fun j => v (k 0 j)), part_scale (fun j => s (k 1 j)) (fun j => v (k 1 j)), part_scale (fun j => s (k 2 j)) (fun j => v (k 2 j)),
    part_scale (fun j => s (k 3 j)) (fun j => v (k 3 j)), part_scale' (fun j => s (k 0 j)), part_scale' (fun j => s (k 1 j)), part_scale' (fun j => s (k 2 j)),
    part_scale' (fun j => s (k 3 j))]

end Cert.Rows
-- ==== Proof.Spec.lean ====
/-
Which keys a row may read, its scores and its weighted sum: what both programs compute.
-/
module

public import proofs.«01_k».proof.Proof.Softmax

@[expose] public section

set_option maxRecDepth 16384

noncomputable section

namespace Cert.Rows

open Idealize.ShloMosaic

/-- Row `i` may read key `j`: they are near, or one of the two is among the first 32. -/
def allowed (i j : Fin 8192) : Prop := (i.val ≤ j.val + 128 ∧ j.val ≤ i.val + 128) ∨ j.val < 32 ∨ i.val < 32

instance (i : Fin 8192) : DecidablePred (allowed i) := fun j => by unfold allowed; infer_instance

theorem allowed_self (i : Fin 8192) : ∃ j, allowed i j := ⟨i, Or.inl ⟨by omega, by omega⟩⟩

section
variable (X : Fin 8192 → Fin 1024 → EReal) (W : Fin 1024 → Fin 1024 → EReal) (K V : Fin 8192 → Fin 8 → Fin 128 → EReal) (i : Fin 8192) (h : Fin 8) (d : Fin 128)

/-- A row's query. -/
def query (i : Fin 8192) (e : Fin 1024) : EReal := ∑ k, X i k * W k e
/-- A row's score against a key. -/
def score (j : Fin 8192) : EReal := (∑ e : Fin 128, query X W i ⟨128 * h.val + e.val, by omega⟩ * K j h e) * Ideal.ofBits .f32 0x3DB504F3#32
/-- A row's weighted sum of the values. -/
def row : EReal := ctx (allowed i) (score X W K i h) (fun j => V j h d)

theorem sum_real {ι : Type} [Fintype ι] (f : ι → EReal) (hf : ∀ x, ∃ r : ℝ, f x = r) : ∃ r : ℝ, ∑ x, f x = r := by
  choose g hg using hf
  exact ⟨∑ x, g x, by rw [coe_sum]; exact Finset.sum_congr rfl fun x _ => hg x⟩
theorem mul_real {a b : EReal} (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩

theorem scale_real : ∃ r : ℝ, Ideal.ofBits .f32 0x3DB504F3#32 = r := by
  rw [Ideal.ofBits]
  exact ⟨_, by norm_num; rfl⟩

/-- Finite inputs give real scores. -/
theorem score_real (hX : ∀ i k, ∃ r : ℝ, X i k = r) (hW : ∀ k e, ∃ r : ℝ, W k e = r) (hK : ∀ j h e, ∃ r : ℝ, K j h e = r) : ∃ s : Fin 8192 → ℝ, ∀ j, score X W K i h j = s j := by
  have : ∀ j, ∃ r : ℝ, score X W K i h j = r := fun j =>
    mul_real (sum_real _ fun e => mul_real (sum_real _ fun k => mul_real (hX _ _) (hW _ _)) (hK _ _ _)) scale_real
  choose s hs using this
  exact ⟨s, hs⟩
end

end Cert.Rows
-- ==== Proof.Read.lean ====
/-
The kernel's vector operations, read at one element over the extended reals.
-/
module

public import proofs.«01_k».proof.Proof.CombRun
public import Idealize.ShloMosaic.Lib.Pointwise

@[expose] public section

set_option maxRecDepth 16384

noncomputable section

namespace Cert.KernelIdeal.Mesh

open Cert.KernelIdeal Cert.KernelIdeal.Gen
open Idealize.ShloMosaic Idealize.ShloMosaic.TcCoe

/-- The softmax's scale. -/
def κs : EReal := Ideal.ofBits .f32 0x3DB504F3#32

/-- A score of a row of queries against a row of keys. -/
def dot128 (q k : Fin 128 → EReal) : EReal := (∑ d, q d * k d) * κs

set_option maxHeartbeats 2000000 in
theorem trip_apply (b : FVec Ideal S256x512 .f32) (bg : Ideal .f32) (qb : Vec Ideal S256x128 .f32) (kw : Vec Ideal S512x1x128 .f32) (kg : Vec Ideal S32x1x128 .f32)
    (vw : Vec Ideal S512x1x128 .f32) (vg : Vec Ideal S32x1x128 .f32) (r : Fin 256) (d : Fin 128) :
    k0_pay10 b bg qb kw kg vw vg (ix3 0 r d)
      = Ideal.div ((∑ w : Fin 512, Ideal.exp (dot128 (fun k => qb (ix2 r k)) (fun k => kw (ix3 w 0 k)) + b (ix2 r w)) * vw (ix3 w 0 d))
          + ∑ g : Fin 32, Ideal.exp (dot128 (fun k => qb (ix2 r k)) (fun k => kg (ix3 g 0 k)) + bg) * vg (ix3 g 0 d))
        ((∑ w : Fin 512, Ideal.exp (dot128 (fun k => qb (ix2 r k)) (fun k => kw (ix3 w 0 k)) + b (ix2 r w)))
          + ∑ g : Fin 32, Ideal.exp (dot128 (fun k => qb (ix2 r k)) (fun k => kg (ix3 g 0 k)) + bg)) := by
  pointwise [k0_pay10]
  rfl

theorem score_apply (v92 : BitVec 1) (q q' : Vec Ideal S32x128 .f32) (k : Vec Ideal S2048x1x128 .f32) (r : Fin 32) (j : Fin 2048) :
    k0_pay153 v92 q q' k (ix2 r j) = dot128 (fun d => Scalar.select v92 q q' (ix2 r d)) (fun d => k (ix3 j 0 d)) := by
  pointwise [k0_pay153]
  rfl

theorem max_apply (v92 : BitVec 1) (q q' : Vec Ideal S32x128 .f32) (k : Vec Ideal S2048x1x128 .f32) (r : Fin 32) :
    k0_pay154 v92 q q' k (ix2 r 0) = Finset.univ.fold max (Ideal.ofBits .f32 0xFF800000#32) fun j : Fin 2048 => k0_pay153 v92 q q' k (ix2 r j) := by
  pointwise [k0_pay154]

theorem exp_apply (v92 : BitVec 1) (q q' : Vec Ideal S32x128 .f32) (k : Vec Ideal S2048x1x128 .f32) (r : Fin 32) (j : Fin 2048) :
    k0_pay155 v92 q q' k (ix2 r j) = Ideal.exp (k0_pay153 v92 q q' k (ix2 r j) - k0_pay154 v92 q q' k (ix2 r 0)) := by
  pointwise [k0_pay155]

theorem sum_apply (v92 : BitVec 1) (q q' : Vec Ideal S32x128 .f32) (k : Vec Ideal S2048x1x128 .f32) (r : Fin 32) :
    k0_pay156 v92 q q' k (ix2 r 0) = ∑ j : Fin 2048, k0_pay155 v92 q q' k (ix2 r j) := by
  pointwise [k0_pay156]

theorem acc_apply (v92 : BitVec 1) (q q' : Vec Ideal S32x128 .f32) (k v : Vec Ideal S2048x1x128 .f32) (r : Fin 32) (d : Fin 128) :
    k0_pay157 v92 q q' k v (ix2 r d) = ∑ j : Fin 2048, k0_pay155 v92 q q' k (ix2 r j) * v (ix3 j 0 d) := by
  pointwise [k0_pay157]

theorem comb_apply (m0 l0 : Vec Ideal S32x1 .f32) (o0 : Vec Ideal S32x128 .f32) (m1 l1 : FVec Ideal S32x1 .f32) (o1 : FVec Ideal S32x128 .f32)
    (m2 l2 : FVec Ideal S32x1 .f32) (o2 : FVec Ideal S32x128 .f32) (m3 l3 : FVec Ideal S32x1 .f32) (o3 : Vec Ideal S1x32x128 .f32) (r : Fin 32) (d : Fin 128) (M : EReal)
    (hM : M = max (max (m0 (ix2 r 0)) (m1 (ix2 r 0))) (max (m2 (ix2 r 0)) (m3 (ix2 r 0)))) :
    k0_pay169 m0 l0 o0 m1 l1 o1 m2 l2 o2 m3 l3 o3 (ix3 0 r d)
      = Ideal.div (Ideal.exp (m0 (ix2 r 0) - M) * o0 (ix2 r d) + Ideal.exp (m1 (ix2 r 0) - M) * o1 (ix2 r d) + Ideal.exp (m2 (ix2 r 0) - M) * o2 (ix2 r d) + Ideal.exp (m3 (ix2 r 0) - M) * o3 (ix3 0 r d))
        (Ideal.exp (m0 (ix2 r 0) - M) * l0 (ix2 r 0) + Ideal.exp (m1 (ix2 r 0) - M) * l1 (ix2 r 0) + Ideal.exp (m2 (ix2 r 0) - M) * l2 (ix2 r 0) + Ideal.exp (m3 (ix2 r 0) - M) * l3 (ix2 r 0)) := by
  subst hM
  pointwise [k0_pay169]

theorem proj_apply (x : Vec Ideal S1x2048x1024 .f32) (w : Vec Ideal S1024x1024 .f32) (i : Fin 2048) (e : Fin 1024) :
    k0_pay109 x w (ix2 i e) = ∑ k : Fin 1024, x (ix3 0 i k) * w (ix2 k e) := by
  pointwise [k0_pay109]

theorem out_apply (x : Vec Ideal S1x2048x1024 .f32) (w : Vec Ideal S1024x1024 .f32) (i : Fin 2048) (e : Fin 1024) :
    k0_pay170 x w (ix3 0 i e) = ∑ k : Fin 1024, x (ix3 0 i k) * w (ix2 k e) := by
  pointwise [k0_pay170]

end Cert.KernelIdeal.Mesh
-- ==== Proof.Keys.lean ====
/-
The key and value buffers after the gather, and the received queries, read at one element.
-/
module

public import proofs.«01_k».proof.Proof.Gather
public import proofs.«01_k».proof.Proof.Read

@[expose] public section

set_option maxRecDepth 16384

noncomputable section

namespace Cert.KernelIdeal.Mesh

open Cert.KernelIdeal Cert.KernelIdeal.Gen
open Idealize.ShloMosaic Idealize.ShloMosaic.TcCoe

variable (m : (ℓ : Loc nD τ sig) → Buf (Elt Ideal) ℓ)

theorem landed_at {sp s e sp'} (c c' : Dev nD) (dst : Memref sig .tc sp s e) (src : Memref sig .tc sp' s e) (x : s.Idx) :
    landedM m c c' dst src (dst.view.emb x) = _root_.cast (congrArg (Elt Ideal) dst.view.elt_eq.symm) (_root_.cast (congrArg (Elt Ideal) src.view.elt_eq) (m (src.view.loc (c' : Thread nD τ)) (src.view.emb x))) := by
  unfold landedM landed
  rw [View.write_emb_of_mem _ _ (Finset.mem_univ x), View.read_apply]

section
variable {V : Type} (g l o q : S2336x8x128.Idx → V) (r : Fin 2336) (h : Fin 8) (d : Fin 128)
theorem cat4_at1 (h1 : r.val < 32) : cat4 g l o q (ix3 r h d) = g (ix3 r h d) := if_pos h1
theorem cat4_at2 (h0 : 32 ≤ r.val) (h1 : r.val < 160) : cat4 g l o q (ix3 r h d) = l (ix3 r h d) := (if_neg (Nat.not_lt.mpr h0)).trans (if_pos h1)
theorem cat4_at3 (h0 : 160 ≤ r.val) (h1 : r.val < 2208) : cat4 g l o q (ix3 r h d) = o (ix3 r h d) :=
  (if_neg (show ¬ r.val < 32 by omega)).trans ((if_neg (show ¬ r.val < 160 by omega)).trans (if_pos h1))
theorem cat4_at4 (h0 : 2208 ≤ r.val) : cat4 g l o q (ix3 r h d) = q (ix3 r h d) :=
  (if_neg (show ¬ r.val < 32 by omega)).trans ((if_neg (show ¬ r.val < 160 by omega)).trans (if_neg (show ¬ r.val < 2208 by omega)))
end

/-- A row of a stretch of the buffer. -/
theorem emb_row {n : ℕ} (o : ℕ) (i : ∀ a, (![o, 0, 0] : Fin 3 → ℕ) a + (⟨3, ![n, 8, 128]⟩ : Shape).size a ≤ S2336x8x128.size a) (r : Fin 2336) (h : Fin 8) (d : Fin 128) (x : Fin n) (hx : r.val = o + x.val) :
    (ix3 r h d : S2336x8x128.Idx) = (Rect.unit (s := S2336x8x128) ![o, 0, 0] (⟨3, ![n, 8, 128]⟩ : Shape).size i).emb (ix3 x h d) := by
  funext a
  apply Fin.ext
  rw [Rect.emb_apply]
  match a with
  | ⟨0, _⟩ => show r.val = o + 1 * x.val; omega
  | ⟨1, _⟩ => show h.val = 0 + 1 * h.val; omega
  | ⟨2, _⟩ => show d.val = 0 + 1 * d.val; omega

/-- A row of a stretch of a device's block. -/
theorem emb_block {n : ℕ} (o : ℕ) (i : ∀ a, (![0, o, 0, 0] : Fin 4 → ℕ) a + (⟨4, ![1, n, 8, 128]⟩ : Shape).size a ≤ S1x2048x8x128.size a) (hq : (⟨3, ![n, 8, 128]⟩ : Shape).numel = (⟨4, ![1, n, 8, 128]⟩ : Shape).numel)
    (x : Fin n) (h : Fin 8) (d : Fin 128) (r : Fin 2048) (hr : r.val = o + x.val) :
    (Rect.unit (s := S1x2048x8x128) ![0, o, 0, 0] (⟨4, ![1, n, 8, 128]⟩ : Shape).size i).emb (Shape.reshapeEquiv hq (ix3 x h d)) = ix4 0 r h d := by
  rw [Shape.reshapeEquiv_cons_one]
  funext a
  apply Fin.ext
  rw [Rect.emb_apply]
  match a with
  | ⟨0, _⟩ => rfl
  | ⟨1, _⟩ => show o + 1 * x.val = r.val; omega
  | ⟨2, _⟩ => show 0 + 1 * h.val = h.val; omega
  | ⟨3, _⟩ => show 0 + 1 * d.val = d.val; omega

/-- The whole sequence's keys, one by one, from the devices' blocks. -/
def gk (j : Fin 8192) (h : Fin 8) (d : Fin 128) : EReal :=
  (m (((⟨j.val / 2048, by have := j.isLt; show _ < 4; omega⟩ : Dev nD) : Thread nD τ).loc main_arg2) : S1x2048x8x128.Idx → EReal) (ix4 0 ⟨j.val % 2048, by omega⟩ h d)

theorem gk_of (c : Dev nD) (r : Fin 2048) (h : Fin 8) (d : Fin 128) (j : Fin 8192) (hj : j.val = 2048 * c.val + r.val) :
    gk m j h d = (m ((c : Thread nD τ).loc main_arg2) : S1x2048x8x128.Idx → EReal) (ix4 0 r h d) := by
  unfold gk
  have e1 : (⟨j.val / 2048, by have := j.isLt; show _ < 4; omega⟩ : Dev nD) = c := Fin.ext (by show j.val / 2048 = c.val; omega)
  have e2 : (⟨j.val % 2048, by omega⟩ : Fin 2048) = r := Fin.ext (by show j.val % 2048 = r.val; omega)
  rw [e1, e2]

theorem key_first {c : Dev nD} {f : B6 Ideal} (hf : KC m c f) (g : Fin 32) (h : Fin 8) (d : Fin 128) (r : Fin 2336) (hr : r.val = g.val) (j : Fin 8192) (hj : j.val = g.val) :
    (f (ix3 r h d) : EReal) = gk m j h d := by
  obtain ⟨l, q, rfl⟩ := hf
  rw [cat4_at1 _ _ _ _ _ _ _ (by omega), gk_of m 0 ⟨g.val, by omega⟩ h d j (by show j.val = 2048 * 0 + g.val; omega)]
  have := landed_at m c 0 (dG m6) (s32 kM) (ix3 g h d)
  rw [show (s32 kM).view.emb (ix3 g h d) = _ from emb_block 0 _ _ g h d ⟨g.val, by omega⟩ (by show g.val = 0 + g.val; omega)] at this
  rw [show (ix3 r h d : S2336x8x128.Idx) = (dG m6).view.emb (ix3 g h d) from emb_row _ _ _ _ _ _ (by omega)]
  exact this

theorem key_rest {c : Dev nD} {f : B6 Ideal} (hf : KC m c f) (h : Fin 8) (d : Fin 128) (r : Fin 2336) (hr : 32 ≤ r.val) (j : Fin 8192) (hj : j.val + 160 = 2048 * c.val + r.val) :
    (f (ix3 r h d) : EReal) = gk m j h d := by
  have hc : c.val < 4 := c.isLt
  have hj' := j.isLt
  have hr' := r.isLt
  obtain ⟨l, q, rfl⟩ := hf
  by_cases h1 : r.val < 160
  · rw [cat4_at2 _ _ _ _ _ _ _ hr h1, if_pos (show 0 < c.val by omega), gk_of m (up 3 c) ⟨1888 + r.val, by omega⟩ h d j (by show j.val = 2048 * ((c.val + 3) % 4) + (1888 + r.val); omega)]
    have := landed_at m c (up 3 c) (dL m6) (sHi kM) (ix3 ⟨r.val - 32, by omega⟩ h d)
    rw [show (sHi kM).view.emb (ix3 (⟨r.val - 32, by omega⟩ : Fin 128) h d) = _ from emb_block 1920 _ _ _ h d ⟨1888 + r.val, by omega⟩ (by show 1888 + r.val = 1920 + (r.val - 32); omega)] at this
    rw [show (ix3 r h d : S2336x8x128.Idx) = (dL m6).view.emb (ix3 ⟨r.val - 32, by omega⟩ h d) from emb_row _ _ _ _ _ _ (by show r.val = 32 + (r.val - 32); omega)]
    exact this
  by_cases h2 : r.val < 2208
  · rw [cat4_at3 _ _ _ _ _ _ _ (by omega) h2, gk_of m c ⟨r.val - 160, by omega⟩ h d j (by show j.val = 2048 * c.val + (r.val - 160); omega)]
    have := landed_at m c c (dM m6) (sAll kM) (ix3 ⟨r.val - 160, by omega⟩ h d)
    rw [show (sAll kM).view.emb (ix3 (⟨r.val - 160, by omega⟩ : Fin 2048) h d) = _ from emb_block 0 _ _ _ h d ⟨r.val - 160, by omega⟩ (by show r.val - 160 = 0 + (r.val - 160); omega)] at this
    rw [show (ix3 r h d : S2336x8x128.Idx) = (dM m6).view.emb (ix3 ⟨r.val - 160, by omega⟩ h d) from emb_row _ _ _ _ _ _ (by show r.val = 160 + (r.val - 160); omega)]
    exact this
  · rw [cat4_at4 _ _ _ _ _ _ _ (by omega), if_pos (show c.val < 3 by omega), gk_of m (up 1 c) ⟨r.val - 2208, by omega⟩ h d j (by show j.val = 2048 * ((c.val + 1) % 4) + (r.val - 2208); omega)]
    have := landed_at m c (up 1 c) (dR m6) (sLo kM) (ix3 ⟨r.val - 2208, by omega⟩ h d)
    rw [show (sLo kM).view.emb (ix3 (⟨r.val - 2208, by omega⟩ : Fin 128) h d) = _ from emb_block 0 _ _ _ h d ⟨r.val - 2208, by omega⟩ (by show r.val - 2208 = 0 + (r.val - 2208); omega)] at this
    rw [show (ix3 r h d : S2336x8x128.Idx) = (dR m6).view.emb (ix3 ⟨r.val - 2208, by omega⟩ h d) from emb_row _ _ _ _ _ _ (by show r.val = 2208 + (r.val - 2208); omega)]
    exact this

/-- The whole sequence's values, one by one, from the devices' blocks. -/
def gv (j : Fin 8192) (h : Fin 8) (d : Fin 128) : EReal :=
  (m (((⟨j.val / 2048, by have := j.isLt; show _ < 4; omega⟩ : Dev nD) : Thread nD τ).loc main_arg3) : S1x2048x8x128.Idx → EReal) (ix4 0 ⟨j.val % 2048, by omega⟩ h d)

theorem gv_of (c : Dev nD) (r : Fin 2048) (h : Fin 8) (d : Fin 128) (j : Fin 8192) (hj : j.val = 2048 * c.val + r.val) :
    gv m j h d = (m ((c : Thread nD τ).loc main_arg3) : S1x2048x8x128.Idx → EReal) (ix4 0 r h d) := by
  unfold gv
  have e1 : (⟨j.val / 2048, by have := j.isLt; show _ < 4; omega⟩ : Dev nD) = c := Fin.ext (by show j.val / 2048 = c.val; omega)
  have e2 : (⟨j.val % 2048, by omega⟩ : Fin 2048) = r := Fin.ext (by show j.val % 2048 = r.val; omega)
  rw [e1, e2]

theorem val_first {c : Dev nD} {f : B7 Ideal} (hf : VC m c f) (g : Fin 32) (h : Fin 8) (d : Fin 128) (r : Fin 2336) (hr : r.val = g.val) (j : Fin 8192) (hj : j.val = g.val) :
    (f (ix3 r h d) : EReal) = gv m j h d := by
  obtain ⟨l, q, rfl⟩ := hf
  rw [cat4_at1 _ _ _ _ _ _ _ (by omega), gv_of m 0 ⟨g.val, by omega⟩ h d j (by show j.val = 2048 * 0 + g.val; omega)]
  have := landed_at m c 0 (dG m7) (s32 vM) (ix3 g h d)
  rw [show (s32 vM).view.emb (ix3 g h d) = _ from emb_block 0 _ _ g h d ⟨g.val, by omega⟩ (by show g.val = 0 + g.val; omega)] at this
  rw [show (ix3 r h d : S2336x8x128.Idx) = (dG m7).view.emb (ix3 g h d) from emb_row _ _ _ _ _ _ (by omega)]
  exact this

theorem val_rest {c : Dev nD} {f : B7 Ideal} (hf : VC m c f) (h : Fin 8) (d : Fin 128) (r : Fin 2336) (hr : 32 ≤ r.val) (j : Fin 8192) (hj : j.val + 160 = 2048 * c.val + r.val) :
    (f (ix3 r h d) : EReal) = gv m j h d := by
  have hc : c.val < 4 := c.isLt
  have hj' := j.isLt
  have hr' := r.isLt
  obtain ⟨l, q, rfl⟩ := hf
  by_cases h1 : r.val < 160
  · rw [cat4_at2 _ _ _ _ _ _ _ hr h1, if_pos (show 0 < c.val by omega), gv_of m (up 3 c) ⟨1888 + r.val, by omega⟩ h d j (by show j.val = 2048 * ((c.val + 3) % 4) + (1888 + r.val); omega)]
    have := landed_at m c (up 3 c) (dL m7) (sHi vM) (ix3 ⟨r.val - 32, by omega⟩ h d)
    rw [show (sHi vM).view.emb (ix3 (⟨r.val - 32, by omega⟩ : Fin 128) h d) = _ from emb_block 1920 _ _ _ h d ⟨1888 + r.val, by omega⟩ (by show 1888 + r.val = 1920 + (r.val - 32); omega)] at this
    rw [show (ix3 r h d : S2336x8x128.Idx) = (dL m7).view.emb (ix3 ⟨r.val - 32, by omega⟩ h d) from emb_row _ _ _ _ _ _ (by show r.val = 32 + (r.val - 32); omega)]
    exact this
  by_cases h2 : r.val < 2208
  · rw [cat4_at3 _ _ _ _ _ _ _ (by omega) h2, gv_of m c ⟨r.val - 160, by omega⟩ h d j (by show j.val = 2048 * c.val + (r.val - 160); omega)]
    have := landed_at m c c (dM m7) (sAll vM) (ix3 ⟨r.val - 160, by omega⟩ h d)
    rw [show (sAll vM).view.emb (ix3 (⟨r.val - 160, by omega⟩ : Fin 2048) h d) = _ from emb_block 0 _ _ _ h d ⟨r.val - 160, by omega⟩ (by show r.val - 160 = 0 + (r.val - 160); omega)] at this
    rw [show (ix3 r h d : S2336x8x128.Idx) = (dM m7).view.emb (ix3 ⟨r.val - 160, by omega⟩ h d) from emb_row _ _ _ _ _ _ (by show r.val = 160 + (r.val - 160); omega)]
    exact this
  · rw [cat4_at4 _ _ _ _ _ _ _ (by omega), if_pos (show c.val < 3 by omega), gv_of m (up 1 c) ⟨r.val - 2208, by omega⟩ h d j (by show j.val = 2048 * ((c.val + 1) % 4) + (r.val - 2208); omega)]
    have := landed_at m c (up 1 c) (dR m7) (sLo vM) (ix3 ⟨r.val - 2208, by omega⟩ h d)
    rw [show (sLo vM).view.emb (ix3 (⟨r.val - 2208, by omega⟩ : Fin 128) h d) = _ from emb_block 0 _ _ _ h d ⟨r.val - 2208, by omega⟩ (by show r.val - 2208 = 0 + (r.val - 2208); omega)] at this
    rw [show (ix3 r h d : S2336x8x128.Idx) = (dR m7).view.emb (ix3 ⟨r.val - 2208, by omega⟩ h d) from emb_row _ _ _ _ _ _ (by show r.val = 2208 + (r.val - 2208); omega)]
    exact this

end Cert.KernelIdeal.Mesh
-- ==== Proof.Bias.lean ====
/-
The masks of the kernel's loop, read at one element: zero at a key that the row attends to, minus infinity elsewhere.
-/
module

public import proofs.«01_k».proof.Proof.Read
public import Idealize.ShloMosaic.Lib.WordCmp

@[expose] public section

set_option maxRecDepth 16384

noncomputable section

namespace Cert.KernelIdeal.Mesh

open Cert.KernelIdeal Cert.KernelIdeal.Gen
open Idealize.ShloMosaic Idealize.ShloMosaic.TcCoe

open Idealize.ShloMosaic.WordCmp

theorem base_word : ∀ (c : Dev nD) (k : Fin k0_t1_loop.trips),
    Scalar.addi (Scalar.muli (v2w c) 2048#32) (Scalar.subi (Scalar.muli (Scf.iv 0#32 1#32 k.val) 256#32) 128#32)
      = BitVec.ofInt 32 (2048 * c.val + 256 * k.val - 128) := by decide +kernel

theorem trips8 (k : Fin k0_t1_loop.trips) : k.val < 8 := Nat.lt_of_lt_of_le k.isLt k0_t1_abs.2.1

theorem key_int (c : Dev nD) (k : Fin k0_t1_loop.trips) (w : Fin 512) :
    (IntOp.addi (Scalar.addi (Scalar.muli (v2w c) 2048#32) (Scalar.subi (Scalar.muli (Scf.iv 0#32 1#32 k.val) 256#32) 128#32))
      (BitVec.ofNat 32 w.val)).toInt = 2048 * c.val + 256 * k.val - 128 + w.val := by
  have hk := trips8 k
  have hc := c.isLt
  have hw := w.isLt
  rw [base_word]
  show (BitVec.ofInt 32 _ + BitVec.ofNat 32 w.val).toInt = _
  rw [show BitVec.ofNat 32 w.val = BitVec.ofInt 32 (w.val : Int) from (BitVec.ofInt_natCast 32 w.val).symm, ← BitVec.ofInt_add, BitVec.toInt_ofInt]
  have : (c.val : Int) < 4 := by exact_mod_cast hc
  have : (k.val : Int) < 8 := by exact_mod_cast hk
  have : (w.val : Int) < 512 := by exact_mod_cast hw
  exact Int.bmod_eq_of_le (by norm_num; omega) (by norm_num; omega)

theorem bias_apply (c : Dev nD) (k : Fin k0_t1_loop.trips) (r : Fin 256) (w : Fin 512) :
    k0_pay1 (F := Ideal) (v2w c) 0#32 1#32 k (ix2 r w)
      = if (128 ≤ 2048 * c.val + 256 * k.val + w.val ∧ 2048 * c.val + 256 * k.val + w.val < 8320)
          ∧ ((r.val ≤ w.val ∧ w.val ≤ r.val + 256) ∨ 2048 * c.val + 256 * k.val + w.val < 160) then 0 else ⊥ := by
  pointwise [k0_pay1]
  have hr : (BitVec.ofNat 32 r.val).toInt = r.val := toInt_ofNat_of_lt (by omega)
  have hw : (BitVec.ofNat 32 w.val).toInt = w.val := toInt_ofNat_of_lt (by omega)
  have hr' : (IntOp.addi (BitVec.ofNat 32 r.val) 256#32).toInt = r.val + 256 := by
    rw [show IntOp.addi (BitVec.ofNat 32 r.val) 256#32 = BitVec.ofNat 32 (r.val + 256) from (BitVec.ofNat_add _ _).symm,
      toInt_ofNat_of_lt (by omega)]
    push_cast
    rfl
  simp only [cmpi_slt_eq, cmpi_sle_eq, cmpi_sge_eq, key_int, hr, hw, hr', andi_ofBool, ori_ofBool, select_ofBool, Bool.and_eq_true,
    Bool.or_eq_true, decide_eq_true_eq]
  refine if_congr ?_ rfl rfl
  rw [show (0#32 : BitVec 32).toInt = 0 from rfl, show (8192#32 : BitVec 32).toInt = 8192 from rfl, show (32#32 : BitVec 32).toInt = 32 from rfl]
  constructor <;> intro h <;> omega

theorem biasg_word : ∀ (c : Dev nD) (k : Fin k0_t1_loop.trips),
    Scalar.ori (Scalar.cmpi .sgt (v2w c) 0#32) (Scalar.cmpi .sgt (Scalar.muli (Scf.iv 0#32 1#32 k.val) 256#32) 0#32)
      = if 0 < c.val ∨ 0 < k.val then 1#1 else 0#1 := by decide +kernel

theorem biasg_apply (c : Dev nD) (k : Fin k0_t1_loop.trips) :
    k0_pay2 (F := Ideal) (v2w c) 0#32 1#32 k = if 0 < c.val ∨ 0 < k.val then 0 else ⊥ := by
  show Scalar.select (Scalar.ori (Scalar.cmpi .sgt (v2w c) 0#32) (Scalar.cmpi .sgt (Scalar.muli (Scf.iv 0#32 1#32 k.val) 256#32) 0#32))
    (Ideal.ofBits .f32 0#32) (Named.named (F := Ideal) (φ := .f32) κ "mask" 0xCE6E6B28#32) = _
  rw [biasg_word]
  split
  · pointwise []
  · rw [select_zero]
    exact (IdealRules.named_const.statement Cert.KernelIdeal.κ "mask" .f32 0xCE6E6B28#32 ⊥ rfl).2.2

end Cert.KernelIdeal.Mesh
-- ==== Proof.LoopVal.lean ====
/-
The rows that the kernel's loop writes, read at one element.
-/
module

public import proofs.«01_k».proof.Proof.Bias

@[expose] public section

set_option maxRecDepth 16384

noncomputable section

namespace Cert.KernelIdeal.Mesh

open Cert.KernelIdeal Cert.KernelIdeal.Gen
open Idealize.ShloMosaic Idealize.ShloMosaic.TcCoe

/-- The projected queries, as the scratch holds them. -/
abbrev B8 : Type := (cc0_scratch2 : Ref sig .tc).ty.Contents (Elt Ideal)

section
variable (c : Dev nD) (v2 : BitVec 32) (v298 v305 : FVec Ideal S32x1 .f32) (f6 : B6 Ideal) (f7 : B7 Ideal) (f8 : B8) (k : Fin k0_t1_loop.trips)

/-- One head's store in one trip: where it goes, and what it holds. -/
def tp (o : Fin 3 → ℕ) (o1 : Fin 2 → ℕ) (o2 o3 : Fin 3 → ℕ) (i : ∀ a, o a + S1x256x128.size a ≤ S1x2048x1024.size a) (i1 : ∀ a, o1 a + S256x128.size a ≤ S2048x1024.size a)
    (i2 : ∀ a, o2 a + S512x1x128.size a ≤ S2336x8x128.size a) (i3 : ∀ a, o3 a + S32x1x128.size a ≤ S2336x8x128.size a) : View.Piece (Elt Ideal) S1x2048x1024 .f32 :=
  ⟨Rect.unit (s := S1x2048x1024) o S1x256x128.size i,
    k0_pay10 (k0_pay1 v2 0#32 1#32 k) (k0_pay2 v2 0#32 1#32 k)
      (View.readAt (Elt Ideal) (Memref.whole cc0_scratch2).view (Rect.unit (s := S2048x1024) o1 S256x128.size i1).toLoadRect f8)
      (View.readAt (Elt Ideal) (Memref.whole cc0_scratch0).view (Rect.unit (s := S2336x8x128) o2 S512x1x128.size i2).toLoadRect f6)
      (View.readAt (Elt Ideal) (Memref.whole cc0_scratch0).view (Rect.unit (s := S2336x8x128) o3 S32x1x128.size i3).toLoadRect f6)
      (View.readAt (Elt Ideal) (Memref.whole cc0_scratch1).view (Rect.unit (s := S2336x8x128) o2 S512x1x128.size i2).toLoadRect f7)
      (View.readAt (Elt Ideal) (Memref.whole cc0_scratch1).view (Rect.unit (s := S2336x8x128) o3 S32x1x128.size i3).toLoadRect f7)⟩

theorem off3 : ∀ k, k0_off3 k = ![0, 256 * k.val, 128 * 0] := by decide +kernel
theorem off1 : ∀ k, k0_off1 k = ![256 * k.val, 128 * 0] := by decide +kernel
theorem off2 : ∀ k, k0_off2 k = ![32 + 256 * k.val, 0, 0] := by decide +kernel
theorem off6 : ∀ k, k0_off6 k = ![0, 256 * k.val, 128 * 1] := by decide +kernel
theorem off4 : ∀ k, k0_off4 k = ![256 * k.val, 128 * 1] := by decide +kernel
theorem off5 : ∀ k, k0_off5 k = ![32 + 256 * k.val, 1, 0] := by decide +kernel
theorem off9 : ∀ k, k0_off9 k = ![0, 256 * k.val, 128 * 2] := by decide +kernel
theorem off7 : ∀ k, k0_off7 k = ![256 * k.val, 128 * 2] := by decide +kernel
theorem off8 : ∀ k, k0_off8 k = ![32 + 256 * k.val, 2, 0] := by decide +kernel
theorem off12 : ∀ k, k0_off12 k = ![0, 256 * k.val, 128 * 3] := by decide +kernel
theorem off10 : ∀ k, k0_off10 k = ![256 * k.val, 128 * 3] := by decide +kernel
theorem off11 : ∀ k, k0_off11 k = ![32 + 256 * k.val, 3, 0] := by decide +kernel
theorem off15 : ∀ k, k0_off15 k = ![0, 256 * k.val, 128 * 4] := by decide +kernel
theorem off13 : ∀ k, k0_off13 k = ![256 * k.val, 128 * 4] := by decide +kernel
theorem off14 : ∀ k, k0_off14 k = ![32 + 256 * k.val, 4, 0] := by decide +kernel
theorem off18 : ∀ k, k0_off18 k = ![0, 256 * k.val, 128 * 5] := by decide +kernel
theorem off16 : ∀ k, k0_off16 k = ![256 * k.val, 128 * 5] := by decide +kernel
theorem off17 : ∀ k, k0_off17 k = ![32 + 256 * k.val, 5, 0] := by decide +kernel
theorem off21 : ∀ k, k0_off21 k = ![0, 256 * k.val, 128 * 6] := by decide +kernel
theorem off19 : ∀ k, k0_off19 k = ![256 * k.val, 128 * 6] := by decide +kernel
theorem off20 : ∀ k, k0_off20 k = ![32 + 256 * k.val, 6, 0] := by decide +kernel
theorem off24 : ∀ k, k0_off24 k = ![0, 256 * k.val, 128 * 7] := by decide +kernel
theorem off22 : ∀ k, k0_off22 k = ![256 * k.val, 128 * 7] := by decide +kernel
theorem off23 : ∀ k, k0_off23 k = ![32 + 256 * k.val, 7, 0] := by decide +kernel

theorem trip_pieces : (tripRun c v2 v298 v305 f6 f7 f8 k).1 =
    [tp v2 f6 f7 f8 k (k0_off24 k) (k0_off22 k) (k0_off23 k) ![0, 7, 0] (k0_off24_inb k) (k0_off22_inb k) (k0_off23_inb k) (by decide),
      tp v2 f6 f7 f8 k (k0_off21 k) (k0_off19 k) (k0_off20 k) ![0, 6, 0] (k0_off21_inb k) (k0_off19_inb k) (k0_off20_inb k) (by decide),
      tp v2 f6 f7 f8 k (k0_off18 k) (k0_off16 k) (k0_off17 k) ![0, 5, 0] (k0_off18_inb k) (k0_off16_inb k) (k0_off17_inb k) (by decide),
      tp v2 f6 f7 f8 k (k0_off15 k) (k0_off13 k) (k0_off14 k) ![0, 4, 0] (k0_off15_inb k) (k0_off13_inb k) (k0_off14_inb k) (by decide),
      tp v2 f6 f7 f8 k (k0_off12 k) (k0_off10 k) (k0_off11 k) ![0, 3, 0] (k0_off12_inb k) (k0_off10_inb k) (k0_off11_inb k) (by decide),
      tp v2 f6 f7 f8 k (k0_off9 k) (k0_off7 k) (k0_off8 k) ![0, 2, 0] (k0_off9_inb k) (k0_off7_inb k) (k0_off8_inb k) (by decide),
      tp v2 f6 f7 f8 k (k0_off6 k) (k0_off4 k) (k0_off5 k) ![0, 1, 0] (k0_off6_inb k) (k0_off4_inb k) (k0_off5_inb k) (by decide),
      tp v2 f6 f7 f8 k (k0_off3 k) (k0_off1 k) (k0_off2 k) ![0, 0, 0] (k0_off3_inb k) (k0_off1_inb k) (k0_off2_inb k) (by decide)] := by
  unfold tripRun
  rfl

/-- What a trip writes in row `r` of its block, head `h`, component `d`. -/
def tripT (r : Fin 256) (h : Fin 8) (d : Fin 128) : EReal :=
  have hk := trips8 k
  Ideal.div ((∑ w : Fin 512, Ideal.exp (dot128 (fun e => f8 (ix2 ⟨256 * k.val + r.val, by omega⟩ ⟨128 * h.val + e.val, by omega⟩)) (fun e => f6 (ix3 ⟨32 + 256 * k.val + w.val, by omega⟩ h e))
      + k0_pay1 (F := Ideal) v2 0#32 1#32 k (ix2 r w)) * f7 (ix3 ⟨32 + 256 * k.val + w.val, by omega⟩ h d))
    + ∑ g : Fin 32, Ideal.exp (dot128 (fun e => f8 (ix2 ⟨256 * k.val + r.val, by omega⟩ ⟨128 * h.val + e.val, by omega⟩)) (fun e => f6 (ix3 ⟨g.val, by omega⟩ h e))
      + k0_pay2 (F := Ideal) v2 0#32 1#32 k) * f7 (ix3 ⟨g.val, by omega⟩ h d))
    ((∑ w : Fin 512, Ideal.exp (dot128 (fun e => f8 (ix2 ⟨256 * k.val + r.val, by omega⟩ ⟨128 * h.val + e.val, by omega⟩)) (fun e => f6 (ix3 ⟨32 + 256 * k.val + w.val, by omega⟩ h e))
      + k0_pay1 (F := Ideal) v2 0#32 1#32 k (ix2 r w)))
    + ∑ g : Fin 32, Ideal.exp (dot128 (fun e => f8 (ix2 ⟨256 * k.val + r.val, by omega⟩ ⟨128 * h.val + e.val, by omega⟩)) (fun e => f6 (ix3 ⟨g.val, by omega⟩ h e))
      + k0_pay2 (F := Ideal) v2 0#32 1#32 k))

/-- The block of rows that a trip's row belongs to. -/
def tripOf (i : Fin 2048) : Fin k0_t1_loop.trips := ⟨i.val / 256, Nat.lt_of_lt_of_eq (show i.val / 256 < 8 by omega) (show 8 = k0_t1_loop.trips by decide)⟩

/-- What the loop leaves at an index of the output's rows. -/
def loopT (y : S1x2048x1024.Idx) : EReal :=
  tripT v2 f6 f7 f8 (tripOf (y 1)) ⟨(y 1).val % 256, by omega⟩ ⟨(y 2).val / 128, by have : (y 2).val < 1024 := (y 2).isLt; omega⟩ ⟨(y 2).val % 128, by omega⟩

theorem read8 (o : Fin 2 → ℕ) (i) (a : Fin 256) (b : Fin 128) (p : Fin 2048) (q : Fin 1024) (hp : p.val = o 0 + a.val) (hq : q.val = o 1 + b.val) :
    View.readAt (Elt Ideal) (Memref.whole cc0_scratch2).view (Rect.unit (s := S2048x1024) o S256x128.size i).toLoadRect f8 (ix2 a b) = f8 (ix2 p q) := by
  show f8 _ = f8 _
  refine congrArg f8 (funext fun x => Fin.ext ?_)
  fin_cases x
  · show o 0 + 1 * a.val = p.val
    omega
  · show o 1 + 1 * b.val = q.val
    omega

/-- A stretch of `n` rows of one head, read out of a key or value buffer. -/
theorem read67 {n : ℕ} (b : B6 Ideal) (o : Fin 3 → ℕ) (i : ∀ a, o a + (⟨3, ![n, 1, 128]⟩ : Shape).size a ≤ S2336x8x128.size a) (a : Fin n) (d : Fin 128) (p : Fin 2336) (h : Fin 8)
    (hp : p.val = o 0 + a.val) (hh : h.val = o 1) (h2 : o 2 = 0) :
    View.readAt (Elt Ideal) (Memref.whole cc0_scratch0).view (Rect.unit (s := S2336x8x128) o (⟨3, ![n, 1, 128]⟩ : Shape).size i).toLoadRect b (ix3 a 0 d) = b (ix3 p h d) := by
  show b _ = b _
  refine congrArg b (funext fun x => Fin.ext ?_)
  fin_cases x
  · show o 0 + 1 * a.val = p.val
    omega
  · show o 1 + 1 * 0 = h.val
    omega
  · show o 2 + 1 * d.val = d.val
    omega

theorem tp_agree (h : Fin 8) (o : Fin 3 → ℕ) (o1 : Fin 2 → ℕ) (o2 o3 : Fin 3 → ℕ) (ho : o = ![0, 256 * k.val, 128 * h.val]) (ho1 : o1 = ![256 * k.val, 128 * h.val])
    (ho2 : o2 = ![32 + 256 * k.val, h.val, 0]) (ho3 : o3 = ![0, h.val, 0]) (i i1 i2 i3) :
    ∀ x, (tp v2 f6 f7 f8 k o o1 o2 o3 i i1 i2 i3).2 x = loopT v2 f6 f7 f8 ((tp v2 f6 f7 f8 k o o1 o2 o3 i i1 i2 i3).1.emb x) := by
  have hk := trips8 k
  subst ho ho1 ho2 ho3
  intro x
  obtain ⟨z, r, d, rfl⟩ : ∃ (z : Fin 1) (r : Fin 256) (d : Fin 128), x = ix3 z r d := ⟨x 0, x 1, x 2, eq_ix3 x⟩
  have hz : z = 0 := Subsingleton.elim _ _
  subst hz
  have e1 : (((tp v2 f6 f7 f8 k _ _ _ _ i i1 i2 i3).1.emb (ix3 0 r d)) 1).val = 256 * k.val + r.val := by
    show 256 * k.val + 1 * r.val = _
    omega
  have e2 : (((tp v2 f6 f7 f8 k _ _ _ _ i i1 i2 i3).1.emb (ix3 0 r d)) 2).val = 128 * h.val + d.val := by
    show 128 * h.val + 1 * d.val = _
    omega
  have t1 : tripOf (((tp v2 f6 f7 f8 k _ _ _ _ i i1 i2 i3).1.emb (ix3 0 r d)) 1) = k := Fin.ext (by show _ / 256 = _; rw [e1]; omega)
  have t2 : (⟨(((tp v2 f6 f7 f8 k _ _ _ _ i i1 i2 i3).1.emb (ix3 0 r d)) 1).val % 256, by omega⟩ : Fin 256) = r := Fin.ext (by show _ % 256 = _; rw [e1]; omega)
  have t3 : ∀ hh, (⟨(((tp v2 f6 f7 f8 k _ _ _ _ i i1 i2 i3).1.emb (ix3 0 r d)) 2).val / 128, hh⟩ : Fin 8) = h := fun _ => Fin.ext (by show _ / 128 = _; rw [e2]; omega)
  have t4 : (⟨(((tp v2 f6 f7 f8 k _ _ _ _ i i1 i2 i3).1.emb (ix3 0 r d)) 2).val % 128, by omega⟩ : Fin 128) = d := Fin.ext (by show _ % 128 = _; rw [e2]; omega)
  unfold loopT
  rw [t1, t2, t3, t4]
  refine (trip_apply _ _ _ _ _ _ _ r d).trans ?_
  unfold tripT
  have q8 : (fun e => View.readAt (Elt Ideal) (Memref.whole cc0_scratch2).view (Rect.unit (s := S2048x1024) _ S256x128.size i1).toLoadRect f8 (ix2 r e))
      = fun e : Fin 128 => f8 (ix2 ⟨256 * k.val + r.val, by omega⟩ ⟨128 * h.val + e.val, by omega⟩) := funext fun e => read8 f8 _ _ _ _ _ _ rfl rfl
  have q6 : ∀ (w : Fin 512) (e : Fin 128), View.readAt (Elt Ideal) (Memref.whole cc0_scratch0).view (Rect.unit (s := S2336x8x128) _ S512x1x128.size i2).toLoadRect f6 (ix3 w 0 e)
      = f6 (ix3 ⟨32 + 256 * k.val + w.val, by omega⟩ h e) := fun w e => read67 f6 _ _ _ _ _ _ rfl rfl rfl
  have q7 : ∀ (w : Fin 512) (e : Fin 128), View.readAt (Elt Ideal) (Memref.whole cc0_scratch1).view (Rect.unit (s := S2336x8x128) _ S512x1x128.size i2).toLoadRect f7 (ix3 w 0 e)
      = f7 (ix3 ⟨32 + 256 * k.val + w.val, by omega⟩ h e) := fun w e => read67 f7 _ _ _ _ _ _ rfl rfl rfl
  have g6 : ∀ (w : Fin 32) (e : Fin 128), View.readAt (Elt Ideal) (Memref.whole cc0_scratch0).view (Rect.unit (s := S2336x8x128) _ S32x1x128.size i3).toLoadRect f6 (ix3 w 0 e)
      = f6 (ix3 ⟨w.val, by omega⟩ h e) := fun w e => read67 f6 _ _ _ _ _ _ (Nat.zero_add _).symm rfl rfl
  have g7 : ∀ (w : Fin 32) (e : Fin 128), View.readAt (Elt Ideal) (Memref.whole cc0_scratch1).view (Rect.unit (s := S2336x8x128) _ S32x1x128.size i3).toLoadRect f7 (ix3 w 0 e)
      = f7 (ix3 ⟨w.val, by omega⟩ h e) := fun w e => read67 f7 _ _ _ _ _ _ (Nat.zero_add _).symm rfl rfl
  simp only [q8, q6, q7, g6, g7]

theorem tp_mem (h : Fin 8) (o : Fin 3 → ℕ) (o1 : Fin 2 → ℕ) (o2 o3 : Fin 3 → ℕ) (ho : o = ![0, 256 * k.val, 128 * h.val]) (i i1 i2 i3) (y : S1x2048x1024.Idx)
    (hk : (y 1).val / 256 = k.val) (hh : (y 2).val / 128 = h.val) : y ∈ (tp v2 f6 f7 f8 k o o1 o2 o3 i i1 i2 i3).1.set := by
  subst ho
  refine (Rect.mem_set_unit (inb := i)).2 fun a => ?_
  fin_cases a
  · have : (y 0).val < 1 := (y 0).isLt
    exact ⟨Nat.zero_le _, this⟩
  · show 256 * k.val ≤ (y 1).val ∧ (y 1).val < 256 * k.val + 256
    omega
  · show 128 * h.val ≤ (y 2).val ∧ (y 2).val < 128 * h.val + 128
    omega

theorem trip_agree : ∀ p ∈ (tripRun c v2 v298 v305 f6 f7 f8 k).1, ∀ x, p.2 x = loopT v2 f6 f7 f8 (p.1.emb x) := by
  rw [trip_pieces]
  simp only [List.forall_mem_cons]
  refine ⟨?_, ?_, ?_, ?_, ?_, ?_, ?_, ?_, fun p hp => absurd hp List.not_mem_nil⟩
  · exact tp_agree v2 f6 f7 f8 k 7 _ _ _ _ (off24 k) (off22 k) (off23 k) rfl _ _ _ _
  · exact tp_agree v2 f6 f7 f8 k 6 _ _ _ _ (off21 k) (off19 k) (off20 k) rfl _ _ _ _
  · exact tp_agree v2 f6 f7 f8 k 5 _ _ _ _ (off18 k) (off16 k) (off17 k) rfl _ _ _ _
  · exact tp_agree v2 f6 f7 f8 k 4 _ _ _ _ (off15 k) (off13 k) (off14 k) rfl _ _ _ _
  · exact tp_agree v2 f6 f7 f8 k 3 _ _ _ _ (off12 k) (off10 k) (off11 k) rfl _ _ _ _
  · exact tp_agree v2 f6 f7 f8 k 2 _ _ _ _ (off9 k) (off7 k) (off8 k) rfl _ _ _ _
  · exact tp_agree v2 f6 f7 f8 k 1 _ _ _ _ (off6 k) (off4 k) (off5 k) rfl _ _ _ _
  · exact tp_agree v2 f6 f7 f8 k 0 _ _ _ _ (off3 k) (off1 k) (off2 k) rfl _ _ _ _

theorem trip_mem (y : S1x2048x1024.Idx) (hk : (y 1).val / 256 = k.val) : ∃ p ∈ (tripRun c v2 v298 v305 f6 f7 f8 k).1, y ∈ p.1.set := by
  rw [trip_pieces]
  have h2 : (y 2).val < 1024 := (y 2).isLt
  obtain h | h | h | h | h | h | h | h : (y 2).val / 128 = 0 ∨ (y 2).val / 128 = 1 ∨ (y 2).val / 128 = 2 ∨ (y 2).val / 128 = 3 ∨ (y 2).val / 128 = 4 ∨ (y 2).val / 128 = 5 ∨ (y 2).val / 128 = 6 ∨ (y 2).val / 128 = 7 := by omega
  · exact ⟨_, List.mem_of_getElem? (i := 7) rfl, tp_mem v2 f6 f7 f8 k 0 _ _ _ _ (off3 k) _ _ _ _ y hk (by omega)⟩
  · exact ⟨_, List.mem_of_getElem? (i := 6) rfl, tp_mem v2 f6 f7 f8 k 1 _ _ _ _ (off6 k) _ _ _ _ y hk (by omega)⟩
  · exact ⟨_, List.mem_of_getElem? (i := 5) rfl, tp_mem v2 f6 f7 f8 k 2 _ _ _ _ (off9 k) _ _ _ _ y hk (by omega)⟩
  · exact ⟨_, List.mem_of_getElem? (i := 4) rfl, tp_mem v2 f6 f7 f8 k 3 _ _ _ _ (off12 k) _ _ _ _ y hk (by omega)⟩
  · exact ⟨_, List.mem_of_getElem? (i := 3) rfl, tp_mem v2 f6 f7 f8 k 4 _ _ _ _ (off15 k) _ _ _ _ y hk (by omega)⟩
  · exact ⟨_, List.mem_of_getElem? (i := 2) rfl, tp_mem v2 f6 f7 f8 k 5 _ _ _ _ (off18 k) _ _ _ _ y hk (by omega)⟩
  · exact ⟨_, List.mem_of_getElem? (i := 1) rfl, tp_mem v2 f6 f7 f8 k 6 _ _ _ _ (off21 k) _ _ _ _ y hk (by omega)⟩
  · exact ⟨_, List.mem_cons_self, tp_mem v2 f6 f7 f8 k 7 _ _ _ _ (off24 k) _ _ _ _ y hk (by omega)⟩

theorem loop_agree (n : ℕ) : ∀ p ∈ loopPieces c v2 v298 v305 f6 f7 f8 n, ∀ x, p.2 x = loopT v2 f6 f7 f8 (p.1.emb x) := by
  induction n with
  | zero => exact fun p hp => absurd hp List.not_mem_nil
  | succ n ih =>
    intro p hp
    unfold loopPieces at hp
    rcases List.mem_append.1 hp with hp | hp
    · split at hp
      · exact trip_agree c v2 v298 v305 f6 f7 f8 _ p hp
      · exact absurd hp List.not_mem_nil
    · exact ih p hp

theorem loop_mem (n : ℕ) (k : Fin k0_t1_loop.trips) (hk : k.val < n) : ∀ p ∈ (tripRun c v2 v298 v305 f6 f7 f8 k).1, p ∈ loopPieces c v2 v298 v305 f6 f7 f8 n := by
  induction n with
  | zero => omega
  | succ n ih =>
    intro p hp
    unfold loopPieces
    rcases Nat.lt_or_ge k.val n with h | h
    · exact List.mem_append_right _ (ih h p hp)
    · have : k.val = n := by omega
      subst this
      rw [dif_pos k.isLt]
      exact List.mem_append_left _ hp

/-- What the loop leaves in the output's rows. -/
theorem loop_apply (f5 : (cc0_stg3_0 : Ref sig .tc).ty.Contents (Elt Ideal)) (y : S1x2048x1024.Idx) :
    (Memref.whole cc0_stg3_0).view.writes (Elt Ideal) f5 (loopPieces c v2 v298 v305 f6 f7 f8 k0_t1_loop.trips) y = loopT v2 f6 f7 f8 y := by
  obtain ⟨p, hp, hy⟩ := trip_mem c v2 v298 v305 f6 f7 f8 (tripOf (y 1)) y rfl
  exact View.read_writes_apply_of_pieces (v := (Memref.whole cc0_stg3_0).view) (f := f5) (loopT v2 f6 f7 f8) _
    (loop_agree c v2 v298 v305 f6 f7 f8 _) y ⟨p, loop_mem c v2 v298 v305 f6 f7 f8 _ _ (tripOf (y 1)).isLt p hp, hy⟩

end

end Cert.KernelIdeal.Mesh
-- ==== Proof.LoopRow.lean ====
/-
The queries and the loop's rows: each is the row of the whole sequence that both programs compute.
-/
module

public import proofs.«01_k».proof.Proof.Spec
public import proofs.«01_k».proof.Proof.Keys
public import proofs.«01_k».proof.Proof.LoopVal
public import proofs.«01_k».proof.Proof.Bias

@[expose] public section

set_option maxRecDepth 16384

noncomputable section

namespace Cert.KernelIdeal.Mesh

open Cert.KernelIdeal Cert.KernelIdeal.Gen
open Idealize.ShloMosaic Idealize.ShloMosaic.TcCoe

variable (m : (ℓ : Loc nD τ sig) → Buf (Elt Ideal) ℓ)

/-- The whole sequence's rows, from the devices' blocks. -/
def gx (i : Fin 8192) (k : Fin 1024) : EReal :=
  (m (((⟨i.val / 2048, by have := i.isLt; show _ < 4; omega⟩ : Dev nD) : Thread nD τ).loc main_arg0) : S1x2048x1024.Idx → EReal) (ix3 0 ⟨i.val % 2048, by omega⟩ k)
/-- The projections, as the first device holds them. -/
def gw (k e : Fin 1024) : EReal := (m (((0 : Dev nD) : Thread nD τ).loc main_arg1) : S1024x1024.Idx → EReal) (ix2 k e)
def go (k e : Fin 1024) : EReal := (m (((0 : Dev nD) : Thread nD τ).loc main_arg4) : S1024x1024.Idx → EReal) (ix2 k e)

theorem gx_of (c : Dev nD) (r : Fin 2048) (k : Fin 1024) (i : Fin 8192) (hi : i.val = 2048 * c.val + r.val) :
    gx m i k = (m ((c : Thread nD τ).loc main_arg0) : S1x2048x1024.Idx → EReal) (ix3 0 r k) := by
  unfold gx
  have e1 : (⟨i.val / 2048, by have := i.isLt; show _ < 4; omega⟩ : Dev nD) = c := Fin.ext (by show i.val / 2048 = c.val; omega)
  have e2 : (⟨i.val % 2048, by omega⟩ : Fin 2048) = r := Fin.ext (by show i.val % 2048 = r.val; omega)
  rw [e1, e2]

theorem xs_eq (c : Dev nD) (x : S1x2048x1024.Idx) : (xs m c x : EReal) = (m ((c : Thread nD τ).loc main_arg0) : S1x2048x1024.Idx → EReal) x := by
  show (m ((c : Thread nD τ).loc main_arg0) : S1x2048x1024.Idx → EReal) _ = _
  refine congrArg (m ((c : Thread nD τ).loc main_arg0) : S1x2048x1024.Idx → EReal) (funext fun a => Fin.ext ?_)
  fin_cases a
  · show 0 + 1 * (x 0).val = (x 0).val; omega
  · show 0 + 1 * (x 1).val = (x 1).val; omega
  · show 0 + 1 * (x 2).val = (x 2).val; omega
theorem wq_eq (c : Dev nD) (x : S1024x1024.Idx) : (wq m c x : EReal) = (m ((c : Thread nD τ).loc main_arg1) : S1024x1024.Idx → EReal) x := by
  show (m ((c : Thread nD τ).loc main_arg1) : S1024x1024.Idx → EReal) _ = _
  refine congrArg (m ((c : Thread nD τ).loc main_arg1) : S1024x1024.Idx → EReal) (funext fun a => Fin.ext ?_)
  fin_cases a
  · show 0 + 1 * (x 0).val = (x 0).val; omega
  · show 0 + 1 * (x 1).val = (x 1).val; omega
theorem wo_eq (c : Dev nD) (x : S1024x1024.Idx) : (wo m c x : EReal) = (m ((c : Thread nD τ).loc main_arg4) : S1024x1024.Idx → EReal) x := by
  show (m ((c : Thread nD τ).loc main_arg4) : S1024x1024.Idx → EReal) _ = _
  refine congrArg (m ((c : Thread nD τ).loc main_arg4) : S1024x1024.Idx → EReal) (funext fun a => Fin.ext ?_)
  fin_cases a
  · show 0 + 1 * (x 0).val = (x 0).val; omega
  · show 0 + 1 * (x 1).val = (x 1).val; omega

/-- Every device holds the same query projection. -/
def SameW : Prop := ∀ (c : Dev nD) (x : S1024x1024.Idx), (m ((c : Thread nD τ).loc main_arg1) : S1024x1024.Idx → EReal) x = (m (((0 : Dev nD) : Thread nD τ).loc main_arg1) : S1024x1024.Idx → EReal) x
/-- Every device holds the same output projection. -/
def SameO : Prop := ∀ (c : Dev nD) (x : S1024x1024.Idx), (m ((c : Thread nD τ).loc main_arg4) : S1024x1024.Idx → EReal) x = (m (((0 : Dev nD) : Thread nD τ).loc main_arg4) : S1024x1024.Idx → EReal) x

variable (hW : SameW m)
include hW

theorem query_eq (c : Dev nD) (r : Fin 2048) (e : Fin 1024) (i : Fin 8192) (hi : i.val = 2048 * c.val + r.val) :
    (qsc m c (ix2 r e) : EReal) = Cert.Rows.query (gx m) (gw m) i e := by
  refine (proj_apply (xs m c) (wq m c) r e).trans ?_
  unfold Cert.Rows.query
  refine Finset.sum_congr (M := EReal) rfl fun k _ => ?_
  refine congrArg₂ (α := EReal) (β := EReal) (· * ·) ?_ ?_
  · exact (xs_eq m c _).trans (gx_of m c r k i hi).symm
  · exact (wq_eq m c _).trans (hW c _)

theorem score_eq (c : Dev nD) (r : Fin 2048) (h : Fin 8) (j : Fin 8192) (i : Fin 8192) (hi : i.val = 2048 * c.val + r.val) (k : Fin 128 → EReal) (hk : ∀ e, k e = gk m j h e) :
    dot128 (fun e => qsc m c (ix2 r ⟨128 * h.val + e.val, by omega⟩)) k = Cert.Rows.score (gx m) (gw m) (gk m) i h j := by
  unfold dot128 Cert.Rows.score κs
  refine congrArg (· * _) (Finset.sum_congr (M := EReal) rfl fun e _ => ?_)
  exact congrArg₂ (α := EReal) (β := EReal) (· * ·) (query_eq m hW c r _ i hi) (hk e)

/-- A row of the loop, past the first device's first 32. -/
theorem trip_row (c : Dev nD) (f6 : B6 Ideal) (f7 : B7 Ideal) (h6 : KC m c f6) (h7 : VC m c f7) (k : Fin k0_t1_loop.trips) (r : Fin 256) (h : Fin 8) (d : Fin 128)
    (i : Fin 8192) (hi : i.val = 2048 * c.val + 256 * k.val + r.val) (hg : 32 ≤ i.val) :
    tripT (v2w c) f6 f7 (qsc m c) k r h d = Cert.Rows.row (gx m) (gw m) (gk m) (gv m) i h d := by
  have hk := trips8 k
  have hc : c.val < 4 := c.isLt
  have hr := r.isLt
  have hil := i.isLt
  unfold tripT Cert.Rows.row
  refine Cert.Rows.ctx_window
    (fun w : Fin 512 => (128 ≤ 2048 * c.val + 256 * k.val + w.val ∧ 2048 * c.val + 256 * k.val + w.val < 8320)
          ∧ ((r.val ≤ w.val ∧ w.val ≤ r.val + 256) ∨ 2048 * c.val + 256 * k.val + w.val < 160))
    (fun _ : Fin 32 => 0 < c.val ∨ 0 < k.val) (Cert.Rows.allowed i)
    (fun w : Fin 512 => ⟨(2048 * c.val + 256 * k.val + w.val - 128) % 8192, Nat.mod_lt _ (by norm_num)⟩) (fun g : Fin 32 => ⟨g.val, by omega⟩)
    ?_ ?_ ?_ ?_ _ _ _ _ _ _ _ _ (fun w => bias_apply c k r w) (fun g => biasg_apply c k) ?_ ?_ ?_ ?_
  · intro x y hx hy hxy
    have := congrArg Fin.val hxy
    have this : (2048 * c.val + 256 * k.val + x.val - 128) % 8192 = (2048 * c.val + 256 * k.val + y.val - 128) % 8192 := this
    exact Fin.ext (by omega)
  · intro x y _ _ hxy
    have this : x.val = y.val := congrArg (fun z : Fin 8192 => z.val) hxy
    exact Fin.ext this
  · intro x y hx hy hxy
    have this : (2048 * c.val + 256 * k.val + x.val - 128) % 8192 = y.val := congrArg Fin.val hxy
    have hy32 := y.isLt
    omega
  · intro j
    have hj := j.isLt
    constructor
    · intro ha
      unfold Cert.Rows.allowed at ha
      by_cases h1 : i.val ≤ j.val + 128 ∧ j.val ≤ i.val + 128
      · exact Or.inl ⟨⟨j.val + 128 - (2048 * c.val + 256 * k.val), by omega⟩, by
          show (128 ≤ 2048 * c.val + 256 * k.val + (j.val + 128 - (2048 * c.val + 256 * k.val)) ∧ 2048 * c.val + 256 * k.val + (j.val + 128 - (2048 * c.val + 256 * k.val)) < 8320)
            ∧ ((r.val ≤ j.val + 128 - (2048 * c.val + 256 * k.val) ∧ j.val + 128 - (2048 * c.val + 256 * k.val) ≤ r.val + 256) ∨ 2048 * c.val + 256 * k.val + (j.val + 128 - (2048 * c.val + 256 * k.val)) < 160)
          omega, Fin.ext (by show (2048 * c.val + 256 * k.val + (j.val + 128 - (2048 * c.val + 256 * k.val)) - 128) % 8192 = j.val; omega)⟩
      · have hj32 : j.val < 32 := by omega
        by_cases hC : 0 < c.val ∨ 0 < k.val
        · exact Or.inr ⟨⟨j.val, hj32⟩, hC, rfl⟩
        · exact Or.inl ⟨⟨j.val + 128, by omega⟩, by
            show (128 ≤ 2048 * c.val + 256 * k.val + (j.val + 128) ∧ 2048 * c.val + 256 * k.val + (j.val + 128) < 8320)
              ∧ ((r.val ≤ j.val + 128 ∧ j.val + 128 ≤ r.val + 256) ∨ 2048 * c.val + 256 * k.val + (j.val + 128) < 160)
            omega, Fin.ext (by show (2048 * c.val + 256 * k.val + (j.val + 128) - 128) % 8192 = j.val; omega)⟩
    · rintro (⟨w, hw, rfl⟩ | ⟨g, _, rfl⟩)
      · show (i.val ≤ (2048 * c.val + 256 * k.val + w.val - 128) % 8192 + 128 ∧ (2048 * c.val + 256 * k.val + w.val - 128) % 8192 ≤ i.val + 128) ∨ (2048 * c.val + 256 * k.val + w.val - 128) % 8192 < 32 ∨ i.val < 32
        omega
      · exact Or.inr (Or.inl g.isLt)
  · intro w hw
    exact score_eq m hW c ⟨256 * k.val + r.val, by omega⟩ h _ i (by show i.val = 2048 * c.val + (256 * k.val + r.val); omega) _ fun e =>
      key_rest m h6 h e _ (by show 32 ≤ 32 + 256 * k.val + w.val; omega) _ (by show (2048 * c.val + 256 * k.val + w.val - 128) % 8192 + 160 = 2048 * c.val + (32 + 256 * k.val + w.val); omega)
  · intro w hw
    exact val_rest m h7 h d _ (by show 32 ≤ 32 + 256 * k.val + w.val; omega) _ (by show (2048 * c.val + 256 * k.val + w.val - 128) % 8192 + 160 = 2048 * c.val + (32 + 256 * k.val + w.val); omega)
  · intro g _
    exact score_eq m hW c ⟨256 * k.val + r.val, by omega⟩ h _ i (by show i.val = 2048 * c.val + (256 * k.val + r.val); omega) _ fun e => key_first m h6 g h e _ rfl _ rfl
  · intro g _
    exact val_first m h7 g h d _ rfl _ rfl

theorem loop_row (c : Dev nD) (f6 : B6 Ideal) (f7 : B7 Ideal) (h6 : KC m c f6) (h7 : VC m c f7) (r : Fin 2048) (e : Fin 1024) (i : Fin 8192) (hi : i.val = 2048 * c.val + r.val) (hg : 32 ≤ i.val) :
    loopT (v2w c) f6 f7 (qsc m c) (ix3 0 r e) = Cert.Rows.row (gx m) (gw m) (gk m) (gv m) i ⟨e.val / 128, by omega⟩ ⟨e.val % 128, by omega⟩ :=
  trip_row m hW c f6 f7 h6 h7 (tripOf r) ⟨r.val % 256, by omega⟩ ⟨e.val / 128, by omega⟩ ⟨e.val % 128, by omega⟩ i
    (by show i.val = 2048 * c.val + 256 * (r.val / 256) + r.val % 256; omega) hg

end Cert.KernelIdeal.Mesh
-- ==== Proof.PartVal.lean ====
/-
The partial sums that a device computes for the rows that attend to every key, and their combination, read at one element.
-/
module

public import proofs.«01_k».proof.Proof.LoopVal

@[expose] public section

set_option maxRecDepth 16384

noncomputable section

namespace Cert.KernelIdeal.Mesh

open Cert.KernelIdeal Cert.KernelIdeal.Gen
open Idealize.ShloMosaic Idealize.ShloMosaic.TcCoe

abbrev B9 : Type := (cc0_scratch3 : Ref sig .tc).ty.Contents (Elt Ideal)
abbrev B10 : Type := (cc0_scratch4 : Ref sig .tc).ty.Contents (Elt Ideal)

section
variable (c : Dev nD) (v2 : BitVec 32) (f6 : B6 Ideal) (f7 : B7 Ideal) (f8 : B8) (f9 : B9)

/-- The reads of one head: its queries, the first device's and the received ones; its keys; its values. -/
def rq (o : Fin 2 → ℕ) (i : ∀ a, o a + S32x128.size a ≤ S2048x1024.size a) : Vec Ideal S32x128 .f32 :=
  View.readAt (Elt Ideal) (Memref.whole cc0_scratch2).view (Rect.unit (s := S2048x1024) o S32x128.size i).toLoadRect f8
def rq' (o : Fin 2 → ℕ) (i : ∀ a, o a + S32x128.size a ≤ S32x1024.size a) : Vec Ideal S32x128 .f32 :=
  View.readAt (Elt Ideal) (Memref.whole cc0_scratch3).view (Rect.unit (s := S32x1024) o S32x128.size i).toLoadRect f9
def rk (o : Fin 3 → ℕ) (i : ∀ a, o a + S2048x1x128.size a ≤ S2336x8x128.size a) : Vec Ideal S2048x1x128 .f32 :=
  View.readAt (Elt Ideal) (Memref.whole cc0_scratch0).view (Rect.unit (s := S2336x8x128) o S2048x1x128.size i).toLoadRect f6
def rv (o : Fin 3 → ℕ) (i : ∀ a, o a + S2048x1x128.size a ≤ S2336x8x128.size a) : Vec Ideal S2048x1x128 .f32 :=
  View.readAt (Elt Ideal) (Memref.whole cc0_scratch1).view (Rect.unit (s := S2336x8x128) o S2048x1x128.size i).toLoadRect f7

/-- One head's three stores: the weighted sum, the maximum, the sum. -/
def po (o q : Fin 2 → ℕ) (k : Fin 3 → ℕ) (i : ∀ a, o a + S32x128.size a ≤ S32x1040.size a) (iq : ∀ a, q a + S32x128.size a ≤ S2048x1024.size a)
    (iq' : ∀ a, q a + S32x128.size a ≤ S32x1024.size a) (ik : ∀ a, k a + S2048x1x128.size a ≤ S2336x8x128.size a) : View.Piece (Elt Ideal) S32x1040 .f32 :=
  ⟨Rect.unit (s := S32x1040) o S32x128.size i, k0_pay158 (k0_pay157 (Scalar.cmpi .eq v2 0#32) (rq f8 q iq) (rq' f9 q iq') (rk f6 k ik) (rv f7 k ik))⟩
def pm (o q : Fin 2 → ℕ) (k : Fin 3 → ℕ) (i : ∀ a, o a + S32x1.size a ≤ S32x1040.size a) (iq : ∀ a, q a + S32x128.size a ≤ S2048x1024.size a)
    (iq' : ∀ a, q a + S32x128.size a ≤ S32x1024.size a) (ik : ∀ a, k a + S2048x1x128.size a ≤ S2336x8x128.size a) : View.Piece (Elt Ideal) S32x1040 .f32 :=
  ⟨Rect.unit (s := S32x1040) o S32x1.size i, k0_pay115 (k0_pay154 (Scalar.cmpi .eq v2 0#32) (rq f8 q iq) (rq' f9 q iq') (rk f6 k ik))⟩
def pl (o q : Fin 2 → ℕ) (k : Fin 3 → ℕ) (i : ∀ a, o a + S32x1.size a ≤ S32x1040.size a) (iq : ∀ a, q a + S32x128.size a ≤ S2048x1024.size a)
    (iq' : ∀ a, q a + S32x128.size a ≤ S32x1024.size a) (ik : ∀ a, k a + S2048x1x128.size a ≤ S2336x8x128.size a) : View.Piece (Elt Ideal) S32x1040 .f32 :=
  ⟨Rect.unit (s := S32x1040) o S32x1.size i, k0_pay116 (k0_pay156 (Scalar.cmpi .eq v2 0#32) (rq f8 q iq) (rq' f9 q iq') (rk f6 k ik))⟩

theorem heads_pieces : (headsRun c v2 f6 f7 f8 f9).1 =
    [pl v2 f6 f8 f9 ![0, 1039] ![0, 896] ![160, 7, 0] (by decide) (by decide) (by decide) (by decide), pm v2 f6 f8 f9 ![0, 1031] ![0, 896] ![160, 7, 0] (by decide) (by decide) (by decide) (by decide), po v2 f6 f7 f8 f9 ![0, 896] ![0, 896] ![160, 7, 0] (by decide) (by decide) (by decide) (by decide),
      pl v2 f6 f8 f9 ![0, 1038] ![0, 768] ![160, 6, 0] (by decide) (by decide) (by decide) (by decide), pm v2 f6 f8 f9 ![0, 1030] ![0, 768] ![160, 6, 0] (by decide) (by decide) (by decide) (by decide), po v2 f6 f7 f8 f9 ![0, 768] ![0, 768] ![160, 6, 0] (by decide) (by decide) (by decide) (by decide),
      pl v2 f6 f8 f9 ![0, 1037] ![0, 640] ![160, 5, 0] (by decide) (by decide) (by decide) (by decide), pm v2 f6 f8 f9 ![0, 1029] ![0, 640] ![160, 5, 0] (by decide) (by decide) (by decide) (by decide), po v2 f6 f7 f8 f9 ![0, 640] ![0, 640] ![160, 5, 0] (by decide) (by decide) (by decide) (by decide),
      pl v2 f6 f8 f9 ![0, 1036] ![0, 512] ![160, 4, 0] (by decide) (by decide) (by decide) (by decide), pm v2 f6 f8 f9 ![0, 1028] ![0, 512] ![160, 4, 0] (by decide) (by decide) (by decide) (by decide), po v2 f6 f7 f8 f9 ![0, 512] ![0, 512] ![160, 4, 0] (by decide) (by decide) (by decide) (by decide),
      pl v2 f6 f8 f9 ![0, 1035] ![0, 384] ![160, 3, 0] (by decide) (by decide) (by decide) (by decide), pm v2 f6 f8 f9 ![0, 1027] ![0, 384] ![160, 3, 0] (by decide) (by decide) (by decide) (by decide), po v2 f6 f7 f8 f9 ![0, 384] ![0, 384] ![160, 3, 0] (by decide) (by decide) (by decide) (by decide),
      pl v2 f6 f8 f9 ![0, 1034] ![0, 256] ![160, 2, 0] (by decide) (by decide) (by decide) (by decide), pm v2 f6 f8 f9 ![0, 1026] ![0, 256] ![160, 2, 0] (by decide) (by decide) (by decide) (by decide), po v2 f6 f7 f8 f9 ![0, 256] ![0, 256] ![160, 2, 0] (by decide) (by decide) (by decide) (by decide),
      pl v2 f6 f8 f9 ![0, 1033] ![0, 128] ![160, 1, 0] (by decide) (by decide) (by decide) (by decide), pm v2 f6 f8 f9 ![0, 1025] ![0, 128] ![160, 1, 0] (by decide) (by decide) (by decide) (by decide), po v2 f6 f7 f8 f9 ![0, 128] ![0, 128] ![160, 1, 0] (by decide) (by decide) (by decide) (by decide),
      pl v2 f6 f8 f9 ![0, 1032] ![0, 0] ![160, 0, 0] (by decide) (by decide) (by decide) (by decide), pm v2 f6 f8 f9 ![0, 1024] ![0, 0] ![160, 0, 0] (by decide) (by decide) (by decide) (by decide), po v2 f6 f7 f8 f9 ![0, 0] ![0, 0] ![160, 0, 0] (by decide) (by decide) (by decide) (by decide)] := by
  unfold headsRun
  rfl

/-- The score of row `r` at head `h` against the device's own key `j`. -/
def partS (r : Fin 32) (h : Fin 8) (j : Fin 2048) : EReal :=
  dot128 (fun e => Scalar.select (Scalar.cmpi .eq v2 0#32) (f8 (ix2 ⟨r.val, by omega⟩ ⟨128 * h.val + e.val, by omega⟩)) (f9 (ix2 r ⟨128 * h.val + e.val, by omega⟩)))
    (fun e => f6 (ix3 ⟨160 + j.val, by omega⟩ h e))
/-- The greatest of the scores. -/
def partM (r : Fin 32) (h : Fin 8) : EReal := Finset.univ.fold max (Ideal.ofBits .f32 0xFF800000#32) fun j : Fin 2048 => partS v2 f6 f8 f9 r h j
/-- The sum of the weights. -/
def partL (r : Fin 32) (h : Fin 8) : EReal := ∑ j : Fin 2048, Ideal.exp (partS v2 f6 f8 f9 r h j - partM v2 f6 f8 f9 r h)
/-- The weighted sum of the values. -/
def partO (r : Fin 32) (h : Fin 8) (d : Fin 128) : EReal :=
  ∑ j : Fin 2048, Ideal.exp (partS v2 f6 f8 f9 r h j - partM v2 f6 f8 f9 r h) * f7 (ix3 ⟨160 + j.val, by omega⟩ h d)

section
variable (h : Fin 8) (q : Fin 2 → ℕ) (k : Fin 3 → ℕ) (hq : q = ![0, 128 * h.val]) (hk : k = ![160, h.val, 0]) (iq : ∀ a, q a + S32x128.size a ≤ S2048x1024.size a)
  (iq' : ∀ a, q a + S32x128.size a ≤ S32x1024.size a) (ik : ∀ a, k a + S2048x1x128.size a ≤ S2336x8x128.size a)
include hk in
theorem rk_apply (j : Fin 2048) (d : Fin 128) : rk f6 k ik (ix3 j 0 d) = f6 (ix3 ⟨160 + j.val, by omega⟩ h d) := by
  subst hk
  exact read67 f6 _ _ _ _ _ _ rfl rfl rfl
include hk in
theorem rv_apply (j : Fin 2048) (d : Fin 128) : rv f7 k ik (ix3 j 0 d) = f7 (ix3 ⟨160 + j.val, by omega⟩ h d) := by
  subst hk
  exact read67 f7 _ _ _ _ _ _ rfl rfl rfl
include hq in
theorem rq_apply (r : Fin 32) (e : Fin 128) : rq f8 q iq (ix2 r e) = f8 (ix2 ⟨r.val, by omega⟩ ⟨128 * h.val + e.val, by omega⟩) := by
  subst hq
  show f8 _ = f8 _
  refine congrArg f8 (funext fun x => Fin.ext ?_)
  fin_cases x
  · show 0 + 1 * r.val = r.val
    omega
  · show 128 * h.val + 1 * e.val = 128 * h.val + e.val
    omega
include hq in
theorem rq'_apply (r : Fin 32) (e : Fin 128) : rq' f9 q iq' (ix2 r e) = f9 (ix2 r ⟨128 * h.val + e.val, by omega⟩) := by
  subst hq
  show f9 _ = f9 _
  refine congrArg f9 (funext fun x => Fin.ext ?_)
  fin_cases x
  · show 0 + 1 * r.val = r.val
    omega
  · show 128 * h.val + 1 * e.val = 128 * h.val + e.val
    omega

include hq hk in
theorem partS_eq (r : Fin 32) (j : Fin 2048) :
    k0_pay153 (Scalar.cmpi .eq v2 0#32) (rq f8 q iq) (rq' f9 q iq') (rk f6 k ik) (ix2 r j) = partS v2 f6 f8 f9 r h j := by
  rw [score_apply]
  unfold partS
  congr 1
  · funext e
    rw [← rq_apply f8 h q hq iq, ← rq'_apply f9 h q hq iq']
    unfold Scalar.select
    split <;> rfl
  · funext e
    exact rk_apply f6 h k hk ik j e

include hq hk in
theorem partM_eq (r : Fin 32) : k0_pay154 (Scalar.cmpi .eq v2 0#32) (rq f8 q iq) (rq' f9 q iq') (rk f6 k ik) (ix2 r 0) = partM v2 f6 f8 f9 r h := by
  rw [max_apply]
  simp only [partS_eq v2 f6 f8 f9 h q k hq hk]
  rfl

include hq hk in
theorem partL_eq (r : Fin 32) : k0_pay156 (Scalar.cmpi .eq v2 0#32) (rq f8 q iq) (rq' f9 q iq') (rk f6 k ik) (ix2 r 0) = partL v2 f6 f8 f9 r h := by
  rw [sum_apply]
  simp only [exp_apply, partS_eq v2 f6 f8 f9 h q k hq hk, partM_eq v2 f6 f8 f9 h q k hq hk]
  rfl

include hq hk in
theorem partO_eq (r : Fin 32) (d : Fin 128) : k0_pay157 (Scalar.cmpi .eq v2 0#32) (rq f8 q iq) (rq' f9 q iq') (rk f6 k ik) (rv f7 k ik) (ix2 r d) = partO v2 f6 f7 f8 f9 r h d := by
  rw [acc_apply]
  simp only [exp_apply, partS_eq v2 f6 f8 f9 h q k hq hk, partM_eq v2 f6 f8 f9 h q k hq hk, rv_apply f7 h k hk]
  rfl
end

/-- What the stores leave at an index of the partial sums. -/
def partT (y : S32x1040.Idx) : EReal :=
  if h1 : (y 1).val < 1024 then partO v2 f6 f7 f8 f9 (y 0) ⟨(y 1).val / 128, by omega⟩ ⟨(y 1).val % 128, by omega⟩
  else if h2 : (y 1).val < 1032 then partM v2 f6 f8 f9 (y 0) ⟨(y 1).val - 1024, by omega⟩
  else partL v2 f6 f8 f9 (y 0) ⟨(y 1).val - 1032, by have : (y 1).val < 1040 := (y 1).isLt; omega⟩

theorem partT_o (r : Fin 32) (h : Fin 8) (d : Fin 128) (y : S32x1040.Idx) (h0 : (y 0).val = r.val) (h1 : (y 1).val = 128 * h.val + d.val) :
    partT v2 f6 f7 f8 f9 y = partO v2 f6 f7 f8 f9 r h d := by
  unfold partT
  rw [dif_pos (by omega)]
  congr 1
  · exact Fin.ext h0
  · exact Fin.ext (by show _ / 128 = _; omega)
  · exact Fin.ext (by show _ % 128 = _; omega)
theorem partT_m (r : Fin 32) (h : Fin 8) (y : S32x1040.Idx) (h0 : (y 0).val = r.val) (h1 : (y 1).val = 1024 + h.val) :
    partT v2 f6 f7 f8 f9 y = partM v2 f6 f8 f9 r h := by
  unfold partT
  rw [dif_neg (by omega), dif_pos (by omega)]
  congr 1
  · exact Fin.ext h0
  · exact Fin.ext (by show _ - 1024 = _; omega)
theorem partT_l (r : Fin 32) (h : Fin 8) (y : S32x1040.Idx) (h0 : (y 0).val = r.val) (h1 : (y 1).val = 1032 + h.val) :
    partT v2 f6 f7 f8 f9 y = partL v2 f6 f8 f9 r h := by
  unfold partT
  rw [dif_neg (by omega), dif_neg (by omega)]
  congr 1
  · exact Fin.ext h0
  · exact Fin.ext (by show _ - 1032 = _; omega)

theorem emb_unit (o n : Fin 2 → ℕ) (i : ∀ a, o a + n a ≤ S32x1040.size a) (x) (a : Fin 2) : ((Rect.unit (s := S32x1040) o n i).emb x a).val = o a + (x a).val := by
  show o a + 1 * (x a).val = _
  rw [Nat.one_mul]

theorem piece_apply (o : Fin 2 → ℕ) (i : ∀ a, o a + S32x1.size a ≤ S32x1040.size a) (V : FVec Ideal S32x1 .f32) (r : Fin 32) :
    (⟨Rect.unit (s := S32x1040) o S32x1.size i, V⟩ : View.Piece (Elt Ideal) S32x1040 .f32).2 (ix2 r 0) = V (ix2 r 0) := rfl

theorem cast_o (x : FVec Ideal S32x128 .f32) (r : Fin 32) (d : Fin 128) : k0_pay158 x (ix2 r d) = x (ix2 r d) := by
  pointwise [k0_pay158]
theorem cast_m (x : FVec Ideal S32x1 .f32) (r : Fin 32) : k0_pay115 x (ix2 r 0) = x (ix2 r 0) := by
  pointwise [k0_pay115]
theorem cast_l (x : FVec Ideal S32x1 .f32) (r : Fin 32) : k0_pay116 x (ix2 r 0) = x (ix2 r 0) := by
  pointwise [k0_pay116]

theorem po_agree (h : Fin 8) (o q k) (ho : o = ![0, 128 * h.val]) (hq : q = ![0, 128 * h.val]) (hk : k = ![160, h.val, 0]) (i iq iq' ik) :
    ∀ x, (po v2 f6 f7 f8 f9 o q k i iq iq' ik).2 x = partT v2 f6 f7 f8 f9 ((po v2 f6 f7 f8 f9 o q k i iq iq' ik).1.emb x) := by
  subst ho
  intro x
  obtain ⟨r, d, rfl⟩ : ∃ (r : Fin 32) (d : Fin 128), x = ix2 r d := ⟨x 0, x 1, eq_ix2 x⟩
  rw [partT_o v2 f6 f7 f8 f9 r h d _ (by show 0 + 1 * r.val = _; omega) (by show 128 * h.val + 1 * d.val = _; omega)]
  exact (cast_o _ r d).trans <| partO_eq v2 f6 f7 f8 f9 h q k hq hk iq iq' ik r d
theorem pm_agree (h : Fin 8) (o q k) (ho : o = ![0, 1024 + h.val]) (hq : q = ![0, 128 * h.val]) (hk : k = ![160, h.val, 0]) (i iq iq' ik) :
    ∀ x, (pm v2 f6 f8 f9 o q k i iq iq' ik).2 x = partT v2 f6 f7 f8 f9 ((pm v2 f6 f8 f9 o q k i iq iq' ik).1.emb x) := by
  subst ho
  intro x
  obtain ⟨r, z, rfl⟩ : ∃ (r : Fin 32) (z : Fin 1), x = ix2 r z := ⟨x 0, x 1, eq_ix2 x⟩
  obtain rfl : z = 0 := Subsingleton.elim _ _
  rw [partT_m v2 f6 f7 f8 f9 r h _ (by show 0 + 1 * r.val = _; omega) (by show 1024 + h.val + 1 * 0 = _; omega)]
  unfold pm
  refine (piece_apply _ i _ r).trans ?_
  rw [cast_m]
  exact partM_eq v2 f6 f8 f9 h q k hq hk iq iq' ik r
theorem pl_agree (h : Fin 8) (o q k) (ho : o = ![0, 1032 + h.val]) (hq : q = ![0, 128 * h.val]) (hk : k = ![160, h.val, 0]) (i iq iq' ik) :
    ∀ x, (pl v2 f6 f8 f9 o q k i iq iq' ik).2 x = partT v2 f6 f7 f8 f9 ((pl v2 f6 f8 f9 o q k i iq iq' ik).1.emb x) := by
  subst ho
  intro x
  obtain ⟨r, z, rfl⟩ : ∃ (r : Fin 32) (z : Fin 1), x = ix2 r z := ⟨x 0, x 1, eq_ix2 x⟩
  obtain rfl : z = 0 := Subsingleton.elim _ _
  rw [partT_l v2 f6 f7 f8 f9 r h _ (by show 0 + 1 * r.val = _; omega) (by show 1032 + h.val + 1 * 0 = _; omega)]
  exact (cast_l _ r).trans <| partL_eq v2 f6 f8 f9 h q k hq hk iq iq' ik r

theorem heads_agree : ∀ p ∈ (headsRun c v2 f6 f7 f8 f9).1, ∀ x, p.2 x = partT v2 f6 f7 f8 f9 (p.1.emb x) := by
  rw [heads_pieces]
  simp only [List.forall_mem_cons]
  refine ⟨?_, ?_, ?_, ?_, ?_, ?_, ?_, ?_, ?_, ?_, ?_, ?_, ?_, ?_, ?_, ?_, ?_, ?_, ?_, ?_, ?_, ?_, ?_, ?_, fun p hp => absurd hp List.not_mem_nil⟩
  · exact pl_agree v2 f6 f7 f8 f9 7 _ _ _ rfl rfl rfl _ _ _ _
  · exact pm_agree v2 f6 f7 f8 f9 7 _ _ _ rfl rfl rfl _ _ _ _
  · exact po_agree v2 f6 f7 f8 f9 7 _ _ _ rfl rfl rfl _ _ _ _
  · exact pl_agree v2 f6 f7 f8 f9 6 _ _ _ rfl rfl rfl _ _ _ _
  · exact pm_agree v2 f6 f7 f8 f9 6 _ _ _ rfl rfl rfl _ _ _ _
  · exact po_agree v2 f6 f7 f8 f9 6 _ _ _ rfl rfl rfl _ _ _ _
  · exact pl_agree v2 f6 f7 f8 f9 5 _ _ _ rfl rfl rfl _ _ _ _
  · exact pm_agree v2 f6 f7 f8 f9 5 _ _ _ rfl rfl rfl _ _ _ _
  · exact po_agree v2 f6 f7 f8 f9 5 _ _ _ rfl rfl rfl _ _ _ _
  · exact pl_agree v2 f6 f7 f8 f9 4 _ _ _ rfl rfl rfl _ _ _ _
  · exact pm_agree v2 f6 f7 f8 f9 4 _ _ _ rfl rfl rfl _ _ _ _
  · exact po_agree v2 f6 f7 f8 f9 4 _ _ _ rfl rfl rfl _ _ _ _
  · exact pl_agree v2 f6 f7 f8 f9 3 _ _ _ rfl rfl rfl _ _ _ _
  · exact pm_agree v2 f6 f7 f8 f9 3 _ _ _ rfl rfl rfl _ _ _ _
  · exact po_agree v2 f6 f7 f8 f9 3 _ _ _ rfl rfl rfl _ _ _ _
  · exact pl_agree v2 f6 f7 f8 f9 2 _ _ _ rfl rfl rfl _ _ _ _
  · exact pm_agree v2 f6 f7 f8 f9 2 _ _ _ rfl rfl rfl _ _ _ _
  · exact po_agree v2 f6 f7 f8 f9 2 _ _ _ rfl rfl rfl _ _ _ _
  · exact pl_agree v2 f6 f7 f8 f9 1 _ _ _ rfl rfl rfl _ _ _ _
  · exact pm_agree v2 f6 f7 f8 f9 1 _ _ _ rfl rfl rfl _ _ _ _
  · exact po_agree v2 f6 f7 f8 f9 1 _ _ _ rfl rfl rfl _ _ _ _
  · exact pl_agree v2 f6 f7 f8 f9 0 _ _ _ rfl rfl rfl _ _ _ _
  · exact pm_agree v2 f6 f7 f8 f9 0 _ _ _ rfl rfl rfl _ _ _ _
  · exact po_agree v2 f6 f7 f8 f9 0 _ _ _ rfl rfl rfl _ _ _ _

theorem in_set (n : Fin 2 → ℕ) (o : Fin 2 → ℕ) (i : ∀ a, o a + n a ≤ S32x1040.size a) (r : Fin 32) (b : Fin 1040) (h0 : o 0 = 0) (n0 : n 0 = 32) (h1 : o 1 ≤ b.val) (h2 : b.val < o 1 + n 1) :
    (ix2 r b : S32x1040.Idx) ∈ (Rect.unit (s := S32x1040) o n i).set := by
  refine (Rect.mem_set_unit (inb := i)).2 fun a => ?_
  fin_cases a
  · exact ⟨by rw [show o ⟨0, _⟩ = 0 from h0]; exact Nat.zero_le _, by show r.val < o 0 + n 0; omega⟩
  · exact ⟨h1, h2⟩

variable (f10 : B10)

theorem part_o (r : Fin 32) (h : Fin 8) (d : Fin 128) :
    (Memref.whole cc0_scratch4).view.writes (Elt Ideal) f10 (headsRun c v2 f6 f7 f8 f9).1 (ix2 r ⟨128 * h.val + d.val, by omega⟩) = partO v2 f6 f7 f8 f9 r h d := by
  rw [← partT_o v2 f6 f7 f8 f9 r h d (ix2 r ⟨128 * h.val + d.val, by omega⟩) rfl rfl]
  refine View.read_writes_apply_of_pieces (v := (Memref.whole cc0_scratch4).view) (f := f10) (partT v2 f6 f7 f8 f9) _ (heads_agree c v2 f6 f7 f8 f9) _ ?_
  rw [heads_pieces]
  fin_cases h
  · exact ⟨_, List.mem_of_getElem? (i := 23) rfl, in_set _ _ (by decide) r _ rfl rfl (by simp) (by simp <;> omega)⟩
  · exact ⟨_, List.mem_of_getElem? (i := 20) rfl, in_set _ _ (by decide) r _ rfl rfl (by simp) (by simp <;> omega)⟩
  · exact ⟨_, List.mem_of_getElem? (i := 17) rfl, in_set _ _ (by decide) r _ rfl rfl (by simp) (by simp <;> omega)⟩
  · exact ⟨_, List.mem_of_getElem? (i := 14) rfl, in_set _ _ (by decide) r _ rfl rfl (by simp) (by simp <;> omega)⟩
  · exact ⟨_, List.mem_of_getElem? (i := 11) rfl, in_set _ _ (by decide) r _ rfl rfl (by simp) (by simp <;> omega)⟩
  · exact ⟨_, List.mem_of_getElem? (i := 8) rfl, in_set _ _ (by decide) r _ rfl rfl (by simp) (by simp <;> omega)⟩
  · exact ⟨_, List.mem_of_getElem? (i := 5) rfl, in_set _ _ (by decide) r _ rfl rfl (by simp) (by simp <;> omega)⟩
  · exact ⟨_, List.mem_of_getElem? (i := 2) rfl, in_set _ _ (by decide) r _ rfl rfl (by simp) (by simp <;> omega)⟩
theorem part_m (r : Fin 32) (h : Fin 8) :
    (Memref.whole cc0_scratch4).view.writes (Elt Ideal) f10 (headsRun c v2 f6 f7 f8 f9).1 (ix2 r ⟨1024 + h.val, by omega⟩) = partM v2 f6 f8 f9 r h := by
  rw [← partT_m v2 f6 f7 f8 f9 r h (ix2 r ⟨1024 + h.val, by omega⟩) rfl rfl]
  refine View.read_writes_apply_of_pieces (v := (Memref.whole cc0_scratch4).view) (f := f10) (partT v2 f6 f7 f8 f9) _ (heads_agree c v2 f6 f7 f8 f9) _ ?_
  rw [heads_pieces]
  fin_cases h
  · exact ⟨_, List.mem_of_getElem? (i := 22) rfl, in_set _ _ (by decide) r _ rfl rfl (by simp) (by simp <;> omega)⟩
  · exact ⟨_, List.mem_of_getElem? (i := 19) rfl, in_set _ _ (by decide) r _ rfl rfl (by simp) (by simp <;> omega)⟩
  · exact ⟨_, List.mem_of_getElem? (i := 16) rfl, in_set _ _ (by decide) r _ rfl rfl (by simp) (by simp <;> omega)⟩
  · exact ⟨_, List.mem_of_getElem? (i := 13) rfl, in_set _ _ (by decide) r _ rfl rfl (by simp) (by simp <;> omega)⟩
  · exact ⟨_, List.mem_of_getElem? (i := 10) rfl, in_set _ _ (by decide) r _ rfl rfl (by simp) (by simp <;> omega)⟩
  · exact ⟨_, List.mem_of_getElem? (i := 7) rfl, in_set _ _ (by decide) r _ rfl rfl (by simp) (by simp <;> omega)⟩
  · exact ⟨_, List.mem_of_getElem? (i := 4) rfl, in_set _ _ (by decide) r _ rfl rfl (by simp) (by simp <;> omega)⟩
  · exact ⟨_, List.mem_of_getElem? (i := 1) rfl, in_set _ _ (by decide) r _ rfl rfl (by simp) (by simp <;> omega)⟩
theorem part_l (r : Fin 32) (h : Fin 8) :
    (Memref.whole cc0_scratch4).view.writes (Elt Ideal) f10 (headsRun c v2 f6 f7 f8 f9).1 (ix2 r ⟨1032 + h.val, by omega⟩) = partL v2 f6 f8 f9 r h := by
  rw [← partT_l v2 f6 f7 f8 f9 r h (ix2 r ⟨1032 + h.val, by omega⟩) rfl rfl]
  refine View.read_writes_apply_of_pieces (v := (Memref.whole cc0_scratch4).view) (f := f10) (partT v2 f6 f7 f8 f9) _ (heads_agree c v2 f6 f7 f8 f9) _ ?_
  rw [heads_pieces]
  fin_cases h
  · exact ⟨_, List.mem_of_getElem? (i := 21) rfl, in_set _ _ (by decide) r _ rfl rfl (by simp) (by simp <;> omega)⟩
  · exact ⟨_, List.mem_of_getElem? (i := 18) rfl, in_set _ _ (by decide) r _ rfl rfl (by simp) (by simp <;> omega)⟩
  · exact ⟨_, List.mem_of_getElem? (i := 15) rfl, in_set _ _ (by decide) r _ rfl rfl (by simp) (by simp <;> omega)⟩
  · exact ⟨_, List.mem_of_getElem? (i := 12) rfl, in_set _ _ (by decide) r _ rfl rfl (by simp) (by simp <;> omega)⟩
  · exact ⟨_, List.mem_of_getElem? (i := 9) rfl, in_set _ _ (by decide) r _ rfl rfl (by simp) (by simp <;> omega)⟩
  · exact ⟨_, List.mem_of_getElem? (i := 6) rfl, in_set _ _ (by decide) r _ rfl rfl (by simp) (by simp <;> omega)⟩
  · exact ⟨_, List.mem_of_getElem? (i := 3) rfl, in_set _ _ (by decide) r _ rfl rfl (by simp) (by simp <;> omega)⟩
  · exact ⟨_, List.mem_cons_self, in_set _ _ (by decide) r _ rfl rfl (by simp) (by simp <;> omega)⟩

end

end Cert.KernelIdeal.Mesh
-- ==== Proof.CombVal.lean ====
/-
The combination of the four devices' partial sums, read at one element.
-/
module

public import proofs.«01_k».proof.Proof.PartVal

@[expose] public section

set_option maxRecDepth 16384

noncomputable section

namespace Cert.KernelIdeal.Mesh

open Cert.KernelIdeal Cert.KernelIdeal.Gen
open Idealize.ShloMosaic Idealize.ShloMosaic.TcCoe

section
variable (c : Dev nD) (v2 : BitVec 32) (f10 : B10) (f11 : B11 Ideal)

def rm (o : Fin 2 → ℕ) (i : ∀ a, o a + S32x1.size a ≤ S32x1040.size a) : Vec Ideal S32x1 .f32 :=
  View.readAt (Elt Ideal) (Memref.whole cc0_scratch4).view (Rect.unit (s := S32x1040) o S32x1.size i).toLoadRect f10
def ro (o : Fin 2 → ℕ) (i : ∀ a, o a + S32x128.size a ≤ S32x1040.size a) : Vec Ideal S32x128 .f32 :=
  View.readAt (Elt Ideal) (Memref.whole cc0_scratch4).view (Rect.unit (s := S32x1040) o S32x128.size i).toLoadRect f10
def rm3 (o : Fin 3 → ℕ) (i : ∀ a, o a + S1x32x1.size a ≤ S3x32x1040.size a) : Vec Ideal S1x32x1 .f32 :=
  View.readAt (Elt Ideal) (Memref.whole cc0_scratch5).view (Rect.unit (s := S3x32x1040) o S1x32x1.size i).toLoadRect f11
def ro3 (o : Fin 3 → ℕ) (i : ∀ a, o a + S1x32x128.size a ≤ S3x32x1040.size a) : Vec Ideal S1x32x128 .f32 :=
  View.readAt (Elt Ideal) (Memref.whole cc0_scratch5).view (Rect.unit (s := S3x32x1040) o S1x32x128.size i).toLoadRect f11

/-- One head's store: where it goes, and what it holds. -/
def pc (o : Fin 3 → ℕ) (m l q : Fin 2 → ℕ) (m0 l0 q0 m1 l1 q1 m2 l2 q2 : Fin 3 → ℕ) (i : ∀ a, o a + S1x32x128.size a ≤ S1x2048x1024.size a) (im : ∀ a, m a + S32x1.size a ≤ S32x1040.size a) (il : ∀ a, l a + S32x1.size a ≤ S32x1040.size a) (iq : ∀ a, q a + S32x128.size a ≤ S32x1040.size a)
    (im0 : ∀ a, m0 a + S1x32x1.size a ≤ S3x32x1040.size a) (il0 : ∀ a, l0 a + S1x32x1.size a ≤ S3x32x1040.size a) (iq0 : ∀ a, q0 a + S1x32x128.size a ≤ S3x32x1040.size a) (im1 : ∀ a, m1 a + S1x32x1.size a ≤ S3x32x1040.size a) (il1 : ∀ a, l1 a + S1x32x1.size a ≤ S3x32x1040.size a) (iq1 : ∀ a, q1 a + S1x32x128.size a ≤ S3x32x1040.size a) (im2 : ∀ a, m2 a + S1x32x1.size a ≤ S3x32x1040.size a) (il2 : ∀ a, l2 a + S1x32x1.size a ≤ S3x32x1040.size a) (iq2 : ∀ a, q2 a + S1x32x128.size a ≤ S3x32x1040.size a) : View.Piece (Elt Ideal) S1x2048x1024 .f32 :=
  ⟨Rect.unit (s := S1x2048x1024) o S1x32x128.size i,
    k0_pay169 (rm f10 m im) (rm f10 l il) (ro f10 q iq)
      (shapeCast S32x1 (rm3 f11 m0 im0) shapeCasts_S1x32x1_S32x1) (shapeCast S32x1 (rm3 f11 l0 il0) shapeCasts_S1x32x1_S32x1) (shapeCast S32x128 (ro3 f11 q0 iq0) shapeCasts_S1x32x128_S32x128)
      (shapeCast S32x1 (rm3 f11 m1 im1) shapeCasts_S1x32x1_S32x1) (shapeCast S32x1 (rm3 f11 l1 il1) shapeCasts_S1x32x1_S32x1) (shapeCast S32x128 (ro3 f11 q1 iq1) shapeCasts_S1x32x128_S32x128)
      (shapeCast S32x1 (rm3 f11 m2 im2) shapeCasts_S1x32x1_S32x1) (shapeCast S32x1 (rm3 f11 l2 il2) shapeCasts_S1x32x1_S32x1) (ro3 f11 q2 iq2)⟩

set_option maxHeartbeats 4000000 in
theorem comb_pieces : (combRun c v2 f10 f11).1 =
    [pc f10 f11 ![0, 0, 896] ![0, 1031] ![0, 1039] ![0, 896] ![0, 0, 1031] ![0, 0, 1039] ![0, 0, 896] ![1, 0, 1031] ![1, 0, 1039] ![1, 0, 896] ![2, 0, 1031] ![2, 0, 1039] ![2, 0, 896] (by decide) (by decide) (by decide) (by decide) (by decide) (by decide) (by decide) (by decide) (by decide) (by decide) (by decide) (by decide) (by decide),
      pc f10 f11 ![0, 0, 768] ![0, 1030] ![0, 1038] ![0, 768] ![0, 0, 1030] ![0, 0, 1038] ![0, 0, 768] ![1, 0, 1030] ![1, 0, 1038] ![1, 0, 768] ![2, 0, 1030] ![2, 0, 1038] ![2, 0, 768] (by decide) (by decide) (by decide) (by decide) (by decide) (by decide) (by decide) (by decide) (by decide) (by decide) (by decide) (by decide) (by decide),
      pc f10 f11 ![0, 0, 640] ![0, 1029] ![0, 1037] ![0, 640] ![0, 0, 1029] ![0, 0, 1037] ![0, 0, 640] ![1, 0, 1029] ![1, 0, 1037] ![1, 0, 640] ![2, 0, 1029] ![2, 0, 1037] ![2, 0, 640] (by decide) (by decide) (by decide) (by decide) (by decide) (by decide) (by decide) (by decide) (by decide) (by decide) (by decide) (by decide) (by decide),
      pc f10 f11 ![0, 0, 512] ![0, 1028] ![0, 1036] ![0, 512] ![0, 0, 1028] ![0, 0, 1036] ![0, 0, 512] ![1, 0, 1028] ![1, 0, 1036] ![1, 0, 512] ![2, 0, 1028] ![2, 0, 1036] ![2, 0, 512] (by decide) (by decide) (by decide) (by decide) (by decide) (by decide) (by decide) (by decide) (by decide) (by decide) (by decide) (by decide) (by decide),
      pc f10 f11 ![0, 0, 384] ![0, 1027] ![0, 1035] ![0, 384] ![0, 0, 1027] ![0, 0, 1035] ![0, 0, 384] ![1, 0, 1027] ![1, 0, 1035] ![1, 0, 384] ![2, 0, 1027] ![2, 0, 1035] ![2, 0, 384] (by decide) (by decide) (by decide) (by decide) (by decide) (by decide) (by decide) (by decide) (by decide) (by decide) (by decide) (by decide) (by decide),
      pc f10 f11 ![0, 0, 256] ![0, 1026] ![0, 1034] ![0, 256] ![0, 0, 1026] ![0, 0, 1034] ![0, 0, 256] ![1, 0, 1026] ![1, 0, 1034] ![1, 0, 256] ![2, 0, 1026] ![2, 0, 1034] ![2, 0, 256] (by decide) (by decide) (by decide) (by decide) (by decide) (by decide) (by decide) (by decide) (by decide) (by decide) (by decide) (by decide) (by decide),
      pc f10 f11 ![0, 0, 128] ![0, 1025] ![0, 1033] ![0, 128] ![0, 0, 1025] ![0, 0, 1033] ![0, 0, 128] ![1, 0, 1025] ![1, 0, 1033] ![1, 0, 128] ![2, 0, 1025] ![2, 0, 1033] ![2, 0, 128] (by decide) (by decide) (by decide) (by decide) (by decide) (by decide) (by decide) (by decide) (by decide) (by decide) (by decide) (by decide) (by decide),
      pc f10 f11 ![0, 0, 0] ![0, 1024] ![0, 1032] ![0, 0] ![0, 0, 1024] ![0, 0, 1032] ![0, 0, 0] ![1, 0, 1024] ![1, 0, 1032] ![1, 0, 0] ![2, 0, 1024] ![2, 0, 1032] ![2, 0, 0] (by decide) (by decide) (by decide) (by decide) (by decide) (by decide) (by decide) (by decide) (by decide) (by decide) (by decide) (by decide) (by decide)] := by
  unfold combRun
  rfl

/-- The partial sums' elements: the device's own, and the received ones, plane by plane. -/
def g10 (r : Fin 32) (b : Fin 1040) : EReal := f10 (ix2 r b)
def g11 (t : Fin 3) (r : Fin 32) (b : Fin 1040) : EReal := f11 (ix3 t r b)

/-- The greatest of the four maxima of a row at a head. -/
def combM (r : Fin 32) (h : Fin 8) : EReal :=
  max (max (g10 f10 r ⟨1024 + h.val, by omega⟩) (g11 f11 0 r ⟨1024 + h.val, by omega⟩)) (max (g11 f11 1 r ⟨1024 + h.val, by omega⟩) (g11 f11 2 r ⟨1024 + h.val, by omega⟩))

/-- What the combination writes in row `r`, head `h`, component `d`. -/
def combD (r : Fin 32) (h : Fin 8) (d : Fin 128) : EReal :=
  Ideal.div (Ideal.exp ((g10 f10 r ⟨1024 + h.val, by omega⟩ ) - combM f10 f11 r h) * g10 f10 r ⟨128 * h.val + d.val, by omega⟩
      + Ideal.exp ((g11 f11 0 r ⟨1024 + h.val, by omega⟩ ) - combM f10 f11 r h) * g11 f11 0 r ⟨128 * h.val + d.val, by omega⟩
      + Ideal.exp ((g11 f11 1 r ⟨1024 + h.val, by omega⟩ ) - combM f10 f11 r h) * g11 f11 1 r ⟨128 * h.val + d.val, by omega⟩
      + Ideal.exp ((g11 f11 2 r ⟨1024 + h.val, by omega⟩ ) - combM f10 f11 r h) * g11 f11 2 r ⟨128 * h.val + d.val, by omega⟩)
    (Ideal.exp ((g10 f10 r ⟨1024 + h.val, by omega⟩ ) - combM f10 f11 r h) * g10 f10 r ⟨1032 + h.val, by omega⟩
      + Ideal.exp ((g11 f11 0 r ⟨1024 + h.val, by omega⟩ ) - combM f10 f11 r h) * g11 f11 0 r ⟨1032 + h.val, by omega⟩
      + Ideal.exp ((g11 f11 1 r ⟨1024 + h.val, by omega⟩ ) - combM f10 f11 r h) * g11 f11 1 r ⟨1032 + h.val, by omega⟩
      + Ideal.exp ((g11 f11 2 r ⟨1024 + h.val, by omega⟩ ) - combM f10 f11 r h) * g11 f11 2 r ⟨1032 + h.val, by omega⟩)

/-- What the combination leaves at an index of the output's first 32 rows. -/
def combT (y : S1x2048x1024.Idx) : EReal :=
  combD f10 f11 ⟨(y 1).val % 32, by omega⟩ ⟨(y 2).val / 128, by have : (y 2).val < 1024 := (y 2).isLt; omega⟩ ⟨(y 2).val % 128, by omega⟩

theorem rm_apply (o : Fin 2 → ℕ) (i) (r : Fin 32) (b : Fin 1040) (h0 : o 0 = 0) (hb : o 1 = b.val) : rm f10 o i (ix2 r 0) = f10 (ix2 r b) := by
  show f10 _ = f10 _
  refine congrArg f10 (funext fun x => Fin.ext ?_)
  fin_cases x
  · show o 0 + 1 * r.val = r.val
    omega
  · show o 1 + 1 * 0 = b.val
    omega
theorem ro_apply (o : Fin 2 → ℕ) (i) (r : Fin 32) (d : Fin 128) (b : Fin 1040) (h0 : o 0 = 0) (hb : o 1 + d.val = b.val) : ro f10 o i (ix2 r d) = f10 (ix2 r b) := by
  show f10 _ = f10 _
  refine congrArg f10 (funext fun x => Fin.ext ?_)
  fin_cases x
  · show o 0 + 1 * r.val = r.val
    omega
  · show o 1 + 1 * d.val = b.val
    omega
theorem ro3_apply (o : Fin 3 → ℕ) (i) (t : Fin 3) (r : Fin 32) (d : Fin 128) (b : Fin 1040) (ht : o 0 = t.val) (h0 : o 1 = 0) (hb : o 2 + d.val = b.val) :
    ro3 f11 o i (ix3 0 r d) = f11 (ix3 t r b) := by
  show f11 _ = f11 _
  refine congrArg f11 (funext fun x => Fin.ext ?_)
  fin_cases x
  · show o 0 + 1 * 0 = t.val
    omega
  · show o 1 + 1 * r.val = r.val
    omega
  · show o 2 + 1 * d.val = b.val
    omega
theorem rm3_apply (o : Fin 3 → ℕ) (i) (t : Fin 3) (r : Fin 32) (b : Fin 1040) (ht : o 0 = t.val) (h0 : o 1 = 0) (hb : o 2 = b.val) :
    rm3 f11 o i (ix3 0 r 0) = f11 (ix3 t r b) := by
  show f11 _ = f11 _
  refine congrArg f11 (funext fun x => Fin.ext ?_)
  fin_cases x
  · show o 0 + 1 * 0 = t.val
    omega
  · show o 1 + 1 * r.val = r.val
    omega
  · show o 2 + 1 * 0 = b.val
    omega

theorem cast1 (x : Vec Ideal S1x32x1 .f32) (r : Fin 32) : shapeCast S32x1 x shapeCasts_S1x32x1_S32x1 (ix2 r 0) = x (ix3 0 r 0) := by
  pointwise []
theorem cast128 (x : Vec Ideal S1x32x128 .f32) (r : Fin 32) (d : Fin 128) : shapeCast S32x128 x shapeCasts_S1x32x128_S32x128 (ix2 r d) = x (ix3 0 r d) := by
  pointwise []

theorem pc_agree (h : Fin 8) (o : Fin 3 → ℕ) (m l q : Fin 2 → ℕ) (m0 l0 q0 m1 l1 q1 m2 l2 q2 : Fin 3 → ℕ)
    (ho : o = ![0, 0, 128 * h.val]) (hm : m = ![0, 1024 + h.val]) (hl : l = ![0, 1032 + h.val]) (hq : q = ![0, 128 * h.val])
    (hm0 : m0 = ![0, 0, 1024 + h.val]) (hl0 : l0 = ![0, 0, 1032 + h.val]) (hq0 : q0 = ![0, 0, 128 * h.val]) (hm1 : m1 = ![1, 0, 1024 + h.val]) (hl1 : l1 = ![1, 0, 1032 + h.val]) (hq1 : q1 = ![1, 0, 128 * h.val]) (hm2 : m2 = ![2, 0, 1024 + h.val]) (hl2 : l2 = ![2, 0, 1032 + h.val]) (hq2 : q2 = ![2, 0, 128 * h.val]) (i im il iq im0 il0 iq0 im1 il1 iq1 im2 il2 iq2) :
    ∀ x, (pc f10 f11 o m l q m0 l0 q0 m1 l1 q1 m2 l2 q2 i im il iq im0 il0 iq0 im1 il1 iq1 im2 il2 iq2).2 x = combT f10 f11 ((pc f10 f11 o m l q m0 l0 q0 m1 l1 q1 m2 l2 q2 i im il iq im0 il0 iq0 im1 il1 iq1 im2 il2 iq2).1.emb x) := by
  subst ho
  intro x
  obtain ⟨z, r, d, rfl⟩ : ∃ (z : Fin 1) (r : Fin 32) (d : Fin 128), x = ix3 z r d := ⟨x 0, x 1, x 2, eq_ix3 x⟩
  obtain rfl : z = 0 := Subsingleton.elim _ _
  have e : combT f10 f11 ((pc f10 f11 ![0, 0, 128 * h.val] m l q m0 l0 q0 m1 l1 q1 m2 l2 q2 i im il iq im0 il0 iq0 im1 il1 iq1 im2 il2 iq2).1.emb (ix3 0 r d)) = combD f10 f11 r h d := by
    have e1 : (((pc f10 f11 ![0, 0, 128 * h.val] m l q m0 l0 q0 m1 l1 q1 m2 l2 q2 i im il iq im0 il0 iq0 im1 il1 iq1 im2 il2 iq2).1.emb (ix3 0 r d)) 1).val = r.val := by
      show 0 + 1 * r.val = _
      omega
    have e2 : (((pc f10 f11 ![0, 0, 128 * h.val] m l q m0 l0 q0 m1 l1 q1 m2 l2 q2 i im il iq im0 il0 iq0 im1 il1 iq1 im2 il2 iq2).1.emb (ix3 0 r d)) 2).val = 128 * h.val + d.val := by
      show 128 * h.val + 1 * d.val = _
      omega
    unfold combT
    congr 1
    · exact Fin.ext (by show _ % 32 = _; rw [e1]; omega)
    · exact Fin.ext (by show _ / 128 = _; rw [e2]; omega)
    · exact Fin.ext (by show _ % 128 = _; rw [e2]; omega)
  rw [e]
  refine (comb_apply _ _ _ _ _ _ _ _ _ _ _ _ r d (combM f10 f11 r h) ?_).trans ?_
  · rw [cast1, cast1, cast1]
    rw [rm_apply f10 m im r ⟨1024 + h.val, by omega⟩ (by rw [hm]; rfl) (by rw [hm]; rfl), rm3_apply f11 m0 im0 0 r ⟨1024 + h.val, by omega⟩ (by rw [hm0]; rfl) (by rw [hm0]; rfl) (by rw [hm0]; rfl),
      rm3_apply f11 m1 im1 1 r ⟨1024 + h.val, by omega⟩ (by rw [hm1]; rfl) (by rw [hm1]; rfl) (by rw [hm1]; rfl), rm3_apply f11 m2 im2 2 r ⟨1024 + h.val, by omega⟩ (by rw [hm2]; rfl) (by rw [hm2]; rfl) (by rw [hm2]; rfl)]
    rfl
  · rw [cast1, cast1, cast1, cast1, cast1, cast1, cast128, cast128]
    rw [rm_apply f10 m im r ⟨1024 + h.val, by omega⟩ (by rw [hm]; rfl) (by rw [hm]; rfl), rm3_apply f11 m0 im0 0 r ⟨1024 + h.val, by omega⟩ (by rw [hm0]; rfl) (by rw [hm0]; rfl) (by rw [hm0]; rfl),
      rm3_apply f11 m1 im1 1 r ⟨1024 + h.val, by omega⟩ (by rw [hm1]; rfl) (by rw [hm1]; rfl) (by rw [hm1]; rfl), rm3_apply f11 m2 im2 2 r ⟨1024 + h.val, by omega⟩ (by rw [hm2]; rfl) (by rw [hm2]; rfl) (by rw [hm2]; rfl),
      rm_apply f10 l il r ⟨1032 + h.val, by omega⟩ (by rw [hl]; rfl) (by rw [hl]; rfl), rm3_apply f11 l0 il0 0 r ⟨1032 + h.val, by omega⟩ (by rw [hl0]; rfl) (by rw [hl0]; rfl) (by rw [hl0]; rfl),
      rm3_apply f11 l1 il1 1 r ⟨1032 + h.val, by omega⟩ (by rw [hl1]; rfl) (by rw [hl1]; rfl) (by rw [hl1]; rfl), rm3_apply f11 l2 il2 2 r ⟨1032 + h.val, by omega⟩ (by rw [hl2]; rfl) (by rw [hl2]; rfl) (by rw [hl2]; rfl),
      ro_apply f10 q iq r d ⟨128 * h.val + d.val, by omega⟩ (by rw [hq]; rfl) (by rw [hq]; rfl), ro3_apply f11 q0 iq0 0 r d ⟨128 * h.val + d.val, by omega⟩ (by rw [hq0]; rfl) (by rw [hq0]; rfl) (by rw [hq0]; rfl),
      ro3_apply f11 q1 iq1 1 r d ⟨128 * h.val + d.val, by omega⟩ (by rw [hq1]; rfl) (by rw [hq1]; rfl) (by rw [hq1]; rfl), ro3_apply f11 q2 iq2 2 r d ⟨128 * h.val + d.val, by omega⟩ (by rw [hq2]; rfl) (by rw [hq2]; rfl) (by rw [hq2]; rfl)]
    rfl

theorem comb_agree : ∀ p ∈ (combRun c v2 f10 f11).1, ∀ x, p.2 x = combT f10 f11 (p.1.emb x) := by
  rw [comb_pieces]
  simp only [List.forall_mem_cons]
  refine ⟨?_, ?_, ?_, ?_, ?_, ?_, ?_, ?_, fun p hp => absurd hp List.not_mem_nil⟩
  · exact pc_agree f10 f11 7 _ _ _ _ _ _ _ _ _ _ _ _ _ rfl rfl rfl rfl rfl rfl rfl rfl rfl rfl rfl rfl rfl _ _ _ _ _ _ _ _ _ _ _ _ _
  · exact pc_agree f10 f11 6 _ _ _ _ _ _ _ _ _ _ _ _ _ rfl rfl rfl rfl rfl rfl rfl rfl rfl rfl rfl rfl rfl _ _ _ _ _ _ _ _ _ _ _ _ _
  · exact pc_agree f10 f11 5 _ _ _ _ _ _ _ _ _ _ _ _ _ rfl rfl rfl rfl rfl rfl rfl rfl rfl rfl rfl rfl rfl _ _ _ _ _ _ _ _ _ _ _ _ _
  · exact pc_agree f10 f11 4 _ _ _ _ _ _ _ _ _ _ _ _ _ rfl rfl rfl rfl rfl rfl rfl rfl rfl rfl rfl rfl rfl _ _ _ _ _ _ _ _ _ _ _ _ _
  · exact pc_agree f10 f11 3 _ _ _ _ _ _ _ _ _ _ _ _ _ rfl rfl rfl rfl rfl rfl rfl rfl rfl rfl rfl rfl rfl _ _ _ _ _ _ _ _ _ _ _ _ _
  · exact pc_agree f10 f11 2 _ _ _ _ _ _ _ _ _ _ _ _ _ rfl rfl rfl rfl rfl rfl rfl rfl rfl rfl rfl rfl rfl _ _ _ _ _ _ _ _ _ _ _ _ _
  · exact pc_agree f10 f11 1 _ _ _ _ _ _ _ _ _ _ _ _ _ rfl rfl rfl rfl rfl rfl rfl rfl rfl rfl rfl rfl rfl _ _ _ _ _ _ _ _ _ _ _ _ _
  · exact pc_agree f10 f11 0 _ _ _ _ _ _ _ _ _ _ _ _ _ rfl rfl rfl rfl rfl rfl rfl rfl rfl rfl rfl rfl rfl _ _ _ _ _ _ _ _ _ _ _ _ _

theorem in_set3 (n : Fin 3 → ℕ) (o : Fin 3 → ℕ) (i : ∀ a, o a + n a ≤ S1x2048x1024.size a) (r : Fin 32) (b : Fin 1024) (h0 : o 0 = 0) (n0 : n 0 = 1) (h1 : o 1 = 0) (n1 : n 1 = 32)
    (h2 : o 2 ≤ b.val) (h3 : b.val < o 2 + n 2) : (ix3 0 ⟨r.val, by omega⟩ b : S1x2048x1024.Idx) ∈ (Rect.unit (s := S1x2048x1024) o n i).set := by
  refine (Rect.mem_set_unit (inb := i)).2 fun a => ?_
  fin_cases a
  · exact ⟨by show o 0 ≤ 0; omega, by show 0 < o 0 + n 0; omega⟩
  · exact ⟨by show o 1 ≤ r.val; omega, by show r.val < o 1 + n 1; omega⟩
  · exact ⟨h2, h3⟩

theorem not_in3 (n : Fin 3 → ℕ) (o : Fin 3 → ℕ) (i : ∀ a, o a + n a ≤ S1x2048x1024.size a) (y : S1x2048x1024.Idx) (h1 : o 1 = 0) (n1 : n 1 = 32) (hy : 32 ≤ (y 1).val) :
    y ∉ (Rect.unit (s := S1x2048x1024) o n i).set := by
  intro hm
  have := ((Rect.mem_set_unit (inb := i)).1 hm 1).2
  omega

/-- The combined rows: the first 32. -/
theorem comb_rows (f5 : (cc0_stg3_0 : Ref sig .tc).ty.Contents (Elt Ideal)) (r : Fin 32) (h : Fin 8) (d : Fin 128) :
    (Memref.whole cc0_stg3_0).view.writes (Elt Ideal) f5 (combRun c v2 f10 f11).1 (ix3 0 ⟨r.val, by omega⟩ ⟨128 * h.val + d.val, by omega⟩) = combD f10 f11 r h d := by
  have e : combT f10 f11 (ix3 0 ⟨r.val, by omega⟩ ⟨128 * h.val + d.val, by omega⟩) = combD f10 f11 r h d := by
    unfold combT
    congr 1
    · exact Fin.ext (by show r.val % 32 = _; omega)
    · exact Fin.ext (by show (128 * h.val + d.val) / 128 = _; omega)
    · exact Fin.ext (by show (128 * h.val + d.val) % 128 = _; omega)
  rw [← e]
  refine View.read_writes_apply_of_pieces (v := (Memref.whole cc0_stg3_0).view) (f := f5) (combT f10 f11) _ (comb_agree c v2 f10 f11) _ ?_
  rw [comb_pieces]
  clear e
  fin_cases h
  · exact ⟨_, List.mem_of_getElem? (i := 7) rfl, in_set3 _ _ (by decide) r _ rfl rfl rfl rfl (by simp) (by simp <;> omega)⟩
  · exact ⟨_, List.mem_of_getElem? (i := 6) rfl, in_set3 _ _ (by decide) r _ rfl rfl rfl rfl (by simp) (by simp <;> omega)⟩
  · exact ⟨_, List.mem_of_getElem? (i := 5) rfl, in_set3 _ _ (by decide) r _ rfl rfl rfl rfl (by simp) (by simp <;> omega)⟩
  · exact ⟨_, List.mem_of_getElem? (i := 4) rfl, in_set3 _ _ (by decide) r _ rfl rfl rfl rfl (by simp) (by simp <;> omega)⟩
  · exact ⟨_, List.mem_of_getElem? (i := 3) rfl, in_set3 _ _ (by decide) r _ rfl rfl rfl rfl (by simp) (by simp <;> omega)⟩
  · exact ⟨_, List.mem_of_getElem? (i := 2) rfl, in_set3 _ _ (by decide) r _ rfl rfl rfl rfl (by simp) (by simp <;> omega)⟩
  · exact ⟨_, List.mem_of_getElem? (i := 1) rfl, in_set3 _ _ (by decide) r _ rfl rfl rfl rfl (by simp) (by simp <;> omega)⟩
  · exact ⟨_, List.mem_cons_self, in_set3 _ _ (by decide) r _ rfl rfl rfl rfl (by simp) (by simp <;> omega)⟩

/-- The other rows: as they were. -/
theorem comb_rest (f5 : (cc0_stg3_0 : Ref sig .tc).ty.Contents (Elt Ideal)) (y : S1x2048x1024.Idx) (hy : 32 ≤ (y 1).val) :
    (Memref.whole cc0_stg3_0).view.writes (Elt Ideal) f5 (combRun c v2 f10 f11).1 y = f5 y := by
  refine View.read_writes_apply_of_forall_not_mem (v := (Memref.whole cc0_stg3_0).view) (f := f5) y _ ?_
  rw [comb_pieces]
  simp only [List.forall_mem_cons]
  refine ⟨?_, ?_, ?_, ?_, ?_, ?_, ?_, ?_, fun p hp => absurd hp List.not_mem_nil⟩ <;>
    exact not_in3 _ _ (by decide) y rfl rfl hy

end

end Cert.KernelIdeal.Mesh
-- ==== Proof.CombRow.lean ====
/-
The first device's first 32 rows: the four devices' partial sums put together.
-/
module

public import proofs.«01_k».proof.Proof.LoopRow
public import proofs.«01_k».proof.Proof.PartVal
public import proofs.«01_k».proof.Proof.CombVal
public import proofs.«01_k».proof.Proof.Body

@[expose] public section

set_option maxRecDepth 16384

noncomputable section

namespace Cert.KernelIdeal.Mesh

open Cert.KernelIdeal Cert.KernelIdeal.Gen
open Idealize.ShloMosaic Idealize.ShloMosaic.TcCoe

variable (m : (ℓ : Loc nD τ sig) → Buf (Elt Ideal) ℓ)

/-- What a device's partial sums may be. -/
def PSv (c : Dev nD) (X : (cc0_scratch4 : Ref sig .tc).ty.Contents (Elt Ideal)) : Prop :=
  ∃ (f6 : B6 Ideal) (f7 : B7 Ideal) (f9 : (cc0_scratch3 : Ref sig .tc).ty.Contents (Elt Ideal)) (f10 : (cc0_scratch4 : Ref sig .tc).ty.Contents (Elt Ideal)),
    KC m c f6 ∧ VC m c f7 ∧ QC m c f9 ∧ X = (Memref.whole cc0_scratch4).view.writes (Elt Ideal) f10 (headsRun (F := Ideal) c (v2w c) f6 f7 (qsc m c) f9).1

theorem landed_emb {sp s e sp'} (c c' : Dev nD) (dst : Memref sig .tc sp s e) (src : Memref sig .tc sp' s e) (fs : Buf (Elt Ideal) (src.view.loc (c' : Thread nD τ))) (x : s.Idx) :
    landed m c c' dst src fs (dst.view.emb x) = _root_.cast (congrArg (Elt Ideal) dst.view.elt_eq.symm) (_root_.cast (congrArg (Elt Ideal) src.view.elt_eq) (fs (src.view.emb x))) := by
  unfold landed
  rw [View.write_emb_of_mem _ _ (Finset.mem_univ x), View.read_apply]

theorem got_query {c : Dev nD} {f9 : (cc0_scratch3 : Ref sig .tc).ty.Contents (Elt Ideal)} (h9 : QC m c f9) (hc : 0 < c.val) (r : Fin 32) (e : Fin 1024) :
    (f9 (ix2 r e) : EReal) = qsc m 0 (ix2 ⟨r.val, by omega⟩ e) := by
  rw [h9 hc]
  refine (landed_emb m c 0 m9 q32 (qsc m 0) (ix2 r e)).trans ?_
  show (qsc m 0 _ : EReal) = qsc m 0 _
  refine congrArg (fun x => (qsc m 0 x : EReal)) (funext fun a => Fin.ext ?_)
  fin_cases a
  · show 0 + 1 * r.val = r.val; omega
  · show 0 + 1 * e.val = e.val; omega

theorem emb_plane (t : ℕ) (i : ∀ a, (![t, 0, 0] : Fin 3 → ℕ) a + S1x32x1040.size a ≤ S3x32x1040.size a) (hq : S32x1040.numel = S1x32x1040.numel) (r : Fin 32) (b : Fin 1040) (p : Fin 3) (hp : p.val = t) :
    (ix3 p r b : S3x32x1040.Idx) = (Rect.unit (s := S3x32x1040) ![t, 0, 0] S1x32x1040.size i).emb (Shape.reshapeEquiv hq (ix2 r b)) := by
  rw [Shape.reshapeEquiv_cons_one]
  funext a
  apply Fin.ext
  rw [Rect.emb_apply]
  match a with
  | ⟨0, _⟩ => show p.val = t + 1 * 0; omega
  | ⟨1, _⟩ => show r.val = 0 + 1 * r.val; omega
  | ⟨2, _⟩ => show b.val = 0 + 1 * b.val; omega

section
variable (X1 X2 X3 : (cc0_scratch4 : Ref sig .tc).ty.Contents (Elt Ideal)) (r : Fin 32) (b : Fin 1040)
/-- What the first device has received. -/
def got : B11 Ideal := cat3 (landed m 0 1 p0 m10 X1 : B11 Ideal) (landed m 0 2 p1 m10 X2 : B11 Ideal) (landed m 0 3 p2 m10 X3 : B11 Ideal)
theorem got0 : g11 (got m X1 X2 X3) 0 r b = g10 X1 r b := by
  show (landed m 0 1 p0 m10 X1 : B11 Ideal) (ix3 0 r b) = _
  rw [show (ix3 0 r b : S3x32x1040.Idx) = p0.view.emb (ix2 r b) from emb_plane 0 _ _ r b 0 rfl]
  exact landed_emb m 0 1 p0 m10 X1 (ix2 r b)
theorem got1 : g11 (got m X1 X2 X3) 1 r b = g10 X2 r b := by
  show (landed m 0 2 p1 m10 X2 : B11 Ideal) (ix3 1 r b) = _
  rw [show (ix3 1 r b : S3x32x1040.Idx) = p1.view.emb (ix2 r b) from emb_plane 1 _ _ r b 1 rfl]
  exact landed_emb m 0 2 p1 m10 X2 (ix2 r b)
theorem got2 : g11 (got m X1 X2 X3) 2 r b = g10 X3 r b := by
  show (landed m 0 3 p2 m10 X3 : B11 Ideal) (ix3 2 r b) = _
  rw [show (ix3 2 r b : S3x32x1040.Idx) = p2.view.emb (ix2 r b) from emb_plane 2 _ _ r b 2 rfl]
  exact landed_emb m 0 3 p2 m10 X3 (ix2 r b)
end

/-- A device's key, in the whole sequence. -/
def keyOf (t : Fin 4) (j : Fin 2048) : Fin 8192 := ⟨2048 * t.val + j.val, by omega⟩

theorem first_word : ∀ c : Dev nD, Scalar.cmpi .eq (v2w c) 0#32 = if c.val = 0 then 1#1 else 0#1 := by decide +kernel

section
variable (hW : SameW m)
include hW

theorem part_score (c : Dev nD) (f6 : B6 Ideal) (f9 : (cc0_scratch3 : Ref sig .tc).ty.Contents (Elt Ideal)) (h6 : KC m c f6) (h9 : QC m c f9) (r : Fin 32) (h : Fin 8) (j : Fin 2048) :
    partS (v2w c) f6 (qsc m c) f9 r h j = Cert.Rows.score (gx m) (gw m) (gk m) ⟨r.val, by omega⟩ h (keyOf c j) := by
  unfold partS
  have hq : ∀ e : Fin 128, (Scalar.select (Scalar.cmpi .eq (v2w c) 0#32) (qsc m c (ix2 (⟨r.val, by omega⟩ : Fin 2048) ⟨128 * h.val + e.val, by omega⟩)) (f9 (ix2 r ⟨128 * h.val + e.val, by omega⟩)) : EReal)
      = qsc m 0 (ix2 (⟨r.val, by omega⟩ : Fin 2048) ⟨128 * h.val + e.val, by omega⟩) := by
    intro e
    rw [first_word]
    by_cases hc : c.val = 0
    · rw [if_pos hc]
      obtain rfl : c = 0 := Fin.ext hc
      rfl
    · rw [if_neg hc]
      exact got_query m h9 (by omega) r _
  refine (congrArg (fun q => dot128 q _) (funext hq)).trans ?_
  exact score_eq m hW 0 ⟨r.val, by omega⟩ h (keyOf c j) ⟨r.val, by omega⟩ (by show r.val = 2048 * 0 + r.val; omega) _ fun e =>
    key_rest m h6 h e _ (by show 32 ≤ 160 + j.val; omega) _ (by show 2048 * c.val + j.val + 160 = 2048 * c.val + (160 + j.val); omega)

/-- A device's partial sums at a row and a head. -/
theorem part_row (c : Dev nD) (X : (cc0_scratch4 : Ref sig .tc).ty.Contents (Elt Ideal)) (hX : PSv m c X) (r : Fin 32) (h : Fin 8)
    (s : Fin 8192 → ℝ) (hs : ∀ j, Cert.Rows.score (gx m) (gw m) (gk m) ⟨r.val, by omega⟩ h j = s j) :
    ∃ μ : ℝ, g10 X r ⟨1024 + h.val, by omega⟩ = μ ∧ g10 X r ⟨1032 + h.val, by omega⟩ = ∑ j : Fin 2048, Ideal.exp ((s (keyOf c j) : EReal) - μ)
      ∧ ∀ d : Fin 128, g10 X r ⟨128 * h.val + d.val, by omega⟩ = ∑ j : Fin 2048, Ideal.exp ((s (keyOf c j) : EReal) - μ) * gv m (keyOf c j) h d := by
  obtain ⟨f6, f7, f9, f10, h6, h7, h9, rfl⟩ := hX
  have hS : ∀ j, partS (v2w c) f6 (qsc m c) f9 r h j = (s (keyOf c j) : EReal) := fun j => (part_score m hW c f6 f9 h6 h9 r h j).trans (hs _)
  obtain ⟨μ, hμ⟩ := Cert.Rows.max_real' (fun _ : Fin 2048 => True) (fun j => s (keyOf c j)) ⟨0, trivial⟩
  have hM : partM (v2w c) f6 (qsc m c) f9 r h = (μ : EReal) := by
    rw [← hμ]
    unfold partM
    rw [show (Ideal.ofBits .f32 0xFF800000#32 : EReal) = ⊥ by simp [Ideal.ofBits, Ideal.ieee]]
    simp only [hS, if_true]
  refine ⟨μ, ?_, ?_, ?_⟩
  · exact (part_m c (v2w c) f6 f7 (qsc m c) f9 f10 r h).trans hM
  · refine (part_l c (v2w c) f6 f7 (qsc m c) f9 f10 r h).trans ?_
    unfold partL
    simp only [hS, hM]
  · intro d
    refine (part_o c (v2w c) f6 f7 (qsc m c) f9 f10 r h d).trans ?_
    unfold partO
    simp only [hS, hM]
    refine Finset.sum_congr (M := EReal) rfl fun j _ => congrArg (α := EReal) (fun v : EReal => Ideal.exp ((s (keyOf c j) : EReal) - μ) * v) ?_
    exact val_rest m h7 h d _ (by show 32 ≤ 160 + j.val; omega) _ (by show 2048 * c.val + j.val + 160 = 2048 * c.val + (160 + j.val); omega)

theorem comb_row (X0 X1 X2 X3 : (cc0_scratch4 : Ref sig .tc).ty.Contents (Elt Ideal)) (h0 : PSv m 0 X0) (h1 : PSv m 1 X1) (h2 : PSv m 2 X2) (h3 : PSv m 3 X3) (r : Fin 32) (h : Fin 8) (d : Fin 128)
    (s : Fin 8192 → ℝ) (hs : ∀ j, Cert.Rows.score (gx m) (gw m) (gk m) ⟨r.val, by omega⟩ h j = s j) :
    combD X0 (got m X1 X2 X3) r h d = Cert.Rows.row (gx m) (gw m) (gk m) (gv m) ⟨r.val, by omega⟩ h d := by
  obtain ⟨m0, a0, b0, d0⟩ := part_row m hW 0 X0 h0 r h s hs
  obtain ⟨m1, a1, b1, d1⟩ := part_row m hW 1 X1 h1 r h s hs
  obtain ⟨m2, a2, b2, d2⟩ := part_row m hW 2 X2 h2 r h s hs
  obtain ⟨m3, a3, b3, d3⟩ := part_row m hW 3 X3 h3 r h s hs
  unfold combD
  simp only [got0, got1, got2, a0, a1, a2, a3, b0, b1, b2, b3, d0, d1, d2, d3]
  unfold Cert.Rows.row
  rw [show Cert.Rows.score (gx m) (gw m) (gk m) ⟨r.val, by omega⟩ h = fun j => (s j : EReal) from funext hs]
  refine Cert.Rows.ctx_combined s (fun j => gv m j h d) m0 m1 m2 m3 _ ?_ (Cert.Rows.allowed ⟨r.val, by omega⟩) (fun j => Or.inr (Or.inr r.isLt)) keyOf (fun t j => rfl)
  unfold combM
  rw [got0, got1, got2, a0, a1, a2, a3]
end

end Cert.KernelIdeal.Mesh
-- ==== Proof.Value.lean ====
/-
The kernel's result on each device: its block of the rows that both programs compute, against the output projection.
-/
module

public import proofs.«01_k».proof.Proof.CombRow

@[expose] public section

set_option maxRecDepth 16384

noncomputable section

namespace Cert.KernelIdeal.Mesh

open Cert.KernelIdeal Cert.KernelIdeal.Gen
open Idealize.ShloMosaic Idealize.ShloMosaic.TcCoe

variable (m : (ℓ : Loc nD τ sig) → Buf (Elt Ideal) ℓ)

/-- The rows before the output projection. -/
theorem rows_value (hW : SameW m) (hs : ∀ i h, ∃ s : Fin 8192 → ℝ, ∀ j, Cert.Rows.score (gx m) (gw m) (gk m) i h j = s j) (c : Dev nD) (f6 : B6 Ideal) (f7 : B7 Ideal) (v298 v305 : FVec Ideal S32x1 .f32)
    (f5 g : (cc0_stg3_0 : Ref sig .tc).ty.Contents (Elt Ideal)) (h6 : KC m c f6) (h7 : VC m c f7)
    (hg : COMB m (PSv m) c ((Memref.whole cc0_stg3_0).view.writes (Elt Ideal) f5 (loopPieces (F := Ideal) c (v2w c) v298 v305 f6 f7 (qsc m c) k0_t1_loop.trips)) g)
    (r : Fin 2048) (x : Fin 1024) (i : Fin 8192) (hi : i.val = 2048 * c.val + r.val) :
    (g (ix3 0 r x) : EReal) = Cert.Rows.row (gx m) (gw m) (gk m) (gv m) i ⟨x.val / 128, by omega⟩ ⟨x.val % 128, by omega⟩ := by
  by_cases hc : 0 < c.val
  · rw [hg.1 hc]
    refine (loop_apply c (v2w c) v298 v305 f6 f7 (qsc m c) f5 (ix3 0 r x)).trans ?_
    exact loop_row m hW c f6 f7 h6 h7 r x i hi (by omega)
  · obtain rfl : c = 0 := Fin.ext (by show c.val = 0; omega)
    obtain ⟨X0, X1, X2, X3, h0, h1, h2, h3, rfl⟩ := hg.2 rfl
    have hi' : i.val = 2048 * 0 + r.val := hi
    by_cases hr : r.val < 32
    · obtain ⟨s, hs⟩ := hs i ⟨x.val / 128, by omega⟩
      have ei : i = ⟨(⟨r.val, hr⟩ : Fin 32).val, by omega⟩ := Fin.ext (by show i.val = r.val; omega)
      rw [ei] at hs ⊢
      have e : (ix3 0 r x : S1x2048x1024.Idx) = ix3 0 ⟨(⟨r.val, hr⟩ : Fin 32).val, by omega⟩ ⟨128 * (⟨x.val / 128, by omega⟩ : Fin 8).val + (⟨x.val % 128, by omega⟩ : Fin 128).val, by omega⟩ := by
        refine congrArg (fun z : Fin 1024 => (ix3 0 r z : S1x2048x1024.Idx)) (Fin.ext ?_)
        show x.val = 128 * (x.val / 128) + x.val % 128; omega
      rw [e]
      refine (comb_rows 0 (v2w 0) X0 (got m X1 X2 X3) _ ⟨r.val, hr⟩ ⟨x.val / 128, by omega⟩ ⟨x.val % 128, by omega⟩).trans ?_
      exact comb_row m hW X0 X1 X2 X3 h0 h1 h2 h3 ⟨r.val, hr⟩ _ _ s hs
    · refine (comb_rest 0 (v2w 0) X0 (got m X1 X2 X3) _ (ix3 0 r x) (by show 32 ≤ r.val; omega)).trans ?_
      refine (loop_apply 0 (v2w 0) v298 v305 f6 f7 (qsc m 0) f5 (ix3 0 r x)).trans ?_
      exact loop_row m hW 0 f6 f7 h6 h7 r x i hi (by omega)

theorem out_value (hW : SameW m) (hO : SameO m) (hs : ∀ i h, ∃ s : Fin 8192 → ℝ, ∀ j, Cert.Rows.score (gx m) (gw m) (gk m) i h j = s j) (c : Dev nD) (f : (cc0_stg3_0 : Ref sig .tc).ty.Contents (Elt Ideal)) (hf : OUT m (PSv m) c f)
    (r : Fin 2048) (e : Fin 1024) (i : Fin 8192) (hi : i.val = 2048 * c.val + r.val) :
    (f (ix3 0 r e) : EReal) = ∑ x : Fin 1024, Cert.Rows.row (gx m) (gw m) (gk m) (gv m) i ⟨x.val / 128, by omega⟩ ⟨x.val % 128, by omega⟩ * go m x e := by
  obtain ⟨f6, f7, v298, v305, f5, g, h6, h7, hg, rfl⟩ := hf
  refine (out_apply g (wo m c) r e).trans ?_
  refine Finset.sum_congr (M := EReal) rfl fun x _ => congrArg₂ (α := EReal) (β := EReal) (· * ·) ?_ ?_
  · exact rows_value m hW hs c f6 f7 v298 v305 f5 g h6 h7 hg r x i hi
  · exact (wo_eq m c _).trans (hO c _)

end Cert.KernelIdeal.Mesh
-- ==== Proof.RefMask.lean ====
/-
The reference's mask and the weighted sum of one of its rows.
-/
module

public import proofs.«01_k».proof.Proof.Spec
public import Idealize.ShloMosaic.Lib.Pointwise
public import Idealize.ShloMosaic.Lib.WordCmp
public import Idealize.ShloMosaic.Lib.Routing.OpsOrder
public import Idealize.ShloMosaic.Lib.Tactic.CleanTypes

@[expose] public section

set_option maxRecDepth 16384

noncomputable section

namespace Cert.ReferenceIdeal.Rows

open Idealize.ShloMosaic Idealize.ShloMosaic.WordCmp Idealize.ShloMosaic.Routing

/-- The mask's word. -/
def maskW (i j : ℕ) : BitVec 1 :=
  IntOp.ori (IntOp.cmpi .sle (IntOp.absi (IntOp.subi (BitVec.ofNat 32 i) (BitVec.ofNat 32 j))) 128#32) (IntOp.ori (IntOp.cmpi .slt (BitVec.ofNat 32 j) 32#32) (IntOp.cmpi .slt (BitVec.ofNat 32 i) 32#32))

theorem slt_word (a : ℕ) (ha : a < 8192) : IntOp.cmpi .slt (BitVec.ofNat 32 a) 32#32 = BitVec.ofBool (decide (a < 32)) := by
  show BitVec.ofBool ((BitVec.ofNat 32 a).slt 32#32) = _
  congr 1
  rw [BitVec.slt_eq_decide, toInt_ofNat_of_lt (by omega)]
  simp

theorem sle_word (i j : ℕ) (hi : i < 8192) (hj : j < 8192) :
    IntOp.cmpi .sle (IntOp.absi (IntOp.subi (BitVec.ofNat 32 i) (BitVec.ofNat 32 j))) 128#32 = BitVec.ofBool (decide (i ≤ j + 128 ∧ j ≤ i + 128)) := by
  have ha : (IntOp.absi (IntOp.subi (BitVec.ofNat 32 i) (BitVec.ofNat 32 j))).toInt = |(i : ℤ) - j| := by
    have e : (BitVec.ofNat 32 i - BitVec.ofNat 32 j).toInt = (i : ℤ) - j := by
      rw [BitVec.toInt_sub, toInt_ofNat_of_lt (by omega), toInt_ofNat_of_lt (by omega)]; unfold Int.bmod; simp only []; split_ifs <;> omega
    show (if (BitVec.ofNat 32 i - BitVec.ofNat 32 j).msb then -(BitVec.ofNat 32 i - BitVec.ofNat 32 j) else BitVec.ofNat 32 i - BitVec.ofNat 32 j).toInt = _
    rw [BitVec.msb_eq_toInt, e]
    by_cases hn : (i : ℤ) - j < 0
    · rw [if_pos (by simpa using hn), BitVec.toInt_neg, e, abs_of_neg hn]
      unfold Int.bmod; simp only []; split_ifs <;> omega
    · rw [if_neg (by simpa using hn), e, abs_of_nonneg (by omega)]
  show BitVec.ofBool (BitVec.sle _ 128#32) = _
  congr 1
  rw [BitVec.sle_eq_decide, ha]
  have : (128#32).toInt = 128 := by decide
  rw [this, decide_eq_decide, abs_le]
  omega

theorem maskW_eq (i j : Fin 8192) : maskW i.val j.val = BitVec.ofBool (decide (Cert.Rows.allowed i j)) := by
  unfold maskW
  rw [sle_word _ _ i.isLt j.isLt, slt_word _ i.isLt, slt_word _ j.isLt, ori_ofBool, ori_ofBool]
  congr 1
  unfold Cert.Rows.allowed
  rw [← Bool.decide_or, ← Bool.decide_or]

theorem any_mask (i : Fin 8192) : Finset.fold IntOp.ori (0#1) (fun x : Fin 8192 => maskW i.val x.val) Finset.univ = 1#1 := by
  rw [fold_ori]
  obtain ⟨j, hj⟩ := Cert.Rows.allowed_self i
  refine ⟨j, Finset.mem_univ j, ?_⟩
  rw [maskW_eq, decide_eq_true hj]; rfl

/-- A row of the masked, normalised weights against the values. -/
theorem ref_ctx (i : Fin 8192) (s : Fin 8192 → ℝ) (sc V : Fin 8192 → EReal) (hs : ∀ j, sc j = s j) (mk : Fin 8192 → BitVec 1) (S v : Fin 8192 → EReal) (bot one zero b : EReal)
    (hmk : ∀ j, mk j = maskW i.val j.val) (hS : ∀ j, S j = sc j) (hv : ∀ j, v j = V j) (hb : bot = ⊥) (hb' : b = ⊥) :
    ∑ j : Fin 8192, v j * Scalar.select (Finset.fold IntOp.ori (0#1) (fun x => mk x) Finset.univ)
        (Ideal.div (Ideal.exp (Scalar.select (mk j) (S j) bot - Finset.fold max b (fun x => Scalar.select (mk x) (S x) bot) Finset.univ))
          (Scalar.select (Finset.fold IntOp.ori (0#1) (fun x => mk x) Finset.univ)
            (∑ y : Fin 8192, Ideal.exp (Scalar.select (mk y) (S y) bot - Finset.fold max b (fun x => Scalar.select (mk x) (S x) bot) Finset.univ)) one)) zero
      = Cert.Rows.ctx (Cert.Rows.allowed i) sc V := by
  obtain rfl : v = V := funext hv
  obtain rfl : mk = fun j => maskW i.val j.val := funext hmk
  obtain rfl : S = fun j => (s j : EReal) := funext fun j => (hS j).trans (hs j)
  obtain rfl : sc = fun j => (s j : EReal) := funext hs
  subst hb hb'
  have e : ∀ j : Fin 8192, Scalar.select (maskW i.val j.val) (s j : EReal) (⊥ : EReal) = if Cert.Rows.allowed i j then (s j : EReal) else ⊥ := by
    intro j
    rw [maskW_eq, select_ofBool]
    by_cases h : Cert.Rows.allowed i j <;> simp [h]
  have s1 : ∀ a b : EReal, Scalar.select (1#1) a b = a := fun a b => rfl
  simp only [any_mask, s1, e]
  exact Cert.Rows.ctx_normalized (Cert.Rows.allowed i) s v (Cert.Rows.allowed_self i) _ rfl

theorem bot_word : (Ideal.ofBits .f32 4286578688#32 : EReal) = ⊥ := by simp [Ideal.ofBits, Ideal.ieee]

end Cert.ReferenceIdeal.Rows
-- ==== Proof.RefStages.lean ====
/-
The reference's chain of array operations, stage by stage, and each stage read at one element.
-/
module

public import proofs.«01_k».proof.Proof.RefMask
public import proofs.«01_k».proof.Proof.Gen.ReferenceIdeal.Run
public import Idealize.ShloMosaic.Lib.Tactic.CleanTypes

@[expose] public section

set_option maxRecDepth 16384

noncomputable section

namespace Cert.ReferenceIdeal.Rows

open Cert.ReferenceIdeal Cert.ReferenceIdeal.Gen
open Idealize.ShloMosaic Idealize.ShloMosaic.TcCoe

abbrev SQ : Type := FVec Ideal S1x8x8192x8192 .f32

def mskV : IVec S8192x8192 1 := (ori (cmpi .sle (absi (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (broadcastInDim S8192x8192 ![] bcast_S_S8192x8192 (constantI S_ 32 128#32))) (ori (broadcastInDim S8192x8192 ![0, 1] bcast_S1x8192_S8192x8192_0_1 (cmpi .slt (broadcastInDim S1x8192 ![1] bcast_S8192_S1x8192_1 (iotaInDim S8192 32 0)) (broadcastInDim S1x8192 ![] bcast_S_S1x8192 (constantI S_ 32 32#32)))) (broadcastInDim S8192x8192 ![0, 1] bcast_S8192x1_S8192x8192_0_1 (cmpi .slt (broadcastInDim S8192x1 ![0] bcast_S8192_S8192x1_0 (iotaInDim S8192 32 0)) (broadcastInDim S8192x1 ![] bcast_S_S8192x1 (constantI S_ 32 32#32))))))
def keepV (M : IVec S8192x8192 1) : IVec S1x1x8192x1 1 := (broadcastInDim S1x1x8192x1 ![2] bcast_S8192_S1x1x8192x1_2 (Host.reduce IntOp.ori M (constantI S_ 1 0#1) reducesTo_S8192x8192_S8192_d1 h_S_))
def quV (x : FVec Ideal S1x8192x1024 .f32) (w : FVec Ideal S1024x1024 .f32) : FVec Ideal S1x8192x8x128 .f32 :=
  (shapeCast _ (Host.dotGeneral dot_S1x8192x1024_S1024x1024_S1x8192x1024_2_0_01_1_n_n none x w) shapeCasts_S1x8192x1024_S1x8192x8x128)
def scV (q k : FVec Ideal S1x8192x8x128 .f32) : SQ :=
  (mulf (Host.dotGeneral dot_S1x8192x8x128_S1x8192x8x128_S1x8x8192x8192_3_3_1_1_02_02 none q k) (broadcastInDim S1x8x8192x8192 ![] bcast_S_S1x8x8192x8192 (constant S_ .f32 0x3DB504F3#32)))
def maskedV (M : IVec S8192x8192 1) (s : SQ) : SQ :=
  (select (broadcastInDim S1x8x8192x8192 ![0, 1, 2, 3] bcast_S1x1x8192x8192_S1x8x8192x8192_0_1_2_3 (broadcastInDim S1x1x8192x8192 ![2, 3] bcast_S8192x8192_S1x1x8192x8192_2_3 M)) s (broadcastInDim S1x8x8192x8192 ![] bcast_S_S1x8x8192x8192 (id (constant S_ .f32 0xFF800000#32))))
def maxV (a : SQ) : SQ :=
  (broadcastInDim S1x8x8192x8192 ![0, 1, 2, 3] bcast_S1x8x8192x1_S1x8x8192x8192_0_1_2_3 (broadcastInDim S1x8x8192x1 ![0, 1, 2] bcast_S1x8x8192_S1x8x8192x1_0_1_2 (Host.reduce FloatOps.maximumf a (constant S_ .f32 0xFF800000#32) reducesTo_S1x8x8192x8192_S1x8x8192_d3 h_S_)))
def expV (a b : SQ) : SQ := (Host.exp (subf a b))
def sumV (K : IVec S1x1x8192x1 1) (e : SQ) : FVec Ideal S1x8x8192x1 .f32 :=
  (select (broadcastInDim S1x8x8192x1 ![0, 1, 2, 3] bcast_S1x1x8192x1_S1x8x8192x1_0_1_2_3 K) (broadcastInDim S1x8x8192x1 ![0, 1, 2] bcast_S1x8x8192_S1x8x8192x1_0_1_2 (Host.reduceAdd e (constant S_ .f32 0x00000000#32) reducesTo_S1x8x8192x8192_S1x8x8192_d3 h_S_)) (broadcastInDim S1x8x8192x1 ![] bcast_S_S1x8x8192x1 (id (constant S_ .f32 0x3F800000#32))))
def wV (K : IVec S1x1x8192x1 1) (e : SQ) (u : FVec Ideal S1x8x8192x1 .f32) : SQ :=
  (select (broadcastInDim S1x8x8192x8192 ![0, 1, 2, 3] bcast_S1x1x8192x1_S1x8x8192x8192_0_1_2_3 K) (Host.divf e (broadcastInDim S1x8x8192x8192 ![0, 1, 2, 3] bcast_S1x8x8192x1_S1x8x8192x8192_0_1_2_3 u)) (broadcastInDim S1x8x8192x8192 ![] bcast_S_S1x8x8192x8192 (id (constant S_ .f32 0x00000000#32))))
def ctxV (v : FVec Ideal S1x8192x8x128 .f32) (w : SQ) : FVec Ideal S1x8192x8x128 .f32 :=
  (transpose S1x8192x8x128 [0, 3, 1, 2] (Host.dotGeneral dot_S1x8192x8x128_S1x8x8192x8192_S1x8x128x8192_1_3_3_2_02_01 none v w) transposes_S1x8x128x8192_S1x8192x8x128_0_3_1_2)
def outV (c : FVec Ideal S1x8192x8x128 .f32) (w : FVec Ideal S1024x1024 .f32) : FVec Ideal S1x8192x1024 .f32 :=
  (Host.dotGeneral dot_S1x8192x1024_S1024x1024_S1x8192x1024_2_0_01_1_n_n none (shapeCast _ c shapeCasts_S1x8192x8x128_S1x8192x1024) w)

theorem result_eq (m : (ℓ : Loc nD τ sig) → Buf (Elt Ideal) ℓ) (c : Dev nD) :
    Value.res_main_v42 m c = outV (ctxV (m ((c.tc : Thread nD τ).loc main_arg3)) (wV (keepV mskV) (expV (maskedV mskV (scV (quV (m ((c.tc : Thread nD τ).loc main_arg0)) (m ((c.tc : Thread nD τ).loc main_arg1))) (m ((c.tc : Thread nD τ).loc main_arg2)))) (maxV (maskedV mskV (scV (quV (m ((c.tc : Thread nD τ).loc main_arg0)) (m ((c.tc : Thread nD τ).loc main_arg1))) (m ((c.tc : Thread nD τ).loc main_arg2))))))
      (sumV (keepV mskV) (expV (maskedV mskV (scV (quV (m ((c.tc : Thread nD τ).loc main_arg0)) (m ((c.tc : Thread nD τ).loc main_arg1))) (m ((c.tc : Thread nD τ).loc main_arg2)))) (maxV (maskedV mskV (scV (quV (m ((c.tc : Thread nD τ).loc main_arg0)) (m ((c.tc : Thread nD τ).loc main_arg1))) (m ((c.tc : Thread nD τ).loc main_arg2))))))))) (m ((c.tc : Thread nD τ).loc main_arg4)) := by
  unfold Value.res_main_v42 outV ctxV wV sumV expV maxV maskedV scV quV keepV mskV
  rfl

theorem msk_apply (i j : Fin 8192) : mskV (ix2 i j) = maskW i.val j.val := by
  pointwise [mskV]
  rfl
theorem keep_apply (M : IVec S8192x8192 1) (i : Fin 8192) : keepV M (ix4 0 0 i 0) = Finset.fold IntOp.ori (0#1) (fun x : Fin 8192 => M (ix2 i x)) Finset.univ := by
  pointwise [keepV]
theorem qu_apply (x : FVec Ideal S1x8192x1024 .f32) (w : FVec Ideal S1024x1024 .f32) (i : Fin 8192) (h : Fin 8) (d : Fin 128) :
    quV x w (ix4 0 i h d) = ∑ k : Fin 1024, x (ix3 0 i k) * w (ix2 k ⟨h.val * 128 + d.val, by omega⟩) := by
  pointwise [quV]
theorem sc_apply (q k : FVec Ideal S1x8192x8x128 .f32) (h : Fin 8) (i j : Fin 8192) :
    scV q k (ix4 0 h i j) = (∑ e : Fin 128, q (ix4 0 i h e) * k (ix4 0 j h e)) * Ideal.ofBits .f32 0x3DB504F3#32 := by
  pointwise [scV]
theorem masked_apply (M : IVec S8192x8192 1) (s : SQ) (h : Fin 8) (i j : Fin 8192) :
    maskedV M s (ix4 0 h i j) = Scalar.select (M (ix2 i j)) (s (ix4 0 h i j)) (Ideal.ofBits .f32 0xFF800000#32) := by
  pointwise [maskedV]
  rfl
theorem max_apply (a : SQ) (h : Fin 8) (i j : Fin 8192) :
    maxV a (ix4 0 h i j) = Finset.fold max (Ideal.ofBits .f32 0xFF800000#32) (fun x : Fin 8192 => a (ix4 0 h i x)) Finset.univ := by
  pointwise [maxV]
theorem exp_apply (a b : SQ) (h : Fin 8) (i j : Fin 8192) : expV a b (ix4 0 h i j) = Ideal.exp (a (ix4 0 h i j) - b (ix4 0 h i j)) := by
  pointwise [expV]
theorem sum_apply (K : IVec S1x1x8192x1 1) (e : SQ) (h : Fin 8) (i : Fin 8192) :
    sumV K e (ix4 0 h i 0) = Scalar.select (K (ix4 0 0 i 0)) (∑ y : Fin 8192, e (ix4 0 h i y)) ((id (constant S_ .f32 0x3F800000#32) : FVec Ideal S_ .f32) ix0) := by
  pointwise [sumV]
theorem w_apply (K : IVec S1x1x8192x1 1) (e : SQ) (u : FVec Ideal S1x8x8192x1 .f32) (h : Fin 8) (i j : Fin 8192) :
    wV K e u (ix4 0 h i j) = Scalar.select (K (ix4 0 0 i 0)) (Ideal.div (e (ix4 0 h i j)) (u (ix4 0 h i 0))) ((id (constant S_ .f32 0x00000000#32) : FVec Ideal S_ .f32) ix0) := by
  pointwise [wV]
theorem ctx_apply (v : FVec Ideal S1x8192x8x128 .f32) (w : SQ) (i : Fin 8192) (h : Fin 8) (d : Fin 128) :
    ctxV v w (ix4 0 i h d) = ∑ j : Fin 8192, v (ix4 0 j h d) * w (ix4 0 h i j) := by
  pointwise [ctxV]
theorem out_apply (c : FVec Ideal S1x8192x8x128 .f32) (w : FVec Ideal S1024x1024 .f32) (i : Fin 8192) (e : Fin 1024) :
    outV c w (ix3 0 i e) = ∑ x : Fin 1024, c (ix4 0 i ⟨x.val / 128, by omega⟩ ⟨x.val % 128, by omega⟩) * w (ix2 x e) := by
  pointwise [outV]

end Cert.ReferenceIdeal.Rows
-- ==== Proof.RefRow.lean ====
/-
The reference's result, read at one element: the weighted sums against the output projection.
-/
module

public import proofs.«01_k».proof.Proof.RefStages

@[expose] public section

set_option maxRecDepth 16384

noncomputable section

namespace Cert.ReferenceIdeal.Rows

open Cert.ReferenceIdeal Cert.ReferenceIdeal.Gen
open Idealize.ShloMosaic Idealize.ShloMosaic.TcCoe

section
variable (m : (ℓ : Loc nD τ sig) → Buf (Elt Ideal) ℓ) (c : Dev nD)
def RX (i : Fin 8192) (k : Fin 1024) : EReal := (m ((c : Thread nD τ).loc main_arg0) : S1x8192x1024.Idx → EReal) (ix3 0 i k)
def RW (k e : Fin 1024) : EReal := (m ((c : Thread nD τ).loc main_arg1) : S1024x1024.Idx → EReal) (ix2 k e)
def RK (j : Fin 8192) (h : Fin 8) (d : Fin 128) : EReal := (m ((c : Thread nD τ).loc main_arg2) : S1x8192x8x128.Idx → EReal) (ix4 0 j h d)
def RV (j : Fin 8192) (h : Fin 8) (d : Fin 128) : EReal := (m ((c : Thread nD τ).loc main_arg3) : S1x8192x8x128.Idx → EReal) (ix4 0 j h d)
def RO (k e : Fin 1024) : EReal := (m ((c : Thread nD τ).loc main_arg4) : S1024x1024.Idx → EReal) (ix2 k e)

theorem ref_apply (hX : ∀ i k, ∃ r : ℝ, RX m c i k = r) (hW : ∀ k e, ∃ r : ℝ, RW m c k e = r) (hK : ∀ j h e, ∃ r : ℝ, RK m c j h e = r) (i : Fin 8192) (e : Fin 1024) :
    ((Value.res_main_v42 m c : S1x8192x1024.Idx → EReal) (ix3 (0:Fin 1) i e) : EReal)
      = ∑ x : Fin 1024, Cert.Rows.row (RX m c) (RW m c) (RK m c) (RV m c) i ⟨x.val / 128, by omega⟩ ⟨x.val % 128, by omega⟩ * RO m c x e := by
  rw [result_eq]
  refine (out_apply _ _ i e).trans ?_
  refine Finset.sum_congr (M := EReal) rfl fun x _ => ?_
  refine congrArg₂ (α := EReal) (β := EReal) (· * ·) ?_ rfl
  obtain ⟨s, hs⟩ := Cert.Rows.score_real (RX m c) (RW m c) (RK m c) i ⟨x.val / 128, by omega⟩ hX hW hK
  refine (ctx_apply _ _ _ _ _).trans ?_
  simp only [w_apply, keep_apply, sum_apply, exp_apply, max_apply, masked_apply]
  refine ref_ctx i s _ _ hs (fun j => mskV (ix2 i j)) (fun j => scV (quV _ _) _ (ix4 0 _ i j)) _ _ _ _ _ (fun j => msk_apply i j) (fun j => ?_) (fun j => rfl) bot_word bot_word
  rw [sc_apply]
  unfold Cert.Rows.score
  refine congrArg (· * _) (Finset.sum_congr rfl fun y _ => ?_)
  rw [qu_apply]
  unfold Cert.Rows.query
  have : (⟨x.val / 128 * 128 + y.val, by omega⟩ : Fin 1024) = ⟨128 * (x.val / 128) + y.val, by omega⟩ := Fin.ext (by show x.val / 128 * 128 + y.val = 128 * (x.val / 128) + y.val; omega)
  show (∑ k : Fin 1024, RX m c i k * RW m c k ⟨x.val / 128 * 128 + y.val, _⟩) * _ = _
  rw [this]
  rfl
end

end Cert.ReferenceIdeal.Rows
-- ==== Proof.Agree.lean ====
/-
Two memories that agree device by device: the whole arrays they hold are the same.
-/
module

public import proofs.«01_k».proof.Proof.LoopRow
public import proofs.«01_k».proof.Proof.RefRow
public import proofs.«01_k».proof.Proof.Keys

@[expose] public section

set_option maxRecDepth 16384

noncomputable section

namespace Cert.Proof

open Idealize.ShloMosaic Idealize.ShloMosaic.TcCoe
open Cert.KernelIdeal (nD τ sig)

open Cert.KernelIdeal Cert.KernelIdeal.Mesh

/-- Where an element of device `c`'s block of rows is in the whole array. -/
theorem idx_rows (h : Layout.Tiles S1x2048x1024 Cert.ReferenceIdeal.S1x8192x1024 1 4) (c : Fin 4) (r : Fin 2048) (k : Fin 1024) (i : Fin 8192) (hi : i.val = 2048 * c.val + r.val) :
    h.idx c (ix3 0 r k) = (ix3 0 i k : Cert.ReferenceIdeal.S1x8192x1024.Idx) := by
  funext b
  apply Fin.ext
  fin_cases b
  · rfl
  · show c.val * 2048 + r.val = i.val
    omega
  · rfl

theorem idx_heads (h : Layout.Tiles S1x2048x8x128 Cert.ReferenceIdeal.S1x8192x8x128 1 4) (c : Fin 4) (r : Fin 2048) (k : Fin 8) (d : Fin 128) (i : Fin 8192) (hi : i.val = 2048 * c.val + r.val) :
    h.idx c (ix4 0 r k d) = (ix4 0 i k d : Cert.ReferenceIdeal.S1x8192x8x128.Idx) := by
  funext b
  apply Fin.ext
  fin_cases b
  · rfl
  · show c.val * 2048 + r.val = i.val
    omega
  · rfl
  · rfl

variable (m : (ℓ : Loc nD τ sig) → Buf (Elt Ideal) ℓ) (m' : (ℓ : Loc Cert.ReferenceIdeal.nD Cert.ReferenceIdeal.τ Cert.ReferenceIdeal.sig) → Buf (Elt Ideal) ℓ)

/-- Each device holds its part of the reference's arguments. -/
def Agree : Prop := ∀ c : Dev nD,
  m ((c : Thread nD τ).loc main_arg0) = Layout.block ⟨3, ![1, 2048, 1024]⟩ ⟨3, ![1, 8192, 1024]⟩ 1 4 c (m' (((0 : Dev Cert.ReferenceIdeal.nD) : Thread Cert.ReferenceIdeal.nD Cert.ReferenceIdeal.τ).loc Cert.ReferenceIdeal.main_arg0))
  ∧ m ((c : Thread nD τ).loc main_arg1) = m' (((0 : Dev Cert.ReferenceIdeal.nD) : Thread Cert.ReferenceIdeal.nD Cert.ReferenceIdeal.τ).loc Cert.ReferenceIdeal.main_arg1)
  ∧ m ((c : Thread nD τ).loc main_arg2) = Layout.block ⟨4, ![1, 2048, 8, 128]⟩ ⟨4, ![1, 8192, 8, 128]⟩ 1 4 c (m' (((0 : Dev Cert.ReferenceIdeal.nD) : Thread Cert.ReferenceIdeal.nD Cert.ReferenceIdeal.τ).loc Cert.ReferenceIdeal.main_arg2))
  ∧ m ((c : Thread nD τ).loc main_arg3) = Layout.block ⟨4, ![1, 2048, 8, 128]⟩ ⟨4, ![1, 8192, 8, 128]⟩ 1 4 c (m' (((0 : Dev Cert.ReferenceIdeal.nD) : Thread Cert.ReferenceIdeal.nD Cert.ReferenceIdeal.τ).loc Cert.ReferenceIdeal.main_arg3))
  ∧ m ((c : Thread nD τ).loc main_arg4) = m' (((0 : Dev Cert.ReferenceIdeal.nD) : Thread Cert.ReferenceIdeal.nD Cert.ReferenceIdeal.τ).loc Cert.ReferenceIdeal.main_arg4)

variable {m m'} (hb : Agree m m')
include hb

theorem agree_w : SameW m := fun c x => congrFun ((hb c).2.1.trans (hb 0).2.1.symm) x
theorem agree_o : SameO m := fun c x => congrFun ((hb c).2.2.2.2.trans (hb 0).2.2.2.2.symm) x

theorem gx_eq : gx m = Cert.ReferenceIdeal.Rows.RX m' 0 := by
  funext i k
  refine (congrFun (hb _).1 _).trans ?_
  refine (Layout.block_apply _ _ _ _).trans ?_
  exact congrArg (fun z : Cert.ReferenceIdeal.S1x8192x1024.Idx => (m' (((0 : Dev Cert.ReferenceIdeal.nD) : Thread Cert.ReferenceIdeal.nD Cert.ReferenceIdeal.τ).loc Cert.ReferenceIdeal.main_arg0) z : EReal)) (idx_rows _ _ _ _ i (by show i.val = 2048 * (i.val / 2048) + i.val % 2048; omega))

theorem gk_eq : gk m = Cert.ReferenceIdeal.Rows.RK m' 0 := by
  funext i h d
  refine (congrFun (hb _).2.2.1 _).trans ?_
  refine (Layout.block_apply _ _ _ _).trans ?_
  exact congrArg (fun z : Cert.ReferenceIdeal.S1x8192x8x128.Idx => (m' (((0 : Dev Cert.ReferenceIdeal.nD) : Thread Cert.ReferenceIdeal.nD Cert.ReferenceIdeal.τ).loc Cert.ReferenceIdeal.main_arg2) z : EReal)) (idx_heads _ _ _ _ _ i (by show i.val = 2048 * (i.val / 2048) + i.val % 2048; omega))

theorem gv_eq : gv m = Cert.ReferenceIdeal.Rows.RV m' 0 := by
  funext i h d
  refine (congrFun (hb _).2.2.2.1 _).trans ?_
  refine (Layout.block_apply _ _ _ _).trans ?_
  exact congrArg (fun z : Cert.ReferenceIdeal.S1x8192x8x128.Idx => (m' (((0 : Dev Cert.ReferenceIdeal.nD) : Thread Cert.ReferenceIdeal.nD Cert.ReferenceIdeal.τ).loc Cert.ReferenceIdeal.main_arg3) z : EReal)) (idx_heads _ _ _ _ _ i (by show i.val = 2048 * (i.val / 2048) + i.val % 2048; omega))

theorem gw_eq : gw m = Cert.ReferenceIdeal.Rows.RW m' 0 := by
  funext k e
  exact congrFun (hb 0).2.1 _

theorem go_eq : go m = Cert.ReferenceIdeal.Rows.RO m' 0 := by
  funext k e
  exact congrFun (hb 0).2.2.2.2 _

end Cert.Proof
-- ==== Proof.Finite.lean ====
/-
What the precondition says of an argument: its elements are real.
-/
module

public import proofs.«01_k».proof.Defs
public import Idealize.ShloMosaic.Lib.Pointwise

@[expose] public section

set_option maxRecDepth 16384

noncomputable section

namespace Cert.Proof

open Idealize.ShloMosaic Idealize.ShloMosaic.TcCoe

theorem inf_bits : Ideal.ofBits .f32 0x7F800000#32 = (⊤ : EReal) := by
  simp [Ideal.ofBits, Ideal.ieee]

theorem real_of_lt (x : EReal) (h : Ideal.cmp .olt (max x (-x)) (Ideal.ofBits .f32 0x7F800000#32) = 1#1) : ∃ r : ℝ, x = r := by
  have h' : max x (-x) < (⊤ : EReal) := by
    have h2 : BitVec.ofBool (decide (max x (-x) < Ideal.ofBits .f32 0x7F800000#32)) = 1#1 := h
    rw [inf_bits] at h2
    by_contra hn
    rw [decide_eq_false hn] at h2
    exact absurd h2 (by decide)
  have h1 : x < ⊤ := lt_of_le_of_lt (le_max_left _ _) h'
  have h3 : -x < ⊤ := lt_of_le_of_lt (le_max_right _ _) h'
  refine ⟨x.toReal, (EReal.coe_toReal h1.ne ?_).symm⟩
  rintro rfl
  exact absurd h3 (by simp)

variable [Cert.KernelIdeal.Facts] [Cert.Pre_finite_KernelIdeal.Facts]

open Cert.KernelIdeal in
theorem pre_real (m : (ℓ : Loc nD τ sig) → Buf (Elt Ideal) ℓ) (h : Cert.Pre_KernelIdeal_finite_KernelIdeal m) (c : Dev nD) :
    (∀ y : S1x2048x1024.Idx, ∃ r : ℝ, (m ((c : Thread nD τ).loc main_arg0) : S1x2048x1024.Idx → EReal) y = (r : EReal)) ∧ (∀ y : S1024x1024.Idx, ∃ r : ℝ, (m ((c : Thread nD τ).loc main_arg1) : S1024x1024.Idx → EReal) y = (r : EReal)) ∧ (∀ y : S1x2048x8x128.Idx, ∃ r : ℝ, (m ((c : Thread nD τ).loc main_arg2) : S1x2048x8x128.Idx → EReal) y = (r : EReal)) := by
  obtain ⟨h0, h1, h2⟩ := h c
  exact ⟨fun y => real_of_lt _ (congrFun h0 y), fun y => real_of_lt _ (congrFun h1 y), fun y => real_of_lt _ (congrFun h2 y)⟩

end Cert.Proof
-- ==== Proof.Algebraic.lean ====
/-
The values: each device's result is its block of the reference's.
-/
module

public import proofs.«01_k».proof.Proof.Frames
public import proofs.«01_k».proof.Proof.Value
public import proofs.«01_k».proof.Proof.Agree
public import proofs.«01_k».proof.Proof.Finite

@[expose] public section

set_option maxRecDepth 16384

noncomputable section

namespace Cert.Proof

open Idealize.ShloMosaic Idealize.ShloMosaic.TcCoe Idealize.SL.Sem

open Cert.KernelIdeal (nD τ sig)
open Cert.KernelIdeal.Mesh Cert.ReferenceIdeal.Rows

variable [Cert.Pre_finite_KernelIdeal.Facts]

theorem parts_ok (m : (ℓ : Loc nD τ sig) → Buf (Elt Ideal) ℓ) : PSok m (PSv m) := fun _ f6 f7 f9 f10 h6 h7 h9 => ⟨f6, f7, f9, f10, h6, h7, h9, rfl⟩

theorem result_block (m : (ℓ : Loc nD τ sig) → Buf (Elt Ideal) ℓ) (m' : (ℓ : Loc Cert.ReferenceIdeal.nD Cert.ReferenceIdeal.τ Cert.ReferenceIdeal.sig) → Buf (Elt Ideal) ℓ)
    (hp : Cert.Pre_KernelIdeal_finite_KernelIdeal m) (hb : Agree m m') (c : Dev nD) (f : (Cert.KernelIdeal.cc0_stg3_0 : Ref sig .tc).ty.Contents (Elt Ideal)) (hf : OUT m (PSv m) c f) :
    f = Layout.block ⟨3, ![1, 2048, 1024]⟩ ⟨3, ![1, 8192, 1024]⟩ 1 4 c (Cert.ReferenceIdeal.Value.res_main_v42 m' 0) := by
  have hX : ∀ i k, ∃ r : ℝ, gx m i k = r := fun i k => (pre_real m hp _).1 _
  have hW : ∀ k e, ∃ r : ℝ, gw m k e = r := fun k e => (pre_real m hp _).2.1 _
  have hK : ∀ j h d, ∃ r : ℝ, gk m j h d = r := fun j h d => (pre_real m hp _).2.2 _
  have hs := fun i h => Cert.Rows.score_real (gx m) (gw m) (gk m) i h hX hW hK
  funext y
  obtain ⟨z, r, e, rfl⟩ : ∃ (z : Fin 1) (r : Fin 2048) (e : Fin 1024), y = ix3 z r e := ⟨y 0, y 1, y 2, by funext b; fin_cases b <;> rfl⟩
  obtain rfl : z = 0 := Subsingleton.elim _ _
  have hi : 2048 * c.val + r.val < 8192 := by
    have h4 : c.val < 4 := c.isLt
    omega
  refine (out_value m (agree_w hb) (agree_o hb) hs c f hf r e ⟨2048 * c.val + r.val, hi⟩ rfl).trans ?_
  refine Eq.symm ((Layout.block_apply _ _ _ _).trans ?_)
  refine (congrArg (fun z : Cert.ReferenceIdeal.S1x8192x1024.Idx => (Cert.ReferenceIdeal.Value.res_main_v42 m' 0 z : EReal)) (idx_rows _ c r e ⟨2048 * c.val + r.val, hi⟩ rfl)).trans ?_
  rw [gx_eq hb] at hX ⊢
  rw [gw_eq hb] at hW ⊢
  rw [gk_eq hb] at hK ⊢
  rw [gv_eq hb, go_eq hb]
  exact ref_apply m' 0 hX hW hK _ e

theorem algebraic : Cert.algebraic_KernelIdeal_ReferenceIdeal_pre_finite_KernelIdeal := fun m g m' g' hp hb =>
  ⟨Cert.ReferenceIdeal.Value.res_main_v42 m' 0,
    (θ_run Cert.KernelIdeal.defs _ _).mono (fun r h c => ⟨result_block m m' hp hb c _ (h.1 c).2.2.2.2.2, (h.1 c).1, (h.1 c).2.1, (h.1 c).2.2.1, (h.1 c).2.2.2.1, (h.1 c).2.2.2.2.1⟩)
      (run_main (F := Ideal) m g (PSv m) (parts_ok m)),
    (θ_run Cert.ReferenceIdeal.defs _ _).mono (fun r h => h 0) (Cert.ReferenceIdeal.Value.run (F := Ideal) m' g')⟩

end Cert.Proof
-- ==== Proof.lean ====
/-
The claim: the frames of the kernel and of both idealized programs, the one named constant, and the values — each device's
result is its block of the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem facts_kernel : Cert.Pre_finite_KernelIdeal.Facts := ⟨by decide, by decide, by decide⟩
theorem facts_reference : Cert.Pre_finite_ReferenceIdeal.Facts := ⟨by decide, by decide, by decide⟩

theorem claim : Cert.Claim := ⟨Cert.Kernel.Gen.facts, Cert.KernelIdeal.Gen.facts, Cert.ReferenceIdeal.Gen.facts, facts_kernel, facts_reference,
  frame_Kernel, frame_KernelIdeal, fun m g _ => frame_KernelIdeal m g trivial, frame_ReferenceIdeal, fun m g _ => frame_ReferenceIdeal m g trivial, preserves, @algebraic facts_kernel⟩

end Cert.Proof

end
